-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_rotation_KernelIdeal [hPre_finite_and_rotation_KernelIdeal : Cert.Pre_finite_and_rotation_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_rotation_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_rotation_ReferenceIdeal [hPre_finite_and_rotation_ReferenceIdeal : Cert.Pre_finite_and_rotation_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_rotation_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_and_rotation_KernelIdeal [hKernelIdeal : Cert.KernelIdeal.Facts] [hPre_finite_and_rotation_KernelIdeal : Cert.Pre_finite_and_rotation_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_rotation_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_and_rotation_ReferenceIdeal [hReferenceIdeal : Cert.ReferenceIdeal.Facts] [hPre_finite_and_rotation_ReferenceIdeal : Cert.Pre_finite_and_rotation_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_rotation_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_and_rotation_KernelIdeal [hKernelIdeal : Cert.KernelIdeal.Facts] [hReferenceIdeal : Cert.ReferenceIdeal.Facts] [hPre_finite_and_rotation_KernelIdeal : Cert.Pre_finite_and_rotation_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_rotation_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v63) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_and_rotation_KernelIdeal : Cert.Pre_finite_and_rotation_KernelIdeal.Facts) (hPre_finite_and_rotation_ReferenceIdeal : Cert.Pre_finite_and_rotation_ReferenceIdeal.Facts),
    quiescent_Kernel (hKernel := hKernel)
    ∧ quiescent_KernelIdeal (hKernelIdeal := hKernelIdeal)
    ∧ quiescent_KernelIdeal_pre_finite_and_rotation_KernelIdeal (hKernelIdeal := hKernelIdeal) (hPre_finite_and_rotation_KernelIdeal := hPre_finite_and_rotation_KernelIdeal)
    ∧ quiescent_ReferenceIdeal (hReferenceIdeal := hReferenceIdeal)
    ∧ quiescent_ReferenceIdeal_pre_finite_and_rotation_ReferenceIdeal (hReferenceIdeal := hReferenceIdeal) (hPre_finite_and_rotation_ReferenceIdeal := hPre_finite_and_rotation_ReferenceIdeal)
    ∧ preserves_Kernel_KernelIdeal
    ∧ algebraic_KernelIdeal_ReferenceIdeal_pre_finite_and_rotation_KernelIdeal (hKernelIdeal := hKernelIdeal) (hReferenceIdeal := hReferenceIdeal) (hPre_finite_and_rotation_KernelIdeal := hPre_finite_and_rotation_KernelIdeal)
-- ==== Pre_finite_and_rotation_KernelIdeal.lean ====
abbrev S2048x1024 : Shape := ⟨2, ![2048, 1024]⟩
abbrev S1024x1024 : Shape := ⟨2, ![1024, 1024]⟩
abbrev S2048x128 : Shape := ⟨2, ![2048, 128]⟩
abbrev S128x128 : Shape := ⟨2, ![128, 128]⟩
abbrev S_ : Shape := ⟨0, ![]⟩

class Facts : Prop where
  bcast_S_S128x128 : S_.BroadcastsInDim S128x128 (![] : Fin 0 → Fin S128x128.rank)
  bitsLt_bf16_f32 : FTy.bits .bf16 < FTy.bits .f32
  reducesTo_S128x128_S_d0_1 : S128x128.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S2048x128 : S_.BroadcastsInDim S2048x128 (![] : Fin 0 → Fin S2048x128.rank)
  reducesTo_S2048x128_S_d0_1 : S2048x128.ReducesTo [0, 1] S_

variable [Facts]

def fn_where {F : FTy → Type} [FloatOps F] (arg0 : IVec S128x128 1) (arg1 : FVec F S_ .f32) (arg2 : FVec F S_ .f32) : FVec F S128x128 .f32 :=
  let v0 : FVec F S128x128 .f32 := broadcastInDim S128x128 ![] bcast_S_S128x128 arg1
  let v1 : FVec F S128x128 .f32 := broadcastInDim S128x128 ![] bcast_S_S128x128 arg2
  let v2 : FVec F S128x128 .f32 := select arg0 v0 v1
  v2

def fn_where_0 {F : FTy → Type} [FloatOps F] (arg0 : IVec S128x128 1) (arg1 : FVec F S_ .f32) (arg2 : FVec F S128x128 .f32) : FVec F S128x128 .f32 :=
  let v0 : FVec F S128x128 .f32 := broadcastInDim S128x128 ![] bcast_S_S128x128 arg1
  let v1 : FVec F S128x128 .f32 := select arg0 v0 arg2
  v1

def fn_part2 {F : FTy → Type} [FloatOps F] (main_arg5 : FVec F S2048x128 .bf16) (main_arg6 : FVec F S2048x128 .bf16) (main_v32 : IVec S_ 1) (main_v33 : FVec F S1024x1024 .bf16) : IVec S_ 1 :=
  let main_cst_12 : FVec F S_ .bf16 := constant S_ .bf16 0x7F80#16
  let main_v34 : FVec F S1024x1024 .bf16 := broadcastInDim S1024x1024 ![] bcast_S_S1024x1024 main_cst_12
  let main_v35 : IVec S1024x1024 1 := cmpf .olt main_v33 main_v34
  let main_c_13 : IVec S_ 1 := constantI S_ 1 1#1
  let main_v36 : IVec S_ 1 := (fun x v => Host.reduce IntOp.andi x v reducesTo_S1024x1024_S_d0_1 h_S_) main_v35 main_c_13
  let main_v37 : IVec S_ 1 := andi main_v32 main_v36
  let main_v38 : FVec F S2048x128 .bf16 := Host.absf main_arg5
  let main_cst_14 : FVec F S_ .bf16 := constant S_ .bf16 0x7F80#16
  let main_v39 : FVec F S2048x128 .bf16 := broadcastInDim S2048x128 ![] bcast_S_S2048x128 main_cst_14
  let main_v40 : IVec S2048x128 1 := cmpf .olt main_v38 main_v39
  let main_c_15 : IVec S_ 1 := constantI S_ 1 1#1
  let main_v41 : IVec S_ 1 := (fun x v => Host.reduce IntOp.andi x v reducesTo_S2048x128_S_d0_1 h_S_) main_v40 main_c_15
  let main_v42 : IVec S_ 1 := andi main_v37 main_v41
  let main_v43 : FVec F S2048x128 .bf16 := Host.absf main_arg6
  let main_cst_16 : FVec F S_ .bf16 := constant S_ .bf16 0x7F80#16
  let main_v44 : FVec F S2048x128 .bf16 := broadcastInDim S2048x128 ![] bcast_S_S2048x128 main_cst_16
  let main_v45 : IVec S2048x128 1 := cmpf .olt main_v43 main_v44
  let main_c_17 : IVec S_ 1 := constantI S_ 1 1#1
  let main_v46 : IVec S_ 1 := (fun x v => Host.reduce IntOp.andi x v reducesTo_S2048x128_S_d0_1 h_S_) main_v45 main_c_17
  let main_v47 : IVec S_ 1 := andi main_v42 main_v46
  main_v47

def fn_part1 {F : FTy → Type} [FloatOps F] (main_arg0 : FVec F S2048x1024 .bf16) (main_arg1 : FVec F S1024x1024 .bf16) (main_arg2 : FVec F S1024x1024 .bf16) (main_arg5 : FVec F S2048x128 .bf16) (main_arg6 : FVec F S2048x128 .bf16) (main_arg7 : FVec F S128x128 .bf16) (main_v10 : FVec F S128x128 .f32) (main_v13 : IVec S128x128 1) (main_v15 : IVec S128x128 32) (main_c_5 : IVec S_ 32) : IVec S_ 1 :=
  let main_v16 : IVec S128x128 32 := broadcastInDim S128x128 ![] bcast_S_S128x128 main_c_5
  let main_v17 : IVec S128x128 1 := cmpi .eq main_v15 main_v16
  let main_v18 : IVec S128x128 1 := andi main_v13 main_v17
  let main_cst_6 : FVec F S_ .f32 := constant S_ .f32 0xBF800000#32
  let main_v19 : FVec F S128x128 .f32 := fn_where_0 (F := F) main_v18 main_cst_6 main_v10
  let main_v20 : FVec F S128x128 .bf16 := (truncf .bf16 · bitsLt_bf16_f32) main_v19
  let main_v21 : IVec S128x128 1 := cmpf .oeq main_arg7 main_v20
  let main_c_7 : IVec S_ 1 := constantI S_ 1 1#1
  let main_v22 : IVec S_ 1 := (fun x v => Host.reduce IntOp.andi x v reducesTo_S128x128_S_d0_1 h_S_) main_v21 main_c_7
  let main_v23 : FVec F S2048x1024 .bf16 := Host.absf main_arg0
  let main_cst_8 : FVec F S_ .bf16 := constant S_ .bf16 0x7F80#16
  let main_v24 : FVec F S2048x1024 .bf16 := broadcastInDim S2048x1024 ![] bcast_S_S2048x1024 main_cst_8
  let main_v25 : IVec S2048x1024 1 := cmpf .olt main_v23 main_v24
  let main_c_9 : IVec S_ 1 := constantI S_ 1 1#1
  let main_v26 : IVec S_ 1 := (fun x v => Host.reduce IntOp.andi x v reducesTo_S2048x1024_S_d0_1 h_S_) main_v25 main_c_9
  let main_v27 : IVec S_ 1 := andi main_v22 main_v26
  let main_v28 : FVec F S1024x1024 .bf16 := Host.absf main_arg1
  let main_cst_10 : FVec F S_ .bf16 := constant S_ .bf16 0x7F80#16
  let main_v29 : FVec F S1024x1024 .bf16 := broadcastInDim S1024x1024 ![] bcast_S_S1024x1024 main_cst_10
  let main_v30 : IVec S1024x1024 1 := cmpf .olt main_v28 main_v29
  let main_c_11 : IVec S_ 1 := constantI S_ 1 1#1
  let main_v31 : IVec S_ 1 := (fun x v => Host.reduce IntOp.andi x v reducesTo_S1024x1024_S_d0_1 h_S_) main_v30 main_c_11
  let main_v32 : IVec S_ 1 := andi main_v27 main_v31
  let main_v33 : FVec F S1024x1024 .bf16 := Host.absf main_arg2
  fn_part2 (F := F) main_arg5 main_arg6 main_v32 main_v33

def fn {F : FTy → Type} [FloatOps F] (main_arg0 : FVec F S2048x1024 .bf16) (main_arg1 : FVec F S1024x1024 .bf16) (main_arg2 : FVec F S1024x1024 .bf16) (main_arg3 : FVec F S1024x1024 .bf16) (main_arg4 : FVec F S1024x1024 .bf16) (main_arg5 : FVec F S2048x128 .bf16) (main_arg6 : FVec F S2048x128 .bf16) (main_arg7 : FVec F S128x128 .bf16) : IVec S_ 1 :=
  let main_v0 : IVec S128x128 32 := iotaInDim S128x128 32 0
  let main_v1 : IVec S128x128 32 := iotaInDim S128x128 32 1
  let main_c : IVec S_ 32 := constantI S_ 32 1#32
  let main_v2 : IVec S128x128 32 := broadcastInDim S128x128 ![] bcast_S_S128x128 main_c
  let main_v3 : IVec S128x128 32 := addi main_v0 main_v2
  let main_v4 : IVec S128x128 1 := cmpi .eq main_v1 main_v3
  let main_c_0 : IVec S_ 32 := constantI S_ 32 2#32
  let main_v5 : IVec S128x128 32 := broadcastInDim S128x128 ![] bcast_S_S128x128 main_c_0
  let main_v6 : IVec S128x128 32 := Host.remsi main_v1 main_v5
  let main_c_1 : IVec S_ 32 := constantI S_ 32 1#32
  let main_v7 : IVec S128x128 32 := broadcastInDim S128x128 ![] bcast_S_S128x128 main_c_1
  let main_v8 : IVec S128x128 1 := cmpi .eq main_v6 main_v7
  let main_v9 : IVec S128x128 1 := andi main_v4 main_v8
  let main_cst : FVec F S_ .f32 := constant S_ .f32 0x3F800000#32
  let main_cst_2 : FVec F S_ .f32 := constant S_ .f32 0x00000000#32
  let main_v10 : FVec F S128x128 .f32 := fn_where (F := F) main_v9 main_cst main_cst_2
  let main_c_3 : IVec S_ 32 := constantI S_ 32 1#32
  let main_v11 : IVec S128x128 32 := broadcastInDim S128x128 ![] bcast_S_S128x128 main_c_3
  let main_v12 : IVec S128x128 32 := addi main_v1 main_v11
  let main_v13 : IVec S128x128 1 := cmpi .eq main_v0 main_v12
  let main_c_4 : IVec S_ 32 := constantI S_ 32 2#32
  let main_v14 : IVec S128x128 32 := broadcastInDim S128x128 ![] bcast_S_S128x128 main_c_4
  let main_v15 : IVec S128x128 32 := Host.remsi main_v0 main_v14
  let main_c_5 : IVec S_ 32 := constantI S_ 32 1#32
  fn_part1 (F := F) main_arg0 main_arg1 main_arg2 main_arg5 main_arg6 main_arg7 main_v10 main_v13 main_v15 main_c_5
-- ==== Pre_finite_and_rotation_ReferenceIdeal.lean ====
abbrev S2048x1024 : Shape := ⟨2, ![2048, 1024]⟩
abbrev S1024x8192 : Shape := ⟨2, ![1024, 8192]⟩
abbrev S8192x1024 : Shape := ⟨2, ![8192, 1024]⟩
abbrev S2048x128 : Shape := ⟨2, ![2048, 128]⟩
abbrev S128x128 : Shape := ⟨2, ![128, 128]⟩
abbrev S_ : Shape := ⟨0, ![]⟩

class Facts : Prop where
  bcast_S_S128x128 : S_.BroadcastsInDim S128x128 (![] : Fin 0 → Fin S128x128.rank)
  bitsLt_bf16_f32 : FTy.bits .bf16 < FTy.bits .f32
  reducesTo_S128x128_S_d0_1 : S128x128.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024x8192 : S_.BroadcastsInDim S1024x8192 (![] : Fin 0 → Fin S1024x8192.rank)
  reducesTo_S1024x8192_S_d0_1 : S1024x8192.ReducesTo [0, 1] S_
  bcast_S_S2048x128 : S_.BroadcastsInDim S2048x128 (![] : Fin 0 → Fin S2048x128.rank)
  reducesTo_S2048x128_S_d0_1 : S2048x128.ReducesTo [0, 1] S_

variable [Facts]

def fn_where {F : FTy → Type} [FloatOps F] (arg0 : IVec S128x128 1) (arg1 : FVec F S_ .f32) (arg2 : FVec F S_ .f32) : FVec F S128x128 .f32 :=
  let v0 : FVec F S128x128 .f32 := broadcastInDim S128x128 ![] bcast_S_S128x128 arg1
  let v1 : FVec F S128x128 .f32 := broadcastInDim S128x128 ![] bcast_S_S128x128 arg2
  let v2 : FVec F S128x128 .f32 := select arg0 v0 v1
  v2

def fn_where_0 {F : FTy → Type} [FloatOps F] (arg0 : IVec S128x128 1) (arg1 : FVec F S_ .f32) (arg2 : FVec F S128x128 .f32) : FVec F S128x128 .f32 :=
  let v0 : FVec F S128x128 .f32 := broadcastInDim S128x128 ![] bcast_S_S128x128 arg1
  let v1 : FVec F S128x128 .f32 := select arg0 v0 arg2
  v1

def fn_part2 {F : FTy → Type} [FloatOps F] (main_arg5 : FVec F S2048x128 .bf16) (main_arg6 : FVec F S2048x128 .bf16) (main_v32 : IVec S_ 1) (main_v33 : FVec F S1024x8192 .bf16) : IVec S_ 1 :=
  let main_cst_12 : FVec F S_ .bf16 := constant S_ .bf16 0x7F80#16
  let main_v34 : FVec F S1024x8192 .bf16 := broadcastInDim S1024x8192 ![] bcast_S_S1024x8192 main_cst_12
  let main_v35 : IVec S1024x8192 1 := cmpf .olt main_v33 main_v34
  let main_c_13 : IVec S_ 1 := constantI S_ 1 1#1
  let main_v36 : IVec S_ 1 := (fun x v => Host.reduce IntOp.andi x v reducesTo_S1024x8192_S_d0_1 h_S_) main_v35 main_c_13
  let main_v37 : IVec S_ 1 := andi main_v32 main_v36
  let main_v38 : FVec F S2048x128 .bf16 := Host.absf main_arg5
  let main_cst_14 : FVec F S_ .bf16 := constant S_ .bf16 0x7F80#16
  let main_v39 : FVec F S2048x128 .bf16 := broadcastInDim S2048x128 ![] bcast_S_S2048x128 main_cst_14
  let main_v40 : IVec S2048x128 1 := cmpf .olt main_v38 main_v39
  let main_c_15 : IVec S_ 1 := constantI S_ 1 1#1
  let main_v41 : IVec S_ 1 := (fun x v => Host.reduce IntOp.andi x v reducesTo_S2048x128_S_d0_1 h_S_) main_v40 main_c_15
  let main_v42 : IVec S_ 1 := andi main_v37 main_v41
  let main_v43 : FVec F S2048x128 .bf16 := Host.absf main_arg6
  let main_cst_16 : FVec F S_ .bf16 := constant S_ .bf16 0x7F80#16
  let main_v44 : FVec F S2048x128 .bf16 := broadcastInDim S2048x128 ![] bcast_S_S2048x128 main_cst_16
  let main_v45 : IVec S2048x128 1 := cmpf .olt main_v43 main_v44
  let main_c_17 : IVec S_ 1 := constantI S_ 1 1#1
  let main_v46 : IVec S_ 1 := (fun x v => Host.reduce IntOp.andi x v reducesTo_S2048x128_S_d0_1 h_S_) main_v45 main_c_17
  let main_v47 : IVec S_ 1 := andi main_v42 main_v46
  main_v47

def fn_part1 {F : FTy → Type} [FloatOps F] (main_arg0 : FVec F S2048x1024 .bf16) (main_arg1 : FVec F S1024x8192 .bf16) (main_arg2 : FVec F S1024x8192 .bf16) (main_arg5 : FVec F S2048x128 .bf16) (main_arg6 : FVec F S2048x128 .bf16) (main_arg7 : FVec F S128x128 .bf16) (main_v10 : FVec F S128x128 .f32) (main_v13 : IVec S128x128 1) (main_v15 : IVec S128x128 32) (main_c_5 : IVec S_ 32) : IVec S_ 1 :=
  let main_v16 : IVec S128x128 32 := broadcastInDim S128x128 ![] bcast_S_S128x128 main_c_5
  let main_v17 : IVec S128x128 1 := cmpi .eq main_v15 main_v16
  let main_v18 : IVec S128x128 1 := andi main_v13 main_v17
  let main_cst_6 : FVec F S_ .f32 := constant S_ .f32 0xBF800000#32
  let main_v19 : FVec F S128x128 .f32 := fn_where_0 (F := F) main_v18 main_cst_6 main_v10
  let main_v20 : FVec F S128x128 .bf16 := (truncf .bf16 · bitsLt_bf16_f32) main_v19
  let main_v21 : IVec S128x128 1 := cmpf .oeq main_arg7 main_v20
  let main_c_7 : IVec S_ 1 := constantI S_ 1 1#1
  let main_v22 : IVec S_ 1 := (fun x v => Host.reduce IntOp.andi x v reducesTo_S128x128_S_d0_1 h_S_) main_v21 main_c_7
  let main_v23 : FVec F S2048x1024 .bf16 := Host.absf main_arg0
  let main_cst_8 : FVec F S_ .bf16 := constant S_ .bf16 0x7F80#16
  let main_v24 : FVec F S2048x1024 .bf16 := broadcastInDim S2048x1024 ![] bcast_S_S2048x1024 main_cst_8
  let main_v25 : IVec S2048x1024 1 := cmpf .olt main_v23 main_v24
  let main_c_9 : IVec S_ 1 := constantI S_ 1 1#1
  let main_v26 : IVec S_ 1 := (fun x v => Host.reduce IntOp.andi x v reducesTo_S2048x1024_S_d0_1 h_S_) main_v25 main_c_9
  let main_v27 : IVec S_ 1 := andi main_v22 main_v26
  let main_v28 : FVec F S1024x8192 .bf16 := Host.absf main_arg1
  let main_cst_10 : FVec F S_ .bf16 := constant S_ .bf16 0x7F80#16
  let main_v29 : FVec F S1024x8192 .bf16 := broadcastInDim S1024x8192 ![] bcast_S_S1024x8192 main_cst_10
  let main_v30 : IVec S1024x8192 1 := cmpf .olt main_v28 main_v29
  let main_c_11 : IVec S_ 1 := constantI S_ 1 1#1
  let main_v31 : IVec S_ 1 := (fun x v => Host.reduce IntOp.andi x v reducesTo_S1024x8192_S_d0_1 h_S_) main_v30 main_c_11
  let main_v32 : IVec S_ 1 := andi main_v27 main_v31
  let main_v33 : FVec F S1024x8192 .bf16 := Host.absf main_arg2
  fn_part2 (F := F) main_arg5 main_arg6 main_v32 main_v33

def fn {F : FTy → Type} [FloatOps F] (main_arg0 : FVec F S2048x1024 .bf16) (main_arg1 : FVec F S1024x8192 .bf16) (main_arg2 : FVec F S1024x8192 .bf16) (main_arg3 : FVec F S1024x8192 .bf16) (main_arg4 : FVec F S8192x1024 .bf16) (main_arg5 : FVec F S2048x128 .bf16) (main_arg6 : FVec F S2048x128 .bf16) (main_arg7 : FVec F S128x128 .bf16) : IVec S_ 1 :=
  let main_v0 : IVec S128x128 32 := iotaInDim S128x128 32 0
  let main_v1 : IVec S128x128 32 := iotaInDim S128x128 32 1
  let main_c : IVec S_ 32 := constantI S_ 32 1#32
  let main_v2 : IVec S128x128 32 := broadcastInDim S128x128 ![] bcast_S_S128x128 main_c
  let main_v3 : IVec S128x128 32 := addi main_v0 main_v2
  let main_v4 : IVec S128x128 1 := cmpi .eq main_v1 main_v3
  let main_c_0 : IVec S_ 32 := constantI S_ 32 2#32
  let main_v5 : IVec S128x128 32 := broadcastInDim S128x128 ![] bcast_S_S128x128 main_c_0
  let main_v6 : IVec S128x128 32 := Host.remsi main_v1 main_v5
  let main_c_1 : IVec S_ 32 := constantI S_ 32 1#32
  let main_v7 : IVec S128x128 32 := broadcastInDim S128x128 ![] bcast_S_S128x128 main_c_1
  let main_v8 : IVec S128x128 1 := cmpi .eq main_v6 main_v7
  let main_v9 : IVec S128x128 1 := andi main_v4 main_v8
  let main_cst : FVec F S_ .f32 := constant S_ .f32 0x3F800000#32
  let main_cst_2 : FVec F S_ .f32 := constant S_ .f32 0x00000000#32
  let main_v10 : FVec F S128x128 .f32 := fn_where (F := F) main_v9 main_cst main_cst_2
  let main_c_3 : IVec S_ 32 := constantI S_ 32 1#32
  let main_v11 : IVec S128x128 32 := broadcastInDim S128x128 ![] bcast_S_S128x128 main_c_3
  let main_v12 : IVec S128x128 32 := addi main_v1 main_v11
  let main_v13 : IVec S128x128 1 := cmpi .eq main_v0 main_v12
  let main_c_4 : IVec S_ 32 := constantI S_ 32 2#32
  let main_v14 : IVec S128x128 32 := broadcastInDim S128x128 ![] bcast_S_S128x128 main_c_4
  let main_v15 : IVec S128x128 32 := Host.remsi main_v0 main_v14
  let main_c_5 : IVec S_ 32 := constantI S_ 32 1#32
  fn_part1 (F := F) main_arg0 main_arg1 main_arg2 main_arg5 main_arg6 main_arg7 main_v10 main_v13 main_v15 main_c_5
-- ==== Kernel.lean ====
abbrev S2048x1024 : Shape := ⟨2, ![2048, 1024]⟩
abbrev S1024x1024 : Shape := ⟨2, ![1024, 1024]⟩
abbrev S2048x128 : Shape := ⟨2, ![2048, 128]⟩
abbrev S128x128 : Shape := ⟨2, ![128, 128]⟩
abbrev S256x1024 : Shape := ⟨2, ![256, 1024]⟩
abbrev S7x256x1024 : Shape := ⟨3, ![7, 256, 1024]⟩
abbrev S256x512 : Shape := ⟨2, ![256, 512]⟩
abbrev S7x256x512 : Shape := ⟨3, ![7, 256, 512]⟩
abbrev S21 : Shape := ⟨1, ![21]⟩
abbrev S14 : Shape := ⟨1, ![14]⟩
abbrev S_ : Shape := ⟨0, ![]⟩
abbrev S256x128 : Shape := ⟨2, ![256, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x256x1024 : Shape := ⟨3, ![1, 256, 1024]⟩
abbrev S1x128x512 : Shape := ⟨3, ![1, 128, 512]⟩
abbrev S128x512 : Shape := ⟨2, ![128, 512]⟩
abbrev S1x256x512 : Shape := ⟨3, ![1, 256, 512]⟩

abbrev nBuf : Space → Nat
  | .hbm => 9
  | .vmem => 18
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S1024x1024, .bf16⟩
  | .hbm, ⟨5, _⟩ => ⟨S2048x128, .bf16⟩
  | .hbm, ⟨6, _⟩ => ⟨S2048x128, .bf16⟩
  | .hbm, ⟨7, _⟩ => ⟨S128x128, .bf16⟩
  | .hbm, ⟨8, _⟩ => ⟨S2048x1024, .bf16⟩
  | .local _ .vmem, ⟨0, _⟩ => ⟨S2048x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S2048x128, .bf16⟩
  | .local _ .vmem, ⟨6, _⟩ => ⟨S2048x128, .bf16⟩
  | .local _ .vmem, ⟨7, _⟩ => ⟨S128x128, .bf16⟩
  | .local _ .vmem, ⟨8, _⟩ => ⟨S2048x1024, .bf16⟩
  | .local _ .vmem, ⟨9, _⟩ => ⟨S2048x1024, .bf16⟩
  | .local _ .vmem, ⟨10, _⟩ => ⟨S2048x1024, .bf16⟩
  | .local _ .vmem, ⟨11, _⟩ => ⟨S2048x1024, .bf16⟩
  | .local _ .vmem, ⟨12, _⟩ => ⟨S256x1024, .bf16⟩
  | .local _ .vmem, ⟨13, _⟩ => ⟨S7x256x1024, .bf16⟩
  | .local _ .vmem, ⟨14, _⟩ => ⟨S256x512, .bf16⟩
  | .local _ .vmem, ⟨15, _⟩ => ⟨S7x256x512, .bf16⟩
  | .local _ .vmem, ⟨16, _⟩ => ⟨S256x512, .bf16⟩
  | .local _ .vmem, ⟨17, _⟩ => ⟨S7x256x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 1 → Bool
  | ⟨0, _⟩ => false
  | _ => false

abbrev dmaSemScoped : Fin 79 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | _ => false

abbrev sig : RefSig :=
  (ofTc nBuf bufTy 1 79 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_scratch7 : Ref sig .tc := ⟨.vmem, 16, rfl⟩
abbrev cc0_scratch8 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) (c0_i32_137 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v260 : BitVec 32 := Scalar.subi v2 c0_i32_137
  let c8_i32_138 : BitVec 32 := 8#32
  let c0_i32_139 : BitVec 32 := 0#32
  let v261 : BitVec 1 := Scalar.cmpi .eq c8_i32_138 c0_i32_139
  let c1_i32_140 : BitVec 32 := 1#32
  let v262 : BitVec 32 := Scalar.select v261 c1_i32_140 c8_i32_138
  let v263 : BitVec 32 := Scalar.remsi v260 v262
  let c0_i32_142 : BitVec 32 := 0#32
  let v265 : BitVec 1 := Scalar.cmpi .slt v263 c0_i32_142
  let c0_i32_143 : BitVec 32 := 0#32
  let v266 : BitVec 1 := Scalar.cmpi .slt v262 c0_i32_143
  let v267 : BitVec 1 := Scalar.xori v265 v266
  let c0_i32_141 : BitVec 32 := 0#32
  let v264 : BitVec 1 := Scalar.cmpi .ne v263 c0_i32_141
  let v268 : BitVec 1 := Scalar.andi v267 v264
  let v269 : BitVec 32 := Scalar.addi v263 v262
  let v270 : BitVec 32 := Scalar.select v268 v269 v263
  let c256_i32 : BitVec 32 := 256#32
  let v271 : BitVec 32 := Scalar.muli v270 c256_i32
  let v272 : Index := Scalar.indexCast v271
  let c0_144 : Index := 0#32
  ![v272.toNat, 0]
def k0_off2 (d0 : Dev nD) (c0_i32_137 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v260 : BitVec 32 := Scalar.subi v2 c0_i32_137
  let c8_i32_138 : BitVec 32 := 8#32
  let c0_i32_139 : BitVec 32 := 0#32
  let v261 : BitVec 1 := Scalar.cmpi .eq c8_i32_138 c0_i32_139
  let c1_i32_140 : BitVec 32 := 1#32
  let v262 : BitVec 32 := Scalar.select v261 c1_i32_140 c8_i32_138
  let v263 : BitVec 32 := Scalar.remsi v260 v262
  let c0_i32_142 : BitVec 32 := 0#32
  let v265 : BitVec 1 := Scalar.cmpi .slt v263 c0_i32_142
  let c0_i32_143 : BitVec 32 := 0#32
  let v266 : BitVec 1 := Scalar.cmpi .slt v262 c0_i32_143
  let v267 : BitVec 1 := Scalar.xori v265 v266
  let c0_i32_141 : BitVec 32 := 0#32
  let v264 : BitVec 1 := Scalar.cmpi .ne v263 c0_i32_141
  let v268 : BitVec 1 := Scalar.andi v267 v264
  let v269 : BitVec 32 := Scalar.addi v263 v262
  let v270 : BitVec 32 := Scalar.select v268 v269 v263
  let c256_i32 : BitVec 32 := 256#32
  let v271 : BitVec 32 := Scalar.muli v270 c256_i32
  let v288 : Index := Scalar.indexCast v271
  let c128_154 : Index := 128#32
  ![v288.toNat, 128]
def k0_off3 (d0 : Dev nD) (c0_i32_137 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v260 : BitVec 32 := Scalar.subi v2 c0_i32_137
  let c8_i32_138 : BitVec 32 := 8#32
  let c0_i32_139 : BitVec 32 := 0#32
  let v261 : BitVec 1 := Scalar.cmpi .eq c8_i32_138 c0_i32_139
  let c1_i32_140 : BitVec 32 := 1#32
  let v262 : BitVec 32 := Scalar.select v261 c1_i32_140 c8_i32_138
  let v263 : BitVec 32 := Scalar.remsi v260 v262
  let c0_i32_142 : BitVec 32 := 0#32
  let v265 : BitVec 1 := Scalar.cmpi .slt v263 c0_i32_142
  let c0_i32_143 : BitVec 32 := 0#32
  let v266 : BitVec 1 := Scalar.cmpi .slt v262 c0_i32_143
  let v267 : BitVec 1 := Scalar.xori v265 v266
  let c0_i32_141 : BitVec 32 := 0#32
  let v264 : BitVec 1 := Scalar.cmpi .ne v263 c0_i32_141
  let v268 : BitVec 1 := Scalar.andi v267 v264
  let v269 : BitVec 32 := Scalar.addi v263 v262
  let v270 : BitVec 32 := Scalar.select v268 v269 v263
  let c256_i32 : BitVec 32 := 256#32
  let v271 : BitVec 32 := Scalar.muli v270 c256_i32
  let v304 : Index := Scalar.indexCast v271
  let c256_164 : Index := 256#32
  ![v304.toNat, 256]
def k0_off4 (d0 : Dev nD) (c0_i32_137 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v260 : BitVec 32 := Scalar.subi v2 c0_i32_137
  let c8_i32_138 : BitVec 32 := 8#32
  let c0_i32_139 : BitVec 32 := 0#32
  let v261 : BitVec 1 := Scalar.cmpi .eq c8_i32_138 c0_i32_139
  let c1_i32_140 : BitVec 32 := 1#32
  let v262 : BitVec 32 := Scalar.select v261 c1_i32_140 c8_i32_138
  let v263 : BitVec 32 := Scalar.remsi v260 v262
  let c0_i32_142 : BitVec 32 := 0#32
  let v265 : BitVec 1 := Scalar.cmpi .slt v263 c0_i32_142
  let c0_i32_143 : BitVec 32 := 0#32
  let v266 : BitVec 1 := Scalar.cmpi .slt v262 c0_i32_143
  let v267 : BitVec 1 := Scalar.xori v265 v266
  let c0_i32_141 : BitVec 32 := 0#32
  let v264 : BitVec 1 := Scalar.cmpi .ne v263 c0_i32_141
  let v268 : BitVec 1 := Scalar.andi v267 v264
  let v269 : BitVec 32 := Scalar.addi v263 v262
  let v270 : BitVec 32 := Scalar.select v268 v269 v263
  let c256_i32 : BitVec 32 := 256#32
  let v271 : BitVec 32 := Scalar.muli v270 c256_i32
  let v320 : Index := Scalar.indexCast v271
  let c384_174 : Index := 384#32
  ![v320.toNat, 384]
def k0_off5 (d0 : Dev nD) (c0_i32_137 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v260 : BitVec 32 := Scalar.subi v2 c0_i32_137
  let c8_i32_138 : BitVec 32 := 8#32
  let c0_i32_139 : BitVec 32 := 0#32
  let v261 : BitVec 1 := Scalar.cmpi .eq c8_i32_138 c0_i32_139
  let c1_i32_140 : BitVec 32 := 1#32
  let v262 : BitVec 32 := Scalar.select v261 c1_i32_140 c8_i32_138
  let v263 : BitVec 32 := Scalar.remsi v260 v262
  let c0_i32_142 : BitVec 32 := 0#32
  let v265 : BitVec 1 := Scalar.cmpi .slt v263 c0_i32_142
  let c0_i32_143 : BitVec 32 := 0#32
  let v266 : BitVec 1 := Scalar.cmpi .slt v262 c0_i32_143
  let v267 : BitVec 1 := Scalar.xori v265 v266
  let c0_i32_141 : BitVec 32 := 0#32
  let v264 : BitVec 1 := Scalar.cmpi .ne v263 c0_i32_141
  let v268 : BitVec 1 := Scalar.andi v267 v264
  let v269 : BitVec 32 := Scalar.addi v263 v262
  let v270 : BitVec 32 := Scalar.select v268 v269 v263
  let c256_i32 : BitVec 32 := 256#32
  let v271 : BitVec 32 := Scalar.muli v270 c256_i32
  let v336 : Index := Scalar.indexCast v271
  let c512_184 : Index := 512#32
  ![v336.toNat, 512]
def k0_off6 (d0 : Dev nD) (c0_i32_137 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v260 : BitVec 32 := Scalar.subi v2 c0_i32_137
  let c8_i32_138 : BitVec 32 := 8#32
  let c0_i32_139 : BitVec 32 := 0#32
  let v261 : BitVec 1 := Scalar.cmpi .eq c8_i32_138 c0_i32_139
  let c1_i32_140 : BitVec 32 := 1#32
  let v262 : BitVec 32 := Scalar.select v261 c1_i32_140 c8_i32_138
  let v263 : BitVec 32 := Scalar.remsi v260 v262
  let c0_i32_142 : BitVec 32 := 0#32
  let v265 : BitVec 1 := Scalar.cmpi .slt v263 c0_i32_142
  let c0_i32_143 : BitVec 32 := 0#32
  let v266 : BitVec 1 := Scalar.cmpi .slt v262 c0_i32_143
  let v267 : BitVec 1 := Scalar.xori v265 v266
  let c0_i32_141 : BitVec 32 := 0#32
  let v264 : BitVec 1 := Scalar.cmpi .ne v263 c0_i32_141
  let v268 : BitVec 1 := Scalar.andi v267 v264
  let v269 : BitVec 32 := Scalar.addi v263 v262
  let v270 : BitVec 32 := Scalar.select v268 v269 v263
  let c256_i32 : BitVec 32 := 256#32
  let v271 : BitVec 32 := Scalar.muli v270 c256_i32
  let v352 : Index := Scalar.indexCast v271
  let c640_194 : Index := 640#32
  ![v352.toNat, 640]
def k0_off7 (d0 : Dev nD) (c0_i32_137 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v260 : BitVec 32 := Scalar.subi v2 c0_i32_137
  let c8_i32_138 : BitVec 32 := 8#32
  let c0_i32_139 : BitVec 32 := 0#32
  let v261 : BitVec 1 := Scalar.cmpi .eq c8_i32_138 c0_i32_139
  let c1_i32_140 : BitVec 32 := 1#32
  let v262 : BitVec 32 := Scalar.select v261 c1_i32_140 c8_i32_138
  let v263 : BitVec 32 := Scalar.remsi v260 v262
  let c0_i32_142 : BitVec 32 := 0#32
  let v265 : BitVec 1 := Scalar.cmpi .slt v263 c0_i32_142
  let c0_i32_143 : BitVec 32 := 0#32
  let v266 : BitVec 1 := Scalar.cmpi .slt v262 c0_i32_143
  let v267 : BitVec 1 := Scalar.xori v265 v266
  let c0_i32_141 : BitVec 32 := 0#32
  let v264 : BitVec 1 := Scalar.cmpi .ne v263 c0_i32_141
  let v268 : BitVec 1 := Scalar.andi v267 v264
  let v269 : BitVec 32 := Scalar.addi v263 v262
  let v270 : BitVec 32 := Scalar.select v268 v269 v263
  let c256_i32 : BitVec 32 := 256#32
  let v271 : BitVec 32 := Scalar.muli v270 c256_i32
  let v368 : Index := Scalar.indexCast v271
  let c768_204 : Index := 768#32
  ![v368.toNat, 768]
def k0_off8 (d0 : Dev nD) (c0_i32_137 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v260 : BitVec 32 := Scalar.subi v2 c0_i32_137
  let c8_i32_138 : BitVec 32 := 8#32
  let c0_i32_139 : BitVec 32 := 0#32
  let v261 : BitVec 1 := Scalar.cmpi .eq c8_i32_138 c0_i32_139
  let c1_i32_140 : BitVec 32 := 1#32
  let v262 : BitVec 32 := Scalar.select v261 c1_i32_140 c8_i32_138
  let v263 : BitVec 32 := Scalar.remsi v260 v262
  let c0_i32_142 : BitVec 32 := 0#32
  let v265 : BitVec 1 := Scalar.cmpi .slt v263 c0_i32_142
  let c0_i32_143 : BitVec 32 := 0#32
  let v266 : BitVec 1 := Scalar.cmpi .slt v262 c0_i32_143
  let v267 : BitVec 1 := Scalar.xori v265 v266
  let c0_i32_141 : BitVec 32 := 0#32
  let v264 : BitVec 1 := Scalar.cmpi .ne v263 c0_i32_141
  let v268 : BitVec 1 := Scalar.andi v267 v264
  let v269 : BitVec 32 := Scalar.addi v263 v262
  let v270 : BitVec 32 := Scalar.select v268 v269 v263
  let c256_i32 : BitVec 32 := 256#32
  let v271 : BitVec 32 := Scalar.muli v270 c256_i32
  let v384 : Index := Scalar.indexCast v271
  let c896_214 : Index := 896#32
  ![v384.toNat, 896]
def k0_off9 (d0 : Dev nD) (c0_i32_137 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v260 : BitVec 32 := Scalar.subi v2 c0_i32_137
  let c8_i32_138 : BitVec 32 := 8#32
  let c0_i32_139 : BitVec 32 := 0#32
  let v261 : BitVec 1 := Scalar.cmpi .eq c8_i32_138 c0_i32_139
  let c1_i32_140 : BitVec 32 := 1#32
  let v262 : BitVec 32 := Scalar.select v261 c1_i32_140 c8_i32_138
  let v263 : BitVec 32 := Scalar.remsi v260 v262
  let c0_i32_142 : BitVec 32 := 0#32
  let v265 : BitVec 1 := Scalar.cmpi .slt v263 c0_i32_142
  let c0_i32_143 : BitVec 32 := 0#32
  let v266 : BitVec 1 := Scalar.cmpi .slt v262 c0_i32_143
  let v267 : BitVec 1 := Scalar.xori v265 v266
  let c0_i32_141 : BitVec 32 := 0#32
  let v264 : BitVec 1 := Scalar.cmpi .ne v263 c0_i32_141
  let v268 : BitVec 1 := Scalar.andi v267 v264
  let v269 : BitVec 32 := Scalar.addi v263 v262
  let v270 : BitVec 32 := Scalar.select v268 v269 v263
  let c256_i32 : BitVec 32 := 256#32
  let v271 : BitVec 32 := Scalar.muli v270 c256_i32
  let v405 : Index := Scalar.indexCast v271
  let c0_229 : Index := 0#32
  ![v405.toNat, 0]
def k0_off10 (d0 : Dev nD) (c0_i32_137 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v260 : BitVec 32 := Scalar.subi v2 c0_i32_137
  let c8_i32_138 : BitVec 32 := 8#32
  let c0_i32_139 : BitVec 32 := 0#32
  let v261 : BitVec 1 := Scalar.cmpi .eq c8_i32_138 c0_i32_139
  let c1_i32_140 : BitVec 32 := 1#32
  let v262 : BitVec 32 := Scalar.select v261 c1_i32_140 c8_i32_138
  let v263 : BitVec 32 := Scalar.remsi v260 v262
  let c0_i32_142 : BitVec 32 := 0#32
  let v265 : BitVec 1 := Scalar.cmpi .slt v263 c0_i32_142
  let c0_i32_143 : BitVec 32 := 0#32
  let v266 : BitVec 1 := Scalar.cmpi .slt v262 c0_i32_143
  let v267 : BitVec 1 := Scalar.xori v265 v266
  let c0_i32_141 : BitVec 32 := 0#32
  let v264 : BitVec 1 := Scalar.cmpi .ne v263 c0_i32_141
  let v268 : BitVec 1 := Scalar.andi v267 v264
  let v269 : BitVec 32 := Scalar.addi v263 v262
  let v270 : BitVec 32 := Scalar.select v268 v269 v263
  let c256_i32 : BitVec 32 := 256#32
  let v271 : BitVec 32 := Scalar.muli v270 c256_i32
  let c0_i32_237 : BitVec 32 := 0#32
  ![v271.toNat, 0]
def k0_dev3 (d0 : Dev nD) : Nat :=
  let c0_i32_234 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_233 : BitVec 32 := 1#32
  let v407 : BitVec 32 := Scalar.muli v13 c1_i32_233
  let v408 : BitVec 32 := Scalar.addi c0_i32_234 v407
  v408.toNat
def k0_dev4 (d0 : Dev nD) : Nat :=
  let c0_i32_356 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_355 : BitVec 32 := 1#32
  let v583 : BitVec 32 := Scalar.muli v13 c1_i32_355
  let v584 : BitVec 32 := Scalar.addi c0_i32_356 v583
  v584.toNat
def k0_dev5 (d0 : Dev nD) : Nat :=
  let c0_i32_477 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_476 : BitVec 32 := 1#32
  let v759 : BitVec 32 := Scalar.muli v13 c1_i32_476
  let v760 : BitVec 32 := Scalar.addi c0_i32_477 v759
  v760.toNat
def k0_dev6 (d0 : Dev nD) : Nat :=
  let c0_i32_597 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_596 : BitVec 32 := 1#32
  let v935 : BitVec 32 := Scalar.muli v13 c1_i32_596
  let v936 : BitVec 32 := Scalar.addi c0_i32_597 v935
  v936.toNat
def k0_dev7 (d0 : Dev nD) : Nat :=
  let c0_i32_717 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_716 : BitVec 32 := 1#32
  let v1111 : BitVec 32 := Scalar.muli v13 c1_i32_716
  let v1112 : BitVec 32 := Scalar.addi c0_i32_717 v1111
  v1112.toNat
def k0_dev8 (d0 : Dev nD) : Nat :=
  let c0_i32_837 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_836 : BitVec 32 := 1#32
  let v1287 : BitVec 32 := Scalar.muli v13 c1_i32_836
  let v1288 : BitVec 32 := Scalar.addi c0_i32_837 v1287
  v1288.toNat
def k0_dev9 (d0 : Dev nD) : Nat :=
  let c0_i32_957 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_956 : BitVec 32 := 1#32
  let v1463 : BitVec 32 := Scalar.muli v13 c1_i32_956
  let v1464 : BitVec 32 := Scalar.addi c0_i32_957 v1463
  v1464.toNat
def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1073 : BitVec 32 := 1#32
  let v1639 : BitVec 32 := Scalar.addi v2 c1_i32_1073
  let c8_i32_1074 : BitVec 32 := 8#32
  let c0_i32_1075 : BitVec 32 := 0#32
  let v1640 : BitVec 1 := Scalar.cmpi .eq c8_i32_1074 c0_i32_1075
  let c1_i32_1076 : BitVec 32 := 1#32
  let v1641 : BitVec 32 := Scalar.select v1640 c1_i32_1076 c8_i32_1074
  let v1642 : BitVec 32 := Scalar.remsi v1639 v1641
  let c0_i32_1078 : BitVec 32 := 0#32
  let v1644 : BitVec 1 := Scalar.cmpi .slt v1642 c0_i32_1078
  let c0_i32_1079 : BitVec 32 := 0#32
  let v1645 : BitVec 1 := Scalar.cmpi .slt v1641 c0_i32_1079
  let v1646 : BitVec 1 := Scalar.xori v1644 v1645
  let c0_i32_1077 : BitVec 32 := 0#32
  let v1643 : BitVec 1 := Scalar.cmpi .ne v1642 c0_i32_1077
  let v1647 : BitVec 1 := Scalar.andi v1646 v1643
  let v1648 : BitVec 32 := Scalar.addi v1642 v1641
  let v1649 : BitVec 32 := Scalar.select v1647 v1648 v1642
  let c256_i32_1080 : BitVec 32 := 256#32
  let v1650 : BitVec 32 := Scalar.muli v1649 c256_i32_1080
  let v1651 : Index := Scalar.indexCast v1650
  let c0_1081 : Index := 0#32
  ![v1651.toNat, 0]
def k0_off12 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1073 : BitVec 32 := 1#32
  let v1639 : BitVec 32 := Scalar.addi v2 c1_i32_1073
  let c8_i32_1074 : BitVec 32 := 8#32
  let c0_i32_1075 : BitVec 32 := 0#32
  let v1640 : BitVec 1 := Scalar.cmpi .eq c8_i32_1074 c0_i32_1075
  let c1_i32_1076 : BitVec 32 := 1#32
  let v1641 : BitVec 32 := Scalar.select v1640 c1_i32_1076 c8_i32_1074
  let v1642 : BitVec 32 := Scalar.remsi v1639 v1641
  let c0_i32_1078 : BitVec 32 := 0#32
  let v1644 : BitVec 1 := Scalar.cmpi .slt v1642 c0_i32_1078
  let c0_i32_1079 : BitVec 32 := 0#32
  let v1645 : BitVec 1 := Scalar.cmpi .slt v1641 c0_i32_1079
  let v1646 : BitVec 1 := Scalar.xori v1644 v1645
  let c0_i32_1077 : BitVec 32 := 0#32
  let v1643 : BitVec 1 := Scalar.cmpi .ne v1642 c0_i32_1077
  let v1647 : BitVec 1 := Scalar.andi v1646 v1643
  let v1648 : BitVec 32 := Scalar.addi v1642 v1641
  let v1649 : BitVec 32 := Scalar.select v1647 v1648 v1642
  let c256_i32_1080 : BitVec 32 := 256#32
  let v1650 : BitVec 32 := Scalar.muli v1649 c256_i32_1080
  let v1657 : Index := Scalar.indexCast v1650
  let c512_1084 : Index := 512#32
  ![v1657.toNat, 512]
def k0_dev10 (d0 : Dev nD) : Nat :=
  let c0_i32_1091 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1090 : BitVec 32 := 1#32
  let v1663 : BitVec 32 := Scalar.muli v13 c1_i32_1090
  let v1664 : BitVec 32 := Scalar.addi c0_i32_1091 v1663
  v1664.toNat
def k0_dev11 (d0 : Dev nD) : Nat :=
  let c0_i32_1100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1099 : BitVec 32 := 1#32
  let v1672 : BitVec 32 := Scalar.muli v13 c1_i32_1099
  let v1673 : BitVec 32 := Scalar.addi c0_i32_1100 v1672
  v1673.toNat
def k0_dev12 (d0 : Dev nD) : Nat :=
  let c0_i32_1108 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1107 : BitVec 32 := 1#32
  let v1681 : BitVec 32 := Scalar.muli v24 c1_i32_1107
  let v1682 : BitVec 32 := Scalar.addi c0_i32_1108 v1681
  v1682.toNat
def k0_dev13 (d0 : Dev nD) : Nat :=
  let c0_i32_1117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1116 : BitVec 32 := 1#32
  let v1690 : BitVec 32 := Scalar.muli v24 c1_i32_1116
  let v1691 : BitVec 32 := Scalar.addi c0_i32_1117 v1690
  v1691.toNat
def k0_dev14 (d0 : Dev nD) : Nat :=
  let c0_i32_1143 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1142 : BitVec 32 := 1#32
  let v1711 : BitVec 32 := Scalar.muli v13 c1_i32_1142
  let v1712 : BitVec 32 := Scalar.addi c0_i32_1143 v1711
  v1712.toNat
def k0_dev15 (d0 : Dev nD) : Nat :=
  let c0_i32_1169 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1168 : BitVec 32 := 1#32
  let v1733 : BitVec 32 := Scalar.muli v13 c1_i32_1168
  let v1734 : BitVec 32 := Scalar.addi c0_i32_1169 v1733
  v1734.toNat
def k0_dev16 (d0 : Dev nD) : Nat :=
  let c0_i32_1196 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1195 : BitVec 32 := 1#32
  let v1755 : BitVec 32 := Scalar.muli v24 c1_i32_1195
  let v1756 : BitVec 32 := Scalar.addi c0_i32_1196 v1755
  v1756.toNat
def k0_dev17 (d0 : Dev nD) : Nat :=
  let c0_i32_1223 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1222 : BitVec 32 := 1#32
  let v1777 : BitVec 32 := Scalar.muli v24 c1_i32_1222
  let v1778 : BitVec 32 := Scalar.addi c0_i32_1223 v1777
  v1778.toNat
def k0_off13 (d0 : Dev nD) (c0_i32_1228 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1787 : BitVec 32 := Scalar.subi v2 c0_i32_1228
  let c8_i32_1229 : BitVec 32 := 8#32
  let c0_i32_1230 : BitVec 32 := 0#32
  let v1788 : BitVec 1 := Scalar.cmpi .eq c8_i32_1229 c0_i32_1230
  let c1_i32_1231 : BitVec 32 := 1#32
  let v1789 : BitVec 32 := Scalar.select v1788 c1_i32_1231 c8_i32_1229
  let v1790 : BitVec 32 := Scalar.remsi v1787 v1789
  let c0_i32_1233 : BitVec 32 := 0#32
  let v1792 : BitVec 1 := Scalar.cmpi .slt v1790 c0_i32_1233
  let c0_i32_1234 : BitVec 32 := 0#32
  let v1793 : BitVec 1 := Scalar.cmpi .slt v1789 c0_i32_1234
  let v1794 : BitVec 1 := Scalar.xori v1792 v1793
  let c0_i32_1232 : BitVec 32 := 0#32
  let v1791 : BitVec 1 := Scalar.cmpi .ne v1790 c0_i32_1232
  let v1795 : BitVec 1 := Scalar.andi v1794 v1791
  let v1796 : BitVec 32 := Scalar.addi v1790 v1789
  let v1797 : BitVec 32 := Scalar.select v1795 v1796 v1790
  let c256_i32_1235 : BitVec 32 := 256#32
  let v1798 : BitVec 32 := Scalar.muli v1797 c256_i32_1235
  let v1814 : Index := Scalar.indexCast v1798
  let c0_1248 : Index := 0#32
  ![v1814.toNat, 0]
def k0_off14 (d0 : Dev nD) (c0_i32_1237 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1236 : BitVec 32 := 2#32
  let v1799 : BitVec 32 := Scalar.addi v2 c2_i32_1236
  let v1800 : BitVec 32 := Scalar.addi v1799 c0_i32_1237
  let c8_i32_1238 : BitVec 32 := 8#32
  let c0_i32_1239 : BitVec 32 := 0#32
  let v1801 : BitVec 1 := Scalar.cmpi .eq c8_i32_1238 c0_i32_1239
  let c1_i32_1240 : BitVec 32 := 1#32
  let v1802 : BitVec 32 := Scalar.select v1801 c1_i32_1240 c8_i32_1238
  let v1803 : BitVec 32 := Scalar.remsi v1800 v1802
  let c0_i32_1242 : BitVec 32 := 0#32
  let v1805 : BitVec 1 := Scalar.cmpi .slt v1803 c0_i32_1242
  let c0_i32_1243 : BitVec 32 := 0#32
  let v1806 : BitVec 1 := Scalar.cmpi .slt v1802 c0_i32_1243
  let v1807 : BitVec 1 := Scalar.xori v1805 v1806
  let c0_i32_1241 : BitVec 32 := 0#32
  let v1804 : BitVec 1 := Scalar.cmpi .ne v1803 c0_i32_1241
  let v1808 : BitVec 1 := Scalar.andi v1807 v1804
  let v1809 : BitVec 32 := Scalar.addi v1803 v1802
  let v1810 : BitVec 32 := Scalar.select v1808 v1809 v1803
  let c256_i32_1244 : BitVec 32 := 256#32
  let v1811 : BitVec 32 := Scalar.muli v1810 c256_i32_1244
  let v1818 : Index := Scalar.indexCast v1811
  let c512_1252 : Index := 512#32
  ![v1818.toNat, 512]
def k0_dev18 (d0 : Dev nD) : Nat :=
  let c0_i32_1276 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1275 : BitVec 32 := 1#32
  let v1834 : BitVec 32 := Scalar.muli v13 c1_i32_1275
  let v1835 : BitVec 32 := Scalar.addi c0_i32_1276 v1834
  v1835.toNat
def k0_dev19 (d0 : Dev nD) : Nat :=
  let c0_i32_1304 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1303 : BitVec 32 := 1#32
  let v1858 : BitVec 32 := Scalar.muli v13 c1_i32_1303
  let v1859 : BitVec 32 := Scalar.addi c0_i32_1304 v1858
  v1859.toNat
def k0_dev20 (d0 : Dev nD) : Nat :=
  let c0_i32_1333 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1332 : BitVec 32 := 1#32
  let v1882 : BitVec 32 := Scalar.muli v24 c1_i32_1332
  let v1883 : BitVec 32 := Scalar.addi c0_i32_1333 v1882
  v1883.toNat
def k0_dev21 (d0 : Dev nD) : Nat :=
  let c0_i32_1362 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1361 : BitVec 32 := 1#32
  let v1906 : BitVec 32 := Scalar.muli v24 c1_i32_1361
  let v1907 : BitVec 32 := Scalar.addi c0_i32_1362 v1906
  v1907.toNat
def k0_dev22 (d0 : Dev nD) : Nat :=
  let c0_i32_1415 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1414 : BitVec 32 := 1#32
  let v1963 : BitVec 32 := Scalar.muli v13 c1_i32_1414
  let v1964 : BitVec 32 := Scalar.addi c0_i32_1415 v1963
  v1964.toNat
def k0_dev23 (d0 : Dev nD) : Nat :=
  let c0_i32_1443 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1442 : BitVec 32 := 1#32
  let v1987 : BitVec 32 := Scalar.muli v13 c1_i32_1442
  let v1988 : BitVec 32 := Scalar.addi c0_i32_1443 v1987
  v1988.toNat
def k0_dev24 (d0 : Dev nD) : Nat :=
  let c0_i32_1472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1471 : BitVec 32 := 1#32
  let v2011 : BitVec 32 := Scalar.muli v24 c1_i32_1471
  let v2012 : BitVec 32 := Scalar.addi c0_i32_1472 v2011
  v2012.toNat
def k0_dev25 (d0 : Dev nD) : Nat :=
  let c0_i32_1501 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1500 : BitVec 32 := 1#32
  let v2035 : BitVec 32 := Scalar.muli v24 c1_i32_1500
  let v2036 : BitVec 32 := Scalar.addi c0_i32_1501 v2035
  v2036.toNat
def k0_dev26 (d0 : Dev nD) : Nat :=
  let c0_i32_1554 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1553 : BitVec 32 := 1#32
  let v2092 : BitVec 32 := Scalar.muli v13 c1_i32_1553
  let v2093 : BitVec 32 := Scalar.addi c0_i32_1554 v2092
  v2093.toNat
def k0_dev27 (d0 : Dev nD) : Nat :=
  let c0_i32_1582 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1581 : BitVec 32 := 1#32
  let v2116 : BitVec 32 := Scalar.muli v13 c1_i32_1581
  let v2117 : BitVec 32 := Scalar.addi c0_i32_1582 v2116
  v2117.toNat
def k0_dev28 (d0 : Dev nD) : Nat :=
  let c0_i32_1611 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1610 : BitVec 32 := 1#32
  let v2140 : BitVec 32 := Scalar.muli v24 c1_i32_1610
  let v2141 : BitVec 32 := Scalar.addi c0_i32_1611 v2140
  v2141.toNat
def k0_dev29 (d0 : Dev nD) : Nat :=
  let c0_i32_1640 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1639 : BitVec 32 := 1#32
  let v2164 : BitVec 32 := Scalar.muli v24 c1_i32_1639
  let v2165 : BitVec 32 := Scalar.addi c0_i32_1640 v2164
  v2165.toNat
def k0_dev30 (d0 : Dev nD) : Nat :=
  let c0_i32_1693 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1692 : BitVec 32 := 1#32
  let v2221 : BitVec 32 := Scalar.muli v13 c1_i32_1692
  let v2222 : BitVec 32 := Scalar.addi c0_i32_1693 v2221
  v2222.toNat
def k0_dev31 (d0 : Dev nD) : Nat :=
  let c0_i32_1721 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1720 : BitVec 32 := 1#32
  let v2245 : BitVec 32 := Scalar.muli v13 c1_i32_1720
  let v2246 : BitVec 32 := Scalar.addi c0_i32_1721 v2245
  v2246.toNat
def k0_dev32 (d0 : Dev nD) : Nat :=
  let c0_i32_1750 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1749 : BitVec 32 := 1#32
  let v2269 : BitVec 32 := Scalar.muli v24 c1_i32_1749
  let v2270 : BitVec 32 := Scalar.addi c0_i32_1750 v2269
  v2270.toNat
def k0_dev33 (d0 : Dev nD) : Nat :=
  let c0_i32_1779 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1778 : BitVec 32 := 1#32
  let v2293 : BitVec 32 := Scalar.muli v24 c1_i32_1778
  let v2294 : BitVec 32 := Scalar.addi c0_i32_1779 v2293
  v2294.toNat
def k0_dev34 (d0 : Dev nD) : Nat :=
  let c0_i32_1832 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1831 : BitVec 32 := 1#32
  let v2350 : BitVec 32 := Scalar.muli v13 c1_i32_1831
  let v2351 : BitVec 32 := Scalar.addi c0_i32_1832 v2350
  v2351.toNat
def k0_dev35 (d0 : Dev nD) : Nat :=
  let c0_i32_1860 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1859 : BitVec 32 := 1#32
  let v2374 : BitVec 32 := Scalar.muli v13 c1_i32_1859
  let v2375 : BitVec 32 := Scalar.addi c0_i32_1860 v2374
  v2375.toNat
def k0_dev36 (d0 : Dev nD) : Nat :=
  let c0_i32_1889 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1888 : BitVec 32 := 1#32
  let v2398 : BitVec 32 := Scalar.muli v24 c1_i32_1888
  let v2399 : BitVec 32 := Scalar.addi c0_i32_1889 v2398
  v2399.toNat
def k0_dev37 (d0 : Dev nD) : Nat :=
  let c0_i32_1918 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1917 : BitVec 32 := 1#32
  let v2422 : BitVec 32 := Scalar.muli v24 c1_i32_1917
  let v2423 : BitVec 32 := Scalar.addi c0_i32_1918 v2422
  v2423.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceIdeal.lean ====
abbrev S2048x1024 : Shape := ⟨2, ![2048, 1024]⟩
abbrev S1024x8192 : Shape := ⟨2, ![1024, 8192]⟩
abbrev S8192x1024 : Shape := ⟨2, ![8192, 1024]⟩
abbrev S2048x128 : Shape := ⟨2, ![2048, 128]⟩
abbrev S128x128 : Shape := ⟨2, ![128, 128]⟩
abbrev S2048x8192 : Shape := ⟨2, ![2048, 8192]⟩
abbrev S2048x64x128 : Shape := ⟨3, ![2048, 64, 128]⟩
abbrev S2048x64x64x2 : Shape := ⟨4, ![2048, 64, 64, 2]⟩
abbrev S2048x64x64x1 : Shape := ⟨4, ![2048, 64, 64, 1]⟩
abbrev S2048x64x64 : Shape := ⟨3, ![2048, 64, 64]⟩
abbrev S2048x1x128 : Shape := ⟨3, ![2048, 1, 128]⟩
abbrev S64x2048x2048 : Shape := ⟨3, ![64, 2048, 2048]⟩
abbrev S_ : Shape := ⟨0, ![]⟩
abbrev S64x2048 : Shape := ⟨2, ![64, 2048]⟩
abbrev S64x2048x1 : Shape := ⟨3, ![64, 2048, 1]⟩
abbrev S64x128x2048 : Shape := ⟨3, ![64, 128, 2048]⟩

abbrev nBuf : Space → Nat
  | .hbm => 75
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x8192, .bf16⟩
  | .hbm, ⟨2, _⟩ => ⟨S1024x8192, .bf16⟩
  | .hbm, ⟨3, _⟩ => ⟨S1024x8192, .bf16⟩
  | .hbm, ⟨4, _⟩ => ⟨S8192x1024, .bf16⟩
  | .hbm, ⟨5, _⟩ => ⟨S2048x128, .bf16⟩
  | .hbm, ⟨6, _⟩ => ⟨S2048x128, .bf16⟩
  | .hbm, ⟨7, _⟩ => ⟨S128x128, .bf16⟩
  | .hbm, ⟨8, _⟩ => ⟨S2048x1024, .f32⟩
  | .hbm, ⟨9, _⟩ => ⟨S1024x8192, .f32⟩
  | .hbm, ⟨10, _⟩ => ⟨S1024x8192, .f32⟩
  | .hbm, ⟨11, _⟩ => ⟨S1024x8192, .f32⟩
  | .hbm, ⟨12, _⟩ => ⟨S8192x1024, .f32⟩
  | .hbm, ⟨13, _⟩ => ⟨S2048x128, .f32⟩
  | .hbm, ⟨14, _⟩ => ⟨S2048x128, .f32⟩
  | .hbm, ⟨15, _⟩ => ⟨S2048x8192, .f32⟩
  | .hbm, ⟨16, _⟩ => ⟨S2048x64x128, .f32⟩
  | .hbm, ⟨17, _⟩ => ⟨S2048x64x64x2, .f32⟩
  | .hbm, ⟨18, _⟩ => ⟨S2048x64x64x1, .f32⟩
  | .hbm, ⟨19, _⟩ => ⟨S2048x64x64, .f32⟩
  | .hbm, ⟨20, _⟩ => ⟨S2048x64x64, .f32⟩
  | .hbm, ⟨21, _⟩ => ⟨S2048x64x64x1, .f32⟩
  | .hbm, ⟨22, _⟩ => ⟨S2048x64x64, .f32⟩
  | .hbm, ⟨23, _⟩ => ⟨S2048x64x64x1, .f32⟩
  | .hbm, ⟨24, _⟩ => ⟨S2048x64x64x1, .f32⟩
  | .hbm, ⟨25, _⟩ => ⟨S2048x64x64x2, .f32⟩
  | .hbm, ⟨26, _⟩ => ⟨S2048x64x128, .f32⟩
  | .hbm, ⟨27, _⟩ => ⟨S2048x1x128, .f32⟩
  | .hbm, ⟨28, _⟩ => ⟨S2048x64x128, .f32⟩
  | .hbm, ⟨29, _⟩ => ⟨S2048x64x128, .f32⟩
  | .hbm, ⟨30, _⟩ => ⟨S2048x1x128, .f32⟩
  | .hbm, ⟨31, _⟩ => ⟨S2048x64x128, .f32⟩
  | .hbm, ⟨32, _⟩ => ⟨S2048x64x128, .f32⟩
  | .hbm, ⟨33, _⟩ => ⟨S2048x64x128, .f32⟩
  | .hbm, ⟨34, _⟩ => ⟨S2048x8192, .f32⟩
  | .hbm, ⟨35, _⟩ => ⟨S2048x64x128, .f32⟩
  | .hbm, ⟨36, _⟩ => ⟨S2048x64x64x2, .f32⟩
  | .hbm, ⟨37, _⟩ => ⟨S2048x64x64x1, .f32⟩
  | .hbm, ⟨38, _⟩ => ⟨S2048x64x64, .f32⟩
  | .hbm, ⟨39, _⟩ => ⟨S2048x64x64, .f32⟩
  | .hbm, ⟨40, _⟩ => ⟨S2048x64x64x1, .f32⟩
  | .hbm, ⟨41, _⟩ => ⟨S2048x64x64, .f32⟩
  | .hbm, ⟨42, _⟩ => ⟨S2048x64x64x1, .f32⟩
  | .hbm, ⟨43, _⟩ => ⟨S2048x64x64x1, .f32⟩
  | .hbm, ⟨44, _⟩ => ⟨S2048x64x64x2, .f32⟩
  | .hbm, ⟨45, _⟩ => ⟨S2048x64x128, .f32⟩
  | .hbm, ⟨46, _⟩ => ⟨S2048x1x128, .f32⟩
  | .hbm, ⟨47, _⟩ => ⟨S2048x64x128, .f32⟩
  | .hbm, ⟨48, _⟩ => ⟨S2048x64x128, .f32⟩
  | .hbm, ⟨49, _⟩ => ⟨S2048x1x128, .f32⟩
  | .hbm, ⟨50, _⟩ => ⟨S2048x64x128, .f32⟩
  | .hbm, ⟨51, _⟩ => ⟨S2048x64x128, .f32⟩
  | .hbm, ⟨52, _⟩ => ⟨S2048x64x128, .f32⟩
  | .hbm, ⟨53, _⟩ => ⟨S2048x8192, .f32⟩
  | .hbm, ⟨54, _⟩ => ⟨S2048x64x128, .f32⟩
  | .hbm, ⟨55, _⟩ => ⟨S64x2048x2048, .f32⟩
  | .hbm, ⟨56, _⟩ => ⟨S_, .f32⟩
  | .hbm, ⟨57, _⟩ => ⟨S64x2048x2048, .f32⟩
  | .hbm, ⟨58, _⟩ => ⟨S64x2048x2048, .f32⟩
  | .hbm, ⟨59, _⟩ => ⟨S_, .f32⟩
  | .hbm, ⟨60, _⟩ => ⟨S64x2048, .f32⟩
  | .hbm, ⟨61, _⟩ => ⟨S64x2048x1, .f32⟩
  | .hbm, ⟨62, _⟩ => ⟨S64x2048x2048, .f32⟩
  | .hbm, ⟨63, _⟩ => ⟨S64x2048x2048, .f32⟩
  | .hbm, ⟨64, _⟩ => ⟨S64x2048x2048, .f32⟩
  | .hbm, ⟨65, _⟩ => ⟨S_, .f32⟩
  | .hbm, ⟨66, _⟩ => ⟨S64x2048, .f32⟩
  | .hbm, ⟨67, _⟩ => ⟨S64x2048x1, .f32⟩
  | .hbm, ⟨68, _⟩ => ⟨S64x2048x2048, .f32⟩
  | .hbm, ⟨69, _⟩ => ⟨S64x2048x2048, .f32⟩
  | .hbm, ⟨70, _⟩ => ⟨S64x128x2048, .f32⟩
  | .hbm, ⟨71, _⟩ => ⟨S2048x64x128, .f32⟩
  | .hbm, ⟨72, _⟩ => ⟨S2048x8192, .f32⟩
  | .hbm, ⟨73, _⟩ => ⟨S2048x1024, .f32⟩
  | .hbm, ⟨74, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_cst : Ref sig .tc := ⟨.hbm, 56, rfl⟩
abbrev main_v48 : Ref sig .tc := ⟨.hbm, 57, rfl⟩
abbrev main_v49 : Ref sig .tc := ⟨.hbm, 58, rfl⟩
abbrev main_cst_0 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_cst_1 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩

abbrev nD : Nat := 1
abbrev τ : Topo := Topo.v7x

variable {F : FTy → Type} [FloatOps F]
-- ==== Proof.Walk.lean ====
/-
The kernel's body as one structured program: the entry handshake on the barrier semaphore, the three projections,
the rotary embedding head by head, the eight row chunks of attention with the reduce-scatter ring between them, and
the all-gather running both ways round the ring. Every step is written once, over its chunk, head, hop or flow; the
printed body is this program by definitional unfolding (`body_eq_walk`).
-/
module

public import proofs.«01_k».proof.Proof.Gen.KernelIdeal.Frame
public import proofs.«01_k».proof.Proof.Gen.KernelIdeal.Skeleton

@[expose] public section

noncomputable section

namespace Cert.Attn

open Cert.KernelIdeal Cert.KernelIdeal.Gen
open Idealize.ShloMosaic Idealize.ShloMosaic.TcCoe
open Idealize.SL Idealize.SL.Sem

variable {F : FTy → Type} [FloatOps F]

/-! ## The buffers -/

abbrev xM : Memref sig .tc .vmem S2048x1024 .bf16 := Memref.whole cc0_stg0_0
abbrev wqM : Memref sig .tc .vmem S1024x1024 .bf16 := Memref.whole cc0_stg1_0
abbrev wkM : Memref sig .tc .vmem S1024x1024 .bf16 := Memref.whole cc0_stg2_0
abbrev wvM : Memref sig .tc .vmem S1024x1024 .bf16 := Memref.whole cc0_stg3_0
abbrev woM : Memref sig .tc .vmem S1024x1024 .bf16 := Memref.whole cc0_stg4_0
abbrev cosM : Memref sig .tc .vmem S2048x128 .bf16 := Memref.whole cc0_stg5_0
abbrev sinM : Memref sig .tc .vmem S2048x128 .bf16 := Memref.whole cc0_stg6_0
abbrev pmM : Memref sig .tc .vmem S128x128 .bf16 := Memref.whole cc0_stg7_0
abbrev outM : Memref sig .tc .vmem S2048x1024 .bf16 := Memref.whole cc0_stg8_0
abbrev qM : Memref sig .tc .vmem S2048x1024 .bf16 := Memref.whole cc0_scratch0
abbrev kM : Memref sig .tc .vmem S2048x1024 .bf16 := Memref.whole cc0_scratch1
abbrev vM : Memref sig .tc .vmem S2048x1024 .bf16 := Memref.whole cc0_scratch2
abbrev ctxM : Memref sig .tc .vmem S256x1024 .bf16 := Memref.whole cc0_scratch3
abbrev rsM : Memref sig .tc .vmem S7x256x1024 .bf16 := Memref.whole cc0_scratch4
abbrev stpM : Memref sig .tc .vmem S256x512 .bf16 := Memref.whole cc0_scratch5
abbrev agpM : Memref sig .tc .vmem S7x256x512 .bf16 := Memref.whole cc0_scratch6
abbrev stmM : Memref sig .tc .vmem S256x512 .bf16 := Memref.whole cc0_scratch7
abbrev agmM : Memref sig .tc .vmem S7x256x512 .bf16 := Memref.whole cc0_scratch8

/-! ## The rectangles -/

/-- Rows `1024·i …` of a projected array. -/
theorem half_inb (i : Fin 2) : ∀ a, (![1024 * i.val, 0] : Fin 2 → ℕ) a + S1024x1024.size a ≤ S2048x1024.size a := by
  revert i; decide
abbrev halfR (i : Fin 2) : Rect S2048x1024 := Rect.unit (s := S2048x1024) ![1024 * i.val, 0] S1024x1024.size (half_inb i)
/-- Columns `128·h …` of a projected array: head `h`. -/
theorem head_inb (h : Fin 8) : ∀ a, (![0, 128 * h.val] : Fin 2 → ℕ) a + S2048x128.size a ≤ S2048x1024.size a := by
  revert h; decide
abbrev headR (h : Fin 8) : Rect S2048x1024 := Rect.unit (s := S2048x1024) ![0, 128 * h.val] S2048x128.size (head_inb h)
/-- The same columns of the context block. -/
theorem ctx_inb (h : Fin 8) : ∀ a, (![0, 128 * h.val] : Fin 2 → ℕ) a + S256x128.size a ≤ S256x1024.size a := by
  revert h; decide
abbrev ctxR (h : Fin 8) : Rect S256x1024 := Rect.unit (s := S256x1024) ![0, 128 * h.val] S256x128.size (ctx_inb h)

/-- Where chunk `j`'s query rows of head `h` begin. -/
def qOff (d : Dev nD) (j h : Fin 8) : Fin 2 → ℕ := match h with
  | 0 => k0_off1 d (BitVec.ofNat 32 j.val)
  | 1 => k0_off2 d (BitVec.ofNat 32 j.val)
  | 2 => k0_off3 d (BitVec.ofNat 32 j.val)
  | 3 => k0_off4 d (BitVec.ofNat 32 j.val)
  | 4 => k0_off5 d (BitVec.ofNat 32 j.val)
  | 5 => k0_off6 d (BitVec.ofNat 32 j.val)
  | 6 => k0_off7 d (BitVec.ofNat 32 j.val)
  | 7 => k0_off8 d (BitVec.ofNat 32 j.val)
theorem qOff_inb (d : Dev nD) (j h : Fin 8) : ∀ a, qOff d j h a + S256x128.size a ≤ S2048x1024.size a := match h with
  | 0 => k0_off1_inb d j
  | 1 => k0_off2_inb d j
  | 2 => k0_off3_inb d j
  | 3 => k0_off4_inb d j
  | 4 => k0_off5_inb d j
  | 5 => k0_off6_inb d j
  | 6 => k0_off7_inb d j
  | 7 => k0_off8_inb d j
abbrev qR (d : Dev nD) (j h : Fin 8) : Rect S2048x1024 := Rect.unit (s := S2048x1024) (qOff d j h) S256x128.size (qOff_inb d j h)
/-- Chunk `j`'s rows of the result, as a store addresses them and as a copy does. -/
abbrev outR (d : Dev nD) (j : Fin 8) : Rect S2048x1024 :=
  Rect.unit (s := S2048x1024) (k0_off9 d (BitVec.ofNat 32 j.val)) S256x1024.size (k0_off9_inb d j)
abbrev outSrc (d : Dev nD) (j : Fin 7) : Memref sig .tc .vmem S256x1024 .bf16 :=
  outM.slice (Rect.unit (s := S2048x1024) (k0_off10 d (BitVec.ofNat 32 j.val)) S256x1024.size (k0_off10_inb d j)) (fun _ => rfl)
/-- The quarter blocks the all-gather writes: hop `g`'s rows, left half and right half of the columns. -/
abbrev outP (d : Dev nD) (g : Fin 7) : Rect S2048x1024 :=
  Rect.unit (s := S2048x1024) (k0_off13 d (BitVec.ofNat 32 g.val)) S256x512.size (k0_off13_inb d g)
abbrev outMm (d : Dev nD) (g : Fin 7) : Rect S2048x1024 :=
  Rect.unit (s := S2048x1024) (k0_off14 d (BitVec.ofNat 32 g.val)) S256x512.size (k0_off14_inb d g)

theorem rs_inb (j : Fin 7) : ∀ a, (![j.val, 0, 0] : Fin 3 → ℕ) a + S1x256x1024.size a ≤ S7x256x1024.size a := by
  revert j; decide
abbrev rsR (j : Fin 7) : Rect S7x256x1024 := Rect.unit (s := S7x256x1024) ![j.val, 0, 0] S1x256x1024.size (rs_inb j)
/-- Landing slot `j` of the reduce-scatter. -/
abbrev rsSlot (j : Fin 7) : Memref sig .tc .vmem S256x1024 .bf16 :=
  (rsM.slice (rsR j) (fun _ => rfl)).squeeze S256x1024 squeezes_S1x256x1024_S256x1024

theorem ag_inb (g : Fin 7) : ∀ a, (![g.val, 0, 0] : Fin 3 → ℕ) a + S1x256x512.size a ≤ S7x256x512.size a := by
  revert g; decide
/-- Landing slot `g` of the all-gather, whole. -/
abbrev agR (g : Fin 7) : Rect S7x256x512 := Rect.unit (s := S7x256x512) ![g.val, 0, 0] S1x256x512.size (ag_inb g)
theorem agsub_inb (g : Fin 7) (s : Fin 2) : ∀ a, (![g.val, 128 * s.val, 0] : Fin 3 → ℕ) a + S1x128x512.size a ≤ S7x256x512.size a := by
  revert g s; decide
theorem stsub_inb (s : Fin 2) : ∀ a, (![128 * s.val, 0] : Fin 2 → ℕ) a + S128x512.size a ≤ S256x512.size a := by
  revert s; decide

/-! A flow `f` of the all-gather: `0`, `1` the two halves of the rows going right, `2`, `3` the two going left. -/

abbrev sub (f : Fin 4) : Fin 2 := ⟨f.val % 2, Nat.mod_lt _ (by decide)⟩
abbrev agM (f : Fin 4) : Memref sig .tc .vmem S7x256x512 .bf16 := match f with | 0 => agpM | 1 => agpM | 2 => agmM | 3 => agmM
abbrev stM (f : Fin 4) : Memref sig .tc .vmem S256x512 .bf16 := match f with | 0 => stpM | 1 => stpM | 2 => stmM | 3 => stmM
theorem agM_whole (f : Fin 4) : (agM f).IsWhole := match f with
  | 0 => Memref.isWhole_whole _ | 1 => Memref.isWhole_whole _ | 2 => Memref.isWhole_whole _ | 3 => Memref.isWhole_whole _
theorem stM_whole (f : Fin 4) : (stM f).IsWhole := match f with
  | 0 => Memref.isWhole_whole _ | 1 => Memref.isWhole_whole _ | 2 => Memref.isWhole_whole _ | 3 => Memref.isWhole_whole _
abbrev agSlot (g : Fin 7) (f : Fin 4) : Memref sig .tc .vmem S128x512 .bf16 :=
  ((agM f).slice (Rect.unit (s := S7x256x512) ![g.val, 128 * (sub f).val, 0] S1x128x512.size (agsub_inb g (sub f))) (fun _ => rfl)).squeeze S128x512
    squeezes_S1x128x512_S128x512
abbrev stSlot (f : Fin 4) : Memref sig .tc .vmem S128x512 .bf16 :=
  (stM f).slice (Rect.unit (s := S256x512) ![128 * (sub f).val, 0] S128x512.size (stsub_inb (sub f))) (fun _ => rfl)
/-- What hop `g` of a flow sends: the staged block at first, later what the hop before it landed. -/
def agSrc (g : Fin 7) (f : Fin 4) : Memref sig .tc .vmem S128x512 .bf16 := match g with
  | ⟨0, _⟩ => stSlot f
  | ⟨n + 1, h⟩ => agSlot ⟨n, Nat.lt_of_succ_lt h⟩ f

/-! ## The layout facts of those pieces -/

theorem halfPacked (i : Fin 2) : (halfR i).PackedRows (EltTy.packing .bf16) := match i with
  | 0 => packedbf16_S2048x1024_S1024x1024_0_0 | 1 => packedbf16_S2048x1024_S1024x1024_1024_0
theorem headPacked (h : Fin 8) : (headR h).PackedRows (EltTy.packing .bf16) := match h with
  | 0 => packedbf16_S2048x1024_S2048x128_0_0 | 1 => packedbf16_S2048x1024_S2048x128_0_128
  | 2 => packedbf16_S2048x1024_S2048x128_0_256 | 3 => packedbf16_S2048x1024_S2048x128_0_384
  | 4 => packedbf16_S2048x1024_S2048x128_0_512 | 5 => packedbf16_S2048x1024_S2048x128_0_640
  | 6 => packedbf16_S2048x1024_S2048x128_0_768 | 7 => packedbf16_S2048x1024_S2048x128_0_896
theorem ctxPacked (h : Fin 8) : (ctxR h).PackedRows (EltTy.packing .bf16) := match h with
  | 0 => packedbf16_S256x1024_S256x128_0_0 | 1 => packedbf16_S256x1024_S256x128_0_128
  | 2 => packedbf16_S256x1024_S256x128_0_256 | 3 => packedbf16_S256x1024_S256x128_0_384
  | 4 => packedbf16_S256x1024_S256x128_0_512 | 5 => packedbf16_S256x1024_S256x128_0_640
  | 6 => packedbf16_S256x1024_S256x128_0_768 | 7 => packedbf16_S256x1024_S256x128_0_896
theorem rsRWords (j : Fin 7) : (rsR j).WholeWords (EltTy.packing .bf16) := match j with
  | 0 => wordsbf16_S7x256x1024_S1x256x1024_0_0_0 | 1 => wordsbf16_S7x256x1024_S1x256x1024_1_0_0
  | 2 => wordsbf16_S7x256x1024_S1x256x1024_2_0_0 | 3 => wordsbf16_S7x256x1024_S1x256x1024_3_0_0
  | 4 => wordsbf16_S7x256x1024_S1x256x1024_4_0_0 | 5 => wordsbf16_S7x256x1024_S1x256x1024_5_0_0
  | 6 => wordsbf16_S7x256x1024_S1x256x1024_6_0_0
theorem rsWords (j : Fin 7) : (rsSlot j).view.WordExact :=
  ((Memref.isWhole_whole _).wordExact_slice rfl _ (rsRWords j)).reshape _ _
theorem outSrcWords (d : Dev nD) (j : Fin 7) : (outSrc d j).view.WordExact :=
  (Memref.isWhole_whole _).wordExact_slice rfl _ (k0_off10_wordsbf16 d j)
theorem agsubWords (g : Fin 7) (s : Fin 2) :
    (Rect.unit (s := S7x256x512) ![g.val, 128 * s.val, 0] S1x128x512.size (agsub_inb g s)).WholeWords (EltTy.packing .bf16) := match g, s with
  | 0, 0 => wordsbf16_S7x256x512_S1x128x512_0_0_0
  | 0, 1 => wordsbf16_S7x256x512_S1x128x512_0_128_0
  | 1, 0 => wordsbf16_S7x256x512_S1x128x512_1_0_0
  | 1, 1 => wordsbf16_S7x256x512_S1x128x512_1_128_0
  | 2, 0 => wordsbf16_S7x256x512_S1x128x512_2_0_0
  | 2, 1 => wordsbf16_S7x256x512_S1x128x512_2_128_0
  | 3, 0 => wordsbf16_S7x256x512_S1x128x512_3_0_0
  | 3, 1 => wordsbf16_S7x256x512_S1x128x512_3_128_0
  | 4, 0 => wordsbf16_S7x256x512_S1x128x512_4_0_0
  | 4, 1 => wordsbf16_S7x256x512_S1x128x512_4_128_0
  | 5, 0 => wordsbf16_S7x256x512_S1x128x512_5_0_0
  | 5, 1 => wordsbf16_S7x256x512_S1x128x512_5_128_0
  | 6, 0 => wordsbf16_S7x256x512_S1x128x512_6_0_0
  | 6, 1 => wordsbf16_S7x256x512_S1x128x512_6_128_0
theorem agSlotWords (g : Fin 7) (f : Fin 4) : (agSlot g f).view.WordExact :=
  ((agM_whole f).wordExact_slice rfl _ (agsubWords g (sub f))).reshape _ _
theorem stsubWords (s : Fin 2) :
    (Rect.unit (s := S256x512) ![128 * s.val, 0] S128x512.size (stsub_inb s)).WholeWords (EltTy.packing .bf16) := match s with
  | 0 => wordsbf16_S256x512_S128x512_0_0 | 1 => wordsbf16_S256x512_S128x512_128_0
theorem agSrcWords (g : Fin 7) (f : Fin 4) : (agSrc g f).view.WordExact := match g with
  | ⟨0, _⟩ => (stM_whole f).wordExact_slice rfl _ (stsubWords (sub f))
  | ⟨n + 1, h⟩ => agSlotWords ⟨n, Nat.lt_of_succ_lt h⟩ f

/-! ## The semaphores and the devices they and the copies name -/

theorem sem21_inb (i : Fin 21) : ∀ a, (![i.val] : Fin 1 → ℕ) a + S1.size a ≤ S21.size a := by revert i; decide
theorem sem14_inb (i : Fin 14) : ∀ a, (![i.val] : Fin 1 → ℕ) a + S1.size a ≤ S14.size a := by revert i; decide
def sem21 (A : DmaSems sig S21) (i : Fin 21) : DmaSem sig :=
  ((A.slice (Rect.unit (s := S21) ![i.val] S1.size (sem21_inb i))).squeeze S_ squeezes_S1_S_).sem
def sem14 (A : DmaSems sig S14) (i : Fin 14) : DmaSem sig :=
  ((A.slice (Rect.unit (s := S14) ![i.val] S1.size (sem14_inb i))).squeeze S_ squeezes_S1_S_).sem
def rsSend (j : Fin 7) : DmaSem sig := sem21 cc0_scratch9 ⟨j.val, by omega⟩
def rsRecv (j : Fin 7) : DmaSem sig := sem21 cc0_scratch10 ⟨j.val, by omega⟩
def agSend (g : Fin 7) (f : Fin 4) : DmaSem sig := match f with
  | 0 => sem21 cc0_scratch9 ⟨7 + 2 * g.val, by omega⟩ | 1 => sem21 cc0_scratch9 ⟨7 + 2 * g.val + 1, by omega⟩
  | 2 => sem14 cc0_scratch11 ⟨2 * g.val, by omega⟩ | 3 => sem14 cc0_scratch11 ⟨2 * g.val + 1, by omega⟩
def agRecv (g : Fin 7) (f : Fin 4) : DmaSem sig := match f with
  | 0 => sem21 cc0_scratch10 ⟨7 + 2 * g.val, by omega⟩ | 1 => sem21 cc0_scratch10 ⟨7 + 2 * g.val + 1, by omega⟩
  | 2 => sem14 cc0_scratch12 ⟨2 * g.val, by omega⟩ | 3 => sem14 cc0_scratch12 ⟨2 * g.val + 1, by omega⟩
/-- The runtime's barrier semaphore, one per device. -/
abbrev barS : Sem sig := (SemArray.scalar (sig.barrier 0 rfl) : Sems sig S_).sem

/-- The device hop `j` of the reduce-scatter addresses. -/
def rsDev (d : Dev nD) (j : Fin 7) : Dev nD := match j with
  | 0 => ⟨k0_dev3 d, k0_dev3_lt d⟩
  | 1 => ⟨k0_dev4 d, k0_dev4_lt d⟩
  | 2 => ⟨k0_dev5 d, k0_dev5_lt d⟩
  | 3 => ⟨k0_dev6 d, k0_dev6_lt d⟩
  | 4 => ⟨k0_dev7 d, k0_dev7_lt d⟩
  | 5 => ⟨k0_dev8 d, k0_dev8_lt d⟩
  | 6 => ⟨k0_dev9 d, k0_dev9_lt d⟩
/-- The device hop `g` of a flow of the all-gather addresses. -/
def agDev (d : Dev nD) (g : Fin 7) (f : Fin 4) : Dev nD := match g, f with
  | 0, 0 => ⟨k0_dev10 d, k0_dev10_lt d⟩
  | 0, 1 => ⟨k0_dev11 d, k0_dev11_lt d⟩
  | 0, 2 => ⟨k0_dev12 d, k0_dev12_lt d⟩
  | 0, 3 => ⟨k0_dev13 d, k0_dev13_lt d⟩
  | 1, 0 => ⟨k0_dev14 d, k0_dev14_lt d⟩
  | 1, 1 => ⟨k0_dev15 d, k0_dev15_lt d⟩
  | 1, 2 => ⟨k0_dev16 d, k0_dev16_lt d⟩
  | 1, 3 => ⟨k0_dev17 d, k0_dev17_lt d⟩
  | 2, 0 => ⟨k0_dev18 d, k0_dev18_lt d⟩
  | 2, 1 => ⟨k0_dev19 d, k0_dev19_lt d⟩
  | 2, 2 => ⟨k0_dev20 d, k0_dev20_lt d⟩
  | 2, 3 => ⟨k0_dev21 d, k0_dev21_lt d⟩
  | 3, 0 => ⟨k0_dev22 d, k0_dev22_lt d⟩
  | 3, 1 => ⟨k0_dev23 d, k0_dev23_lt d⟩
  | 3, 2 => ⟨k0_dev24 d, k0_dev24_lt d⟩
  | 3, 3 => ⟨k0_dev25 d, k0_dev25_lt d⟩
  | 4, 0 => ⟨k0_dev26 d, k0_dev26_lt d⟩
  | 4, 1 => ⟨k0_dev27 d, k0_dev27_lt d⟩
  | 4, 2 => ⟨k0_dev28 d, k0_dev28_lt d⟩
  | 4, 3 => ⟨k0_dev29 d, k0_dev29_lt d⟩
  | 5, 0 => ⟨k0_dev30 d, k0_dev30_lt d⟩
  | 5, 1 => ⟨k0_dev31 d, k0_dev31_lt d⟩
  | 5, 2 => ⟨k0_dev32 d, k0_dev32_lt d⟩
  | 5, 3 => ⟨k0_dev33 d, k0_dev33_lt d⟩
  | 6, 0 => ⟨k0_dev34 d, k0_dev34_lt d⟩
  | 6, 1 => ⟨k0_dev35 d, k0_dev35_lt d⟩
  | 6, 2 => ⟨k0_dev36 d, k0_dev36_lt d⟩
  | 6, 3 => ⟨k0_dev37 d, k0_dev37_lt d⟩

/-! ## The steps -/

abbrev P (F : FTy → Type) : Type 1 := Prog (TpuEff nD τ sig (Elt F) Λ₀ .tc) PUnit

/-- `f 0`, then `f 1`, …, then `f (n-1)`, then `k`. -/
def seqK {α : Type 1} : (n : ℕ) → (Fin n → α → α) → α → α
  | 0, _, k => k
  | n + 1, f, k => f 0 (seqK n (fun i => f i.succ) k)

abbrev wR : Rect S1024x1024 := Rect.unit (s := S1024x1024) ![0, 0] S1024x1024.size inb_S1024x1024_S1024x1024_0_0
abbrev csR : Rect S2048x128 := Rect.unit (s := S2048x128) ![0, 0] S2048x128.size inb_S2048x128_S2048x128_0_0
abbrev pmR : Rect S128x128 := Rect.unit (s := S128x128) ![0, 0] S128x128.size inb_S128x128_S128x128_0_0
abbrev cR : Rect S256x1024 := Rect.unit (s := S256x1024) ![0, 0] S256x1024.size inb_S256x1024_S256x1024_0_0
abbrev stR : Rect S256x512 := Rect.unit (s := S256x512) ![0, 0] S256x512.size inb_S256x512_S256x512_0_0

/-- The handshake: tell both neighbours this device is in the kernel, wait for both. -/
def handshake (d : Dev nD) (k : P F) : P F :=
  .op (.semSignal ((⟨k0_dev1 d, k0_dev1_lt d⟩ : Dev nD), .tc) barS (1#32 : BitVec 32).toInt) fun _ =>
  .op (.semSignal ((⟨k0_dev2 d, k0_dev2_lt d⟩ : Dev nD), .tc) barS (1#32 : BitVec 32).toInt) fun _ =>
  .op (.semWait barS (2#32 : BitVec 32).toInt) fun _ => k

/-- One projection of half `i` of the rows of `x` by the weights of `W`, into `T`. -/
def projOne (W : Memref sig .tc .vmem S1024x1024 .bf16) (T : Memref sig .tc .vmem S2048x1024 .bf16) (hT : T.IsWhole) (i : Fin 2)
    (x : Vec F S1024x1024 .bf16) (k : P F) : P F :=
  .op (.load W wR.toLoadRect (View.loadsAt_vmem h_S1024x1024)) fun (w : Vec F S1024x1024 .bf16) =>
  .op (.load T (halfR i).toLoadRect (View.loadsAt_vmem h_S1024x1024)) fun (_ : Vec F S1024x1024 .bf16) =>
  .op (.store T (halfR i) (k0_pay6 x w) Finset.univ (View.stores_vmem h_S1024x1024 (hT.storeExact_slice rfl _ (halfPacked i)) (fun _ => rfl)) (.inl rfl)) fun _ => k

/-- The three projections of half `i` of the rows. -/
def projHalf (i : Fin 2) (k : P F) : P F :=
  .op (.load xM (halfR i).toLoadRect (View.loadsAt_vmem h_S1024x1024)) fun (x : Vec F S1024x1024 .bf16) =>
  projOne wqM qM (Memref.isWhole_whole _) i x <| projOne wkM kM (Memref.isWhole_whole _) i x <| projOne wvM vM (Memref.isWhole_whole _) i x k

/-- The rotary embedding of head `h`, of the keys and then of the queries (which it also scales). -/
def ropeStep (pm : FVec F S128x128 .bf16) (co si : FVec F S2048x128 .f32) (h : Fin 8) (k : P F) : P F :=
  .op (.load kM (headR h).toLoadRect (View.loadsAt_vmem h_S2048x128)) fun (a : Vec F S2048x128 .bf16) =>
  .op (.load kM (headR h).toLoadRect (View.loadsAt_vmem h_S2048x128)) fun (_ : Vec F S2048x128 .bf16) =>
  .op (.store kM (headR h) (k0_pay13 pm co si a) Finset.univ
    (View.stores_vmem h_S2048x128 ((Memref.isWhole_whole _).storeExact_slice rfl _ (headPacked h)) (fun _ => rfl)) (.inl rfl)) fun _ =>
  .op (.load qM (headR h).toLoadRect (View.loadsAt_vmem h_S2048x128)) fun (b : Vec F S2048x128 .bf16) =>
  .op (.load qM (headR h).toLoadRect (View.loadsAt_vmem h_S2048x128)) fun (_ : Vec F S2048x128 .bf16) =>
  .op (.store qM (headR h) (k0_pay32 pm co si b) Finset.univ
    (View.stores_vmem h_S2048x128 ((Memref.isWhole_whole _).storeExact_slice rfl _ (headPacked h)) (fun _ => rfl)) (.inl rfl)) fun _ => k

/-- Attention of chunk `j`'s rows at head `h`. -/
def headStep (d : Dev nD) (j h : Fin 8) (k : P F) : P F :=
  .op (.load qM (qR d j h).toLoadRect (View.loadsAt_vmem h_S256x128)) fun (q : Vec F S256x128 .bf16) =>
  .op (.load kM (headR h).toLoadRect (View.loadsAt_vmem h_S2048x128)) fun (kk : Vec F S2048x128 .bf16) =>
  .op (.load vM (headR h).toLoadRect (View.loadsAt_vmem h_S2048x128)) fun (v : Vec F S2048x128 .bf16) =>
  .op (.load ctxM (ctxR h).toLoadRect (View.loadsAt_vmem h_S256x128)) fun (_ : Vec F S256x128 .bf16) =>
  .op (.store ctxM (ctxR h) (k0_pay35 q kk v) Finset.univ
    (View.stores_vmem h_S256x128 ((Memref.isWhole_whole _).storeExact_slice rfl _ (ctxPacked h)) (fun _ => rfl)) (.inl rfl)) fun _ => k

/-- A store of chunk `j`'s rows of the result. -/
def outStore (d : Dev nD) (j : Fin 8) (v : FVec F S256x1024 .bf16) (k : P F) : P F :=
  .op (.load outM (outR d j).toLoadRect (View.loadsAt_vmem h_S256x1024)) fun (_ : Vec F S256x1024 .bf16) =>
  .op (.store outM (outR d j) v Finset.univ
    (View.stores_vmem h_S256x1024 ((Memref.isWhole_whole _).storeExact_slice rfl _ (k0_off9_packedbf16 d j)) (fun _ => rfl)) (.inl rfl)) fun _ => k

/-- The chunk's output projection: the context by the rows of `Wo` this device holds. -/
def projOut (d : Dev nD) (j : Fin 8) (k : P F) : P F :=
  .op (.load ctxM cR.toLoadRect (View.loadsAt_vmem h_S256x1024)) fun (c : Vec F S256x1024 .bf16) =>
  .op (.load woM wR.toLoadRect (View.loadsAt_vmem h_S1024x1024)) fun (w : Vec F S1024x1024 .bf16) =>
  outStore d j (k0_pay45 c w) k

/-- Hop `j` of the reduce-scatter: send, and the two waits for it. -/
def rsStart (d : Dev nD) (j : Fin 7) (k : P F) : P F :=
  .op (.enqueueDma (outSrc d j) (.remote (Dev.tc (rsDev d j)) (rsSlot j) (.dma (rsSend j))) (.dma (rsRecv j)) (outSrcWords d j) (rsWords j)
    ⟨⟨rfl, Or.inl rfl⟩, trivial⟩) fun _ => k
def rsWait (d : Dev nD) (j : Fin 7) (k : P F) : P F :=
  .op (.waitDma2 (rsSend j) (rsSlot j) (outSrc d j) (rsWords j) (outSrcWords d j)) fun _ =>
  .op (.waitDma2 (rsRecv j) (outSrc d j) (rsSlot j) (outSrcWords d j) (rsWords j)) fun _ => k

/-- Add what hop `j` landed to chunk `j + 1`. -/
def accStep (d : Dev nD) (j : Fin 7) (k : P F) : P F :=
  .op (.load outM (outR d j.succ).toLoadRect (View.loadsAt_vmem h_S256x1024)) fun (a : Vec F S256x1024 .bf16) =>
  .op (.load rsM (rsR j).toLoadRect (View.loadsAt_vmem h_S1x256x1024)) fun (b : Vec F S1x256x1024 .bf16) =>
  outStore d j.succ (k0_pay57 a b) k

def chunkPart (d : Dev nD) (j : Fin 8) (k : P F) : P F := seqK 8 (headStep d j) (projOut d j k)

/-- Chunks `0 … 7` with the reduce-scatter between them. -/
def chunkStep (d : Dev nD) (j : Fin 7) (k : P F) : P F :=
  rsStart d j <| chunkPart d j.succ <| rsWait d j <| accStep d j k
def chunks (d : Dev nD) (k : P F) : P F := chunkPart d 0 <| seqK 7 (chunkStep d) k

/-- Stage the finished block's two halves for the all-gather. -/
def stage (d : Dev nD) (k : P F) : P F :=
  .op (.load outM (Rect.unit (s := S2048x1024) (k0_off11 d) S256x512.size (k0_off11_inb d)).toLoadRect (View.loadsAt_vmem h_S256x512)) fun (a : Vec F S256x512 .bf16) =>
  .op (.load stpM stR.toLoadRect (View.loadsAt_vmem h_S256x512)) fun (_ : Vec F S256x512 .bf16) =>
  .op (.store stpM stR (k0_pay143 a) Finset.univ
    (View.stores_vmem h_S256x512 ((Memref.isWhole_whole _).storeExact_slice rfl _ packedbf16_S256x512_S256x512_0_0) (fun _ => rfl)) (.inl rfl)) fun _ =>
  .op (.load outM (Rect.unit (s := S2048x1024) (k0_off12 d) S256x512.size (k0_off12_inb d)).toLoadRect (View.loadsAt_vmem h_S256x512)) fun (b : Vec F S256x512 .bf16) =>
  .op (.load stmM stR.toLoadRect (View.loadsAt_vmem h_S256x512)) fun (_ : Vec F S256x512 .bf16) =>
  .op (.store stmM stR (k0_pay144 b) Finset.univ
    (View.stores_vmem h_S256x512 ((Memref.isWhole_whole _).storeExact_slice rfl _ packedbf16_S256x512_S256x512_0_0) (fun _ => rfl)) (.inl rfl)) fun _ => k

theorem agSlot_sc (d : Dev nD) (g : Fin 7) (f : Fin 4) :
    (show Memref sig (Dev.tc (agDev d g f) : Thread nD τ).2.kind .vmem S128x512 .bf16 from agSlot g f).view.ref.isScScratch = false := match f with
  | 0 => rfl | 1 => rfl | 2 => rfl | 3 => rfl
/-- Hop `g` of flow `f`: start, and the two waits for it. -/
def agStart (d : Dev nD) (g : Fin 7) (f : Fin 4) (k : P F) : P F :=
  .op (.enqueueDma (agSrc g f) (.remote (Dev.tc (agDev d g f)) (agSlot g f) (.dma (agSend g f)) (agSlot_sc d g f)) (.dma (agRecv g f)) (agSrcWords g f) (agSlotWords g f)
    ⟨⟨rfl, Or.inl rfl⟩, trivial⟩) fun _ => k
def agWait (g : Fin 7) (f : Fin 4) (k : P F) : P F :=
  .op (.waitDma2 (agSend g f) (agSlot g f) (agSrc g f) (agSlotWords g f) (agSrcWords g f)) fun _ =>
  .op (.waitDma2 (agRecv g f) (agSrc g f) (agSlot g f) (agSrcWords g f) (agSlotWords g f)) fun _ => k

/-- Put what hop `g` landed, from the left and from the right, into the result. -/
def agWrite (d : Dev nD) (g : Fin 7) (k : P F) : P F :=
  .op (.load agpM (agR g).toLoadRect (View.loadsAt_vmem h_S1x256x512)) fun (a : Vec F S1x256x512 .bf16) =>
  .op (.load outM (outP d g).toLoadRect (View.loadsAt_vmem h_S256x512)) fun (_ : Vec F S256x512 .bf16) =>
  .op (.store outM (outP d g) (k0_pay1 a) Finset.univ
    (View.stores_vmem h_S256x512 ((Memref.isWhole_whole _).storeExact_slice rfl _ (k0_off13_packedbf16 d g)) (fun _ => rfl)) (.inl rfl)) fun _ =>
  .op (.load agmM (agR g).toLoadRect (View.loadsAt_vmem h_S1x256x512)) fun (b : Vec F S1x256x512 .bf16) =>
  .op (.load outM (outMm d g).toLoadRect (View.loadsAt_vmem h_S256x512)) fun (_ : Vec F S256x512 .bf16) =>
  .op (.store outM (outMm d g) (k0_pay1 b) Finset.univ
    (View.stores_vmem h_S256x512 ((Memref.isWhole_whole _).storeExact_slice rfl _ (k0_off14_packedbf16 d g)) (fun _ => rfl)) (.inl rfl)) fun _ => k

/-- Hop `g` on all four flows, hop `g + 1` of each started as soon as hop `g` has landed. -/
def agHop (d : Dev nD) (g : Fin 6) (k : P F) : P F :=
  seqK 4 (fun f k => agWait g.castSucc f <| agStart d g.succ f k) <| agWrite d g.castSucc k
def gather (d : Dev nD) (k : P F) : P F :=
  stage d <| seqK 4 (agStart d 0) <| seqK 6 (agHop d) <| seqK 4 (agWait 6) <| agWrite d 6 k

/-- The whole body. -/
def walk : P F :=
  .op .deviceId fun d => handshake d <|
  .op (.load pmM pmR.toLoadRect (View.loadsAt_vmem h_S128x128)) fun (pm : Vec F S128x128 .bf16) =>
  .op (.load cosM csR.toLoadRect (View.loadsAt_vmem h_S2048x128)) fun (co : Vec F S2048x128 .bf16) =>
  .op (.load sinM csR.toLoadRect (View.loadsAt_vmem h_S2048x128)) fun (si : Vec F S2048x128 .bf16) =>
  projHalf 0 <| projHalf 1 <| seqK 8 (ropeStep (k0_pay2 pm) (k0_pay3 co) (k0_pay4 si)) <| chunks d <| gather d (.ret ⟨⟩)

set_option maxRecDepth 65536 in
set_option maxHeartbeats 0 in
theorem body_eq_walk : cc0_body (F := F) xM (Memref.isWhole_whole _) wqM (Memref.isWhole_whole _) wkM (Memref.isWhole_whole _) wvM (Memref.isWhole_whole _)
    woM (Memref.isWhole_whole _) cosM (Memref.isWhole_whole _) sinM (Memref.isWhole_whole _) pmM (Memref.isWhole_whole _) outM (Memref.isWhole_whole _)
    qM (Memref.isWhole_whole _) kM (Memref.isWhole_whole _) vM (Memref.isWhole_whole _) ctxM (Memref.isWhole_whole _) rsM (Memref.isWhole_whole _)
    stpM (Memref.isWhole_whole _) agpM (Memref.isWhole_whole _) stmM (Memref.isWhole_whole _) agmM (Memref.isWhole_whole _)
    cc0_scratch9 cc0_scratch10 cc0_scratch11 cc0_scratch12 = walk := by
  rfl

end Cert.Attn

end
-- ==== Proof.Ring.lean ====
/-
The ring of eight devices and the schedule of its cells: which device every transfer of the body addresses, the
semaphores it completes on, what each cell's one round hands over, and what every device owes at each point. Nothing
here depends on what the blocks hold: the sums of the reduce-scatter enter as a function `A` of the device and the hop.
-/
module

public import proofs.«01_k».proof.Proof.Walk
public import Idealize.ShloMosaic.Lib.Pipeline.Launch
public import Idealize.ShloMosaic.Lib.Pipeline.Kit
public import Idealize.ShloMosaic.Lib.Tactic
public import Idealize.ShloMosaic.Lib.Pointwise.Index

@[expose] public section

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## The ring -/

set_option backward.proofsInPublic true in
def nxt (c : Dev nD) : Dev nD := ⟨(c.val + 1) % 8, Nat.mod_lt _ (by decide)⟩
set_option backward.proofsInPublic true in
def prv (c : Dev nD) : Dev nD := ⟨(c.val + 7) % 8, Nat.mod_lt _ (by decide)⟩

theorem prv_nxt (c : Dev nD) : prv (nxt c) = c := by revert c; decide
theorem nxt_prv (c : Dev nD) : nxt (prv c) = c := by revert c; decide
theorem nxt_ne_prv (c : Dev nD) : nxt c ≠ prv c := by revert c; decide
def ring : Dev nD ≃ Dev nD := ⟨nxt, prv, prv_nxt, nxt_prv⟩

/-- The device a hop whose direction is `b` (`true`: rightwards) addresses, and the one it hears from. -/
def toward (b : Bool) (c : Dev nD) : Dev nD := if b then nxt c else prv c
theorem toward_not (b : Bool) (c : Dev nD) : toward (!b) (toward b c) = c := by revert b c; decide

theorem dev1_eq (c : Dev nD) : (⟨k0_dev1 c, k0_dev1_lt c⟩ : Dev nD) = nxt c := by revert c; decide +kernel
theorem dev2_eq (c : Dev nD) : (⟨k0_dev2 c, k0_dev2_lt c⟩ : Dev nD) = prv c := by revert c; decide +kernel

/-! ## The transfers -/

/-- The transfers a device starts: seven hops of the reduce-scatter, and seven hops on each of four flows of the all-gather. -/
abbrev Tr : Type := Fin 7 ⊕ (Fin 7 × Fin 4)
/-- Their order in the program. -/
def rank : Tr → ℕ
  | .inl j => j.val
  | .inr (g, f) => 7 + 4 * g.val + f.val
/-- The direction of a transfer. -/
def dirT : Tr → Bool
  | .inl _ => true
  | .inr (_, f) => decide (f.val < 2)
abbrev tgt (d : Dev nD) (t : Tr) : Dev nD := toward (dirT t) d
theorem rank_inj : Function.Injective rank := by decide +kernel
theorem rank_lt (t : Tr) : rank t < 35 := by revert t; decide

theorem rsDev_eq (d : Dev nD) (j : Fin 7) : rsDev d j = tgt d (.inl j) := by revert d j; decide +kernel
theorem agDev_eq (d : Dev nD) (g : Fin 7) (f : Fin 4) : agDev d g f = tgt d (.inr (g, f)) := by revert d g f; decide +kernel

/-- The semaphores of a transfer: `false` the one its source is released by, `true` the one its landing is told by. -/
def xs : Tr × Bool → DmaSem sig
  | (.inl j, false) => rsSend j
  | (.inl j, true) => rsRecv j
  | (.inr (g, f), false) => agSend g f
  | (.inr (g, f), true) => agRecv g f
theorem xs_inj : Function.Injective xs := by decide +kernel

abbrev barCell (c : Dev nD) : GSem nD τ sig := ((c : Thread nD τ), .reg barS)
abbrev xCell (c : Dev nD) (x : Tr × Bool) : GSem nD τ sig := ((c : Thread nD τ), .dma (xs x))

/-- The kernel's own semaphores, -/
abbrev osem : Tr × Bool → SemLoc sig := fun x => .dma (xs x)
/-- and with the runtime's barrier semaphore. -/
def csem : Unit ⊕ (Tr × Bool) → SemLoc sig
  | .inl _ => .reg barS
  | .inr x => .dma (xs x)
abbrev kcell (ck : Dev nD × (Unit ⊕ (Tr × Bool))) : GSem nD τ sig := ((ck.1 : Thread nD τ), csem ck.2)

theorem csem_inj : Function.Injective csem := fun a b h => by
  match a, b with
  | .inl _, .inl _ => rfl
  | .inl _, .inr x => cases h
  | .inr x, .inl _ => cases h
  | .inr x, .inr y => exact congrArg Sum.inr (xs_inj (by injection h))
theorem kcell_injective : Function.Injective (kcell : Dev nD × (Unit ⊕ (Tr × Bool)) → GSem nD τ sig) := fun ⟨a, x⟩ ⟨b, y⟩ h => by
  have h1 := congrArg (fun g : GSem nD τ sig => g.1.1) h
  have h2 := congrArg Prod.snd h
  dsimp only [kcell] at h1 h2
  exact Prod.ext h1 (csem_inj h2)

/-- Which transfer a semaphore serves. -/
def kindOf (s : SemLoc sig) : Option (Tr × Bool) := by
  classical
  exact if h : ∃ x, s = .dma (xs x) then some h.choose else none
theorem kindOf_xs (x : Tr × Bool) : kindOf (.dma (xs x)) = some x := by
  classical
  unfold kindOf
  have h : ∃ y, (SemLoc.dma (xs x) : SemLoc sig) = .dma (xs y) := ⟨x, rfl⟩
  rw [dif_pos h]
  have := h.choose_spec
  exact congrArg some (xs_inj (by injection this with h'; exact h'.symm))
theorem kindOf_bar : kindOf (.reg barS) = none := by
  classical
  exact dif_neg fun ⟨x, h⟩ => by cases h
theorem dma_ne_bar (q : DmaSem sig) : (SemLoc.dma q : SemLoc sig) ≠ .reg barS := fun h => by cases h
theorem kindOf_eq_some {s : SemLoc sig} {x : Tr × Bool} (h : kindOf s = some x) : s = .dma (xs x) := by
  classical
  unfold kindOf at h
  split at h
  · rename_i h'
    have := h'.choose_spec
    rw [this]; injection h with h; rw [h]
  · cases h

/-! ## What the pieces hold -/

/-- The credit of one landing. -/
abbrev NR : ℕ := (rsSlot 0).view.dmaCredit
abbrev NA : ℕ := (agSlot 0 0).view.dmaCredit
def NT : Tr → ℕ
  | .inl _ => NR
  | .inr _ => NA
theorem NT_pos (t : Tr) : 0 < NT t := by
  rcases t with j | gf
  · exact View.dmaCredit_pos _ (by decide)
  · exact View.dmaCredit_pos _ (by decide)

/-- `k` steps to the right of `c`. -/
def fwd (c : Dev nD) (k : ℕ) : Dev nD := ⟨(c.val + k) % 8, Nat.mod_lt _ (by decide)⟩
/-- `k` steps to the left of `c` (`k ≤ 8`). -/
def bwd (c : Dev nD) (k : ℕ) : Dev nD := ⟨(c.val + (8 - k)) % 8, Nat.mod_lt _ (by decide)⟩
/-- The device whose finished block hop `g` of flow `f` lands on `c`. -/
def og (c : Dev nD) (g : Fin 7) (f : Fin 4) : Dev nD := if f.val < 2 then bwd c (g.val + 1) else fwd c (g.val + 1)

theorem og_zero (d : Dev nD) (f : Fin 4) : og (tgt d (.inr (0, f))) 0 f = d := by revert d f; decide
theorem og_succ (d : Dev nD) (g : Fin 6) (f : Fin 4) : og (tgt d (.inr (g.succ, f))) g.succ f = og d g.castSucc f := by revert d g f; decide

variable (A : Dev nD → Fin 8 → Vec F S256x1024 .bf16)

/-- The quarter of device `o`'s finished block that flow `f` carries. -/
def piece (o : Dev nD) (f : Fin 4) : Vec F S128x512 .bf16 := fun i =>
  A o 7 (ix2 ⟨128 * (f.val % 2) + (i 0).val, by have h : (i 0).val < 128 := (i 0).isLt; omega⟩
    ⟨512 * (f.val / 2) + (i 1).val, by have h : (i 1).val < 512 := (i 1).isLt; omega⟩)

abbrev own {sh : Shape} (c : Dev nD) (M : Memref sig .tc .vmem sh .bf16) (q : PosShare TreeShare) (v : Vec F sh .bf16) : sProp 𝕄 :=
  owns (Ix := Unit) (Name := ℕ) (U := UU) (Lvl := ℕ) (c : Thread nD τ) M q v

/-- The landing place of a transfer, on the device it lands on, before it. -/
def land (c : Dev nD) : Tr → sProp 𝕄
  | .inl j => iprop(∃ v, own c (rsSlot j) fullShare v)
  | .inr (g, f) => iprop(∃ v, own c (agSlot g f) fullShare v)
/-- The same, landed. -/
def recvPay (c : Dev nD) : Tr → sProp 𝕄
  | .inl j => own c (rsSlot j) fullShare (A (prv c) j.castSucc)
  | .inr (g, f) => own c (agSlot g f) fullShare (piece A (og c g f) f)
/-- What a transfer's source gets back: of the all-gather half of what it owns, the other half having stayed readable. -/
def sendPay (c : Dev nD) : Tr → sProp 𝕄
  | .inl j => iprop(∃ v, own c (outSrc c j) fullShare v)
  | .inr (g, f) => own c (agSrc g f) fullShare.left (piece A (og (tgt c (.inr (g, f))) g f) f)
/-- What a neighbour's signal hands a device: the landing places, on that neighbour, of the transfers toward it. -/
def barPay (c : Dev nD) (b : Bool) : sProp 𝕄 :=
  bigSep (Finset.univ.filter fun t => dirT t = b) fun t => land (toward b c) t

omit [FloatOps F] in
instance land_storable (c : Dev nD) (t : Tr) : BI.Storable (upEmb : UEmb _ 𝕄) (land (F := F) c t) := by
  rcases t with j | ⟨g, f⟩ <;> unfold land <;> infer_instance
omit [FloatOps F] in
instance recvPay_storable (c : Dev nD) (t : Tr) : BI.Storable (upEmb : UEmb _ 𝕄) (recvPay (F := F) A c t) := by
  rcases t with j | ⟨g, f⟩ <;> unfold recvPay <;> infer_instance
omit [FloatOps F] in
instance sendPay_storable (c : Dev nD) (t : Tr) : BI.Storable (upEmb : UEmb _ 𝕄) (sendPay (F := F) A c t) := by
  rcases t with j | ⟨g, f⟩ <;> unfold sendPay <;> infer_instance
omit [FloatOps F] in
instance barPay_storable (c : Dev nD) (b : Bool) : BI.Storable (upEmb : UEmb _ 𝕄) (barPay (F := F) c b) := by
  unfold barPay; infer_instance

/-! ## The schedule -/

/-- What a transfer's cell hands over. -/
def xPay (c : Dev nD) (x : Tr × Bool) : sProp 𝕄 := if x.2 then recvPay A c x.1 else sendPay A c x.1
omit [FloatOps F] in
instance xPay_storable (c : Dev nD) (x : Tr × Bool) : BI.Storable (upEmb : UEmb _ 𝕄) (xPay (F := F) A c x) := by
  unfold xPay; split <;> infer_instance

/-- The credit a semaphore of the kernel is told by. -/
def amt (s : SemLoc sig) : ℕ := match kindOf s with | some x => NT x.1 | none => 1
theorem amt_pos (s : SemLoc sig) : 0 < amt s := by
  unfold amt
  split
  · exact NT_pos _
  · exact Nat.one_pos

/-- One round, round 0: a device's barrier cell has the duties `false` (from its left neighbour) and `true` (from its
    right one) of one unit each; a transfer's cell the duty `false` of the transfer's credit. -/
def Rd : Rounds.Schedule (GSem nD τ sig) Bool 𝕄 where
  duties g r := if r = 0 ∧ g.1.2 = .tc then (if g.2 = .reg barS then Finset.univ else if (kindOf g.2).isSome then {false} else ∅) else ∅
  unitless _ := False
  amount g _ _ := amt g.2
  payload g _ b := if g.2 = .reg barS then barPay g.1.1 b else match kindOf g.2 with | some x => xPay A g.1.1 x | none => iprop(emp)
  amount_pos g _ _ _ := amt_pos g.2

instance Rd_payload_storable (g : GSem nD τ sig) (r : ℕ) (b : Bool) : BI.Storable (upEmb : UEmb _ 𝕄) ((Rd (F := F) A).payload g r b) := by
  show BI.Storable upEmb (if g.2 = .reg barS then barPay g.1.1 b else match kindOf g.2 with | some x => xPay A g.1.1 x | none => iprop(emp))
  (repeat' split) <;> infer_instance

section Sched
variable (c : Dev nD) (x : Tr × Bool)
omit [FloatOps F]

theorem duties_bar : (Rd (F := F) A).duties (barCell c) 0 = Finset.univ := by
  dsimp only [Rd]; rw [if_pos ⟨rfl, rfl⟩, if_pos rfl]
theorem duties_x : (Rd (F := F) A).duties (xCell c x) 0 = {false} := by
  dsimp only [Rd]; rw [if_pos ⟨rfl, rfl⟩, if_neg (dma_ne_bar _), kindOf_xs]; rfl
theorem duties_later (g : GSem nD τ sig) : ∀ r, 1 ≤ r → (Rd (F := F) A).duties g r = ∅ :=
  fun r hr => by dsimp only [Rd]; rw [if_neg fun h => by omega]
theorem amount_bar (b : Bool) : (Rd (F := F) A).amount (barCell c) 0 b = 1 := by dsimp only [Rd]; unfold amt; rw [kindOf_bar]
theorem amount_x (b : Bool) : (Rd (F := F) A).amount (xCell c x) 0 b = NT x.1 := by dsimp only [Rd]; unfold amt; rw [kindOf_xs]
theorem expect_bar : (Rd (F := F) A).expect (barCell c) 0 = 2 := by
  unfold Schedule.expect Schedule.amountOf
  rw [duties_bar, Finset.sum_congr rfl fun d _ => amount_bar A c d, Finset.sum_const, Finset.card_univ, Fintype.card_bool, smul_eq_mul]
theorem expect_x : (Rd (F := F) A).expect (xCell c x) 0 = NT x.1 := by
  unfold Schedule.expect Schedule.amountOf; rw [duties_x, Finset.sum_singleton, amount_x]
theorem payload_bar (b : Bool) : (Rd (F := F) A).payload (barCell c) 0 b = barPay c b := by dsimp only [Rd]; rw [if_pos rfl]
theorem payload_x (b : Bool) : (Rd (F := F) A).payload (xCell c x) 0 b = xPay A c x := by
  dsimp only [Rd]; rw [if_neg (dma_ne_bar _), kindOf_xs]
theorem rest_bar : bigSep ((Rd (F := F) A).duties (barCell c) 0 \ ∅) (fun b => (Rd (F := F) A).payload (barCell c) 0 b)
    = iprop(barPay c false ∗ barPay c true) := by
  rw [Finset.sdiff_empty, duties_bar, bigSep_univ_eq_bigSepL [false, true] (by decide) (by decide), bigSepL_cons_cons, bigSepL_singleton,
    payload_bar, payload_bar]
  rfl
theorem rest_x : bigSep ((Rd (F := F) A).duties (xCell c x) 0 \ ∅) (fun b => (Rd (F := F) A).payload (xCell c x) 0 b) = xPay A c x := by
  rw [Finset.sdiff_empty, duties_x, bigSep_singleton, payload_x]
end Sched

/-! ## What a device owes; the levels -/

/-- What device `d` still owes once its first `n` transfers are started. -/
def owe (n : ℕ) (d : Dev nD) : CellTallies nD τ sig Unit :=
  ∑ t ∈ Finset.univ.filter (fun t : Tr => n ≤ rank t), tallyAt (xCell (tgt d t) (t, true)) () (NT t)
def O₁ (d : Dev nD) : CellTallies nD τ sig Unit := owe 0 d + tallyAt (barCell (prv d)) () 1
def O₀ (d : Dev nD) : CellTallies nD τ sig Unit := O₁ d + tallyAt (barCell (nxt d)) () 1

theorem owe_step (d : Dev nD) (t : Tr) : owe (rank t) d = owe (rank t + 1) d + tallyAt (xCell (tgt d t) (t, true)) () (NT t) := by
  unfold owe
  have : (Finset.univ.filter fun t' : Tr => rank t ≤ rank t') = insert t (Finset.univ.filter fun t' : Tr => rank t + 1 ≤ rank t') := by
    ext t'
    simp only [Finset.mem_filter, Finset.mem_univ, true_and, Finset.mem_insert]
    constructor
    · intro h
      rcases Nat.eq_or_lt_of_le h with h | h
      · exact .inl (rank_inj h.symm)
      · exact .inr h
    · rintro (rfl | h) <;> omega
  rw [this, Finset.sum_insert (by simp), add_comm]
theorem owe_end (d : Dev nD) : owe 35 d = 0 := by
  unfold owe
  rw [Finset.filter_false_of_mem fun t _ => by have := rank_lt t; omega, Finset.sum_empty]

theorem sum_apply {T : Type} (S : Finset T) (f : T → CellTallies nD τ sig Unit) (g : GSem nD τ sig) (u : Unit) :
    (∑ t ∈ S, f t) g u = ∑ t ∈ S, f t g u := by
  classical
  induction S using Finset.induction_on with
  | empty => rfl
  | insert a S ha ih => rw [Finset.sum_insert ha, Finset.sum_insert ha, Pi.add_apply, Finsupp.add_apply, ih]

theorem owe_pos {n : ℕ} {d : Dev nD} {g : GSem nD τ sig} {u : Unit} (h : 0 < owe n d g u) :
    ∃ t, n ≤ rank t ∧ g = xCell (tgt d t) (t, true) := by
  unfold owe at h
  rw [sum_apply] at h
  by_contra hn
  refine absurd h (Nat.not_lt.mpr (le_of_eq (Finset.sum_eq_zero fun t ht => ?_)))
  rw [tallyAt_apply, if_neg fun h' => hn ⟨t, (Finset.mem_filter.mp ht).2, h'.1⟩]
theorem O₀_pos {d : Dev nD} {g : GSem nD τ sig} {u : Unit} (h : 0 < O₀ d g u) :
    (∃ t, g = xCell (tgt d t) (t, true)) ∨ ∃ c, g = barCell c := by
  unfold O₀ O₁ at h
  rw [Pi.add_apply, Finsupp.add_apply, Pi.add_apply, Finsupp.add_apply, tallyAt_apply, tallyAt_apply] at h
  by_contra hn
  rw [not_or] at hn
  rw [if_neg (fun h' => hn.2 ⟨_, h'.1⟩), if_neg (fun h' => hn.2 ⟨_, h'.1⟩)] at h
  obtain ⟨t, -, ht⟩ := owe_pos (n := 0) (by simpa using h)
  exact hn.1 ⟨t, ht⟩

def L (g : GSem nD τ sig) : Finset Unit := if g.1.2 = .tc then {()} else ∅
/-- A landing cell at two more than its transfer's place in the program, a barrier cell at 1, every other cell at 0. -/
def lv (g : GSem nD τ sig) (_ : Unit) : ℕ :=
  if g.2 = .reg barS then 1 else match kindOf g.2 with | some (t, true) => 2 + rank t | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_recv (c : Dev nD) (t : Tr) (u : Unit) : lv (xCell c (t, true)) u = 2 + rank t := by
  unfold lv; rw [if_neg (dma_ne_bar _), kindOf_xs]
theorem lv_send (c : Dev nD) (t : Tr) (u : Unit) : lv (xCell c (t, false)) u = 0 := by
  unfold lv; rw [if_neg (dma_ne_bar _), kindOf_xs]

omit [FloatOps F] in
/-- A device may wait on a cell of its own that lies below everything it owes. -/
theorem mayWait_of (c : Dev nD) (sm : SemLoc sig) (n : ℕ) (O : CellTallies nD τ sig Unit) (h₁ : lv ((c : Thread nD τ), sm) () ≤ n)
    (h₂ : ∀ g u, 0 < O g u → g.1.2 = .tc ∧ n < lv g u) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (h₂ g u hg).1]; exact Finset.mem_singleton_self _)
    (fun p hp => by rw [Finset.mem_singleton.mp hp]; exact h₁)
    (fun g u hg => (h₂ g u hg).2)

omit [FloatOps F] in
/-- The waits for a transfer, once the transfers through the `n`-th are started. -/
theorem mayWait_x (c : Dev nD) (x : Tr × Bool) (n : ℕ) (hn : rank x.1 < n) :
    (levAts L lv : sProp 𝕄) ⊢ MayWait (c : Thread nD τ) (.dma (xs x)) () (owe n c) :=
  mayWait_of c _ (1 + n) _ (by
      obtain ⟨t, b⟩ := x
      cases b
      · rw [lv_send]; omega
      · rw [lv_recv]; dsimp only at hn; omega)
    (fun g u hg => by obtain ⟨t, ht, rfl⟩ := owe_pos hg; exact ⟨rfl, by rw [lv_recv]; omega⟩)
omit [FloatOps F] in
theorem mayWait_bar (c : Dev nD) : (levAts L lv : sProp 𝕄) ⊢ MayWait (c : Thread nD τ) (.reg barS) () (owe 0 c) :=
  mayWait_of c _ 1 _ (le_of_eq (lv_bar c ())) (fun g u hg => by obtain ⟨t, ht, rfl⟩ := owe_pos hg; exact ⟨rfl, by rw [lv_recv]; omega⟩)
omit [FloatOps F] in
theorem mayWait_stage (c : Dev nD) (q : DmaSem sig) (hq : kindOf (.dma q) = none) (O : CellTallies nD τ sig Unit) (hO : O = O₀ c ∨ O = 0) :
    (levAts L lv : sProp 𝕄) ⊢ MayWait (c : Thread nD τ) (.dma q) () O := by
  refine mayWait_of c _ 0 _ (by unfold lv; rw [if_neg (dma_ne_bar _), hq]) fun g u hg => ?_
  rcases hO with rfl | rfl
  · rcases O₀_pos hg with ⟨t, rfl⟩ | ⟨c', rfl⟩
    · exact ⟨rfl, by rw [lv_recv]; omega⟩
    · exact ⟨rfl, by rw [lv_bar]; omega⟩
  · exact absurd hg (Nat.lt_irrefl 0)

end Cert.Attn

end
-- ==== Proof.Rules.lean ====
/-
The rules one step of the body is run by: a load and a store through an owned piece, the start of a transfer and the
two waits for it, the handshake, and the rule of a row of steps carrying an invariant.
-/
module

public import proofs.«01_k».proof.Proof.Ring

@[expose] public section

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A device's program, run to `Q`. -/
abbrev runs (d : Dev nD) (Q : PUnit.{1} → sProp 𝕄) (k : P F) : sProp 𝕄 :=
  wp frame (wpE (defs₀ (F := F)) 𝒱₀ (d : Thread nD τ) none) Set.univ k Q

/-! ## A row of steps -/

theorem runs_seqK {d : Dev nD} {Q : PUnit.{1} → sProp 𝕄} (n : ℕ) (f : Fin n → P F → P F) (I : ℕ → sProp 𝕄) (k : P F)
    (h : ∀ (i : Fin n) (k : P F), I i.val ⊢ iprop((I (i.val + 1) -∗ runs d Q k) -∗ runs d Q (f i k))) :
    I 0 ⊢ iprop((I n -∗ runs d Q k) -∗ runs d Q (seqK n f k)) := by
  induction n generalizing I with
  | zero =>
    show I 0 ⊢ iprop((I 0 -∗ runs d Q k) -∗ runs d Q k)
    iintro HI Hk; iapply Hk; iexact HI
  | succ n ih =>
    show I 0 ⊢ iprop((I (n + 1) -∗ runs d Q k) -∗ runs d Q (f 0 (seqK n (fun i => f i.succ) k)))
    have h0 : I 0 ⊢ iprop((I 1 -∗ runs d Q (seqK n (fun i => f i.succ) k)) -∗ runs d Q (f 0 (seqK n (fun i => f i.succ) k))) :=
      h 0 (seqK n (fun i => f i.succ) k)
    iintro HI Hk
    iapply h0 $$ HI
    iintro HI
    iapply (ih (fun i => f i.succ) (fun i => I (i + 1)) (fun i k => h i.succ k)) $$ HI
    iexact Hk

/-! ## Loads and stores through an owned piece -/

theorem runs_load {d : Dev nD} {Q : PUnit.{1} → sProp 𝕄} {sh : Shape} {e : EltTy} {m : Memref sig .tc .vmem sh e} {r : LoadRect sh} {hl : m.view.LoadsAt r}
    {k : (r.shape.Idx → Elt F e) → P F} {S : Finset (Idx (m.view.loc (d : Thread nD τ)))} {q : PosShare TreeShare}
    {f : Buf (Elt F) (m.view.loc (d : Thread nD τ))} (hS : m.view.setOn r.set ⊆ S) :
    (m.view.loc (d : Thread nD τ) ↦[S]{q} f : sProp 𝕄)
      ⊢ iprop(((m.view.loc (d : Thread nD τ) ↦[S]{q} f) -∗ runs d Q (k (m.view.readAt (Elt F) r f))) -∗ runs d Q (.op (.load m r hl) k)) :=
  wp_load 𝒱₀ (d : Thread nD τ) none Set.univ hS

theorem runs_load_own {d : Dev nD} {Q : PUnit.{1} → sProp 𝕄} {sh : Shape} {m : Memref sig .tc .vmem sh .bf16} {r : Rect sh} (hr : ∀ a, r.stride a = 1)
    {hl : m.view.LoadsAt r.toLoadRect} {k : (r.shape.Idx → Elt F .bf16) → P F} {q : PosShare TreeShare} {v : Vec F r.shape .bf16} :
    own d (m.slice r hr) q v ⊢ iprop((own d (m.slice r hr) q v -∗ runs d Q (k v)) -∗ runs d Q (.op (.load m r.toLoadRect hl) k)) := by
  unfold own owns
  iintro ⟨%f, %hf, H⟩ Hk
  iapply (wp_load_rect 𝒱₀ (d : Thread nD τ) none Set.univ (m := m) (r := r) (S := (m.slice r hr).view.set) (Finset.Subset.refl _)) $$ H
  iintro H
  rw [show (m.access r).read (Elt F) f = v from hf]
  iapply Hk
  iexists f
  isplitr; · ipureintro; exact hf
  iexact H

theorem runs_store_own {d : Dev nD} {Q : PUnit.{1} → sProp 𝕄} {sh : Shape} {m : Memref sig .tc .vmem sh .bf16} {r : Rect sh} (hr : ∀ a, r.stride a = 1)
    {w : Vec F r.shape .bf16} {hx : (m.access r).Stores Finset.univ} {hm : (Finset.univ : Finset r.shape.Idx) = Finset.univ ∨ ∀ a, r.stride a = 1}
    {k : PUnit → P F} {v : Vec F r.shape .bf16} :
    own d (m.slice r hr) fullShare v ⊢ iprop((own d (m.slice r hr) fullShare w -∗ runs d Q (k ⟨⟩)) -∗ runs d Q (.op (.store m r w Finset.univ hx hm) k)) := by
  unfold own owns
  iintro ⟨%f, %hf, H⟩ Hk
  iapply (wp_store 𝒱₀ (d : Thread nD τ) none Set.univ (m := m) (r := r) (Mk := Finset.univ) (S := (m.slice r hr).view.set) (Finset.Subset.refl _)) $$ H
  iintro H
  iapply Hk
  iexists _
  isplitr
  · ipureintro; exact View.read_write_univ f w
  iexact H

/-! ## What every device knows -/

variable (A : Dev nD → Fin 8 → Vec F S256x1024 .bf16) (K : Dev nD × (Unit ⊕ (Tr × Bool)) → ℕ)

/-- Every cell's invariant, and that every cell has reached its round. -/
def records : sProp 𝕄 :=
  iprop((bigSep Finset.univ fun ck => cellInv ER (Rd A) (K ck) (kcell ck)) ∗ bigSep Finset.univ fun ck => reached ER (kcell ck) 0)
instance records_persistent : BI.Persistent (records A K) := by unfold records; infer_instance

omit [FloatOps F] in
theorem inv_bar (c : Dev nD) : records A K ⊢ cellInv ER (Rd A) (K (c, .inl ())) (barCell c) := by
  unfold records
  iintro ⟨#H, -⟩
  iapply (show bigSep Finset.univ (fun ck => (cellInv ER (Rd A) (K ck) (kcell ck) : sProp 𝕄)) ⊢ _ from bigSep_elim (Finset.mem_univ (c, .inl ()))); iexact H
omit [FloatOps F] in
theorem inv_x (c : Dev nD) (x : Tr × Bool) : records A K ⊢ cellInv ER (Rd A) (K (c, .inr x)) (xCell c x) := by
  unfold records
  iintro ⟨#H, -⟩
  iapply (show bigSep Finset.univ (fun ck => (cellInv ER (Rd A) (K ck) (kcell ck) : sProp 𝕄)) ⊢ _ from bigSep_elim (Finset.mem_univ (c, .inr x))); iexact H
omit [FloatOps F] in
theorem reached_bar (c : Dev nD) : records A K ⊢ reached ER (barCell c) 0 := by
  unfold records
  iintro ⟨-, #H⟩
  iapply (show bigSep Finset.univ (fun ck => (reached ER (kcell ck) 0 : sProp 𝕄)) ⊢ _ from bigSep_elim (Finset.mem_univ (c, .inl ()))); iexact H
omit [FloatOps F] in
theorem reached_x (c : Dev nD) (x : Tr × Bool) : records A K ⊢ reached ER (xCell c x) 0 := by
  unfold records
  iintro ⟨-, #H⟩
  iapply (show bigSep Finset.univ (fun ck => (reached ER (kcell ck) 0 : sProp 𝕄)) ⊢ _ from bigSep_elim (Finset.mem_univ (c, .inr x))); iexact H

/-- What a device owes, whatever it has waited for. -/
def owesE (d : Dev nD) (O : CellTallies nD τ sig Unit) : sProp 𝕄 := iprop(∃ W, owes (d : Thread nD τ) O W)

/-! ## One transfer, from before its start to after its waits -/

/-- Before its start: the tokens of the two duties it pays, this device's places at its own two cells, the credit of its
    own landing to come, and the place it will land at. -/
def idle (d : Dev nD) (t : Tr) : sProp 𝕄 :=
  iprop(dutyTok ER (xCell d (t, false)) 0 false ∗ dutyTok ER (xCell (tgt d t) (t, true)) 0 false
    ∗ atPos ER (xCell d (t, false)) 0 ∅ 0 ∗ atPos ER (xCell d (t, true)) 0 ∅ 0
    ∗ cred (tallyAt (xCell d (t, true)) () (NT t)) ∗ land (tgt d t) t)
/-- Started, not yet waited for. -/
def flight (d : Dev nD) (t : Tr) : sProp 𝕄 :=
  iprop(atPos ER (xCell d (t, false)) 0 ∅ 0 ∗ atPos ER (xCell d (t, true)) 0 ∅ 0
    ∗ cred (tallyAt (xCell d (t, true)) () (NT t)) ∗ cred (tallyAt (xCell d (t, false)) () (NT t)))
/-- Waited for: both its cells closed. -/
def done (d : Dev nD) (t : Tr) : sProp 𝕄 := iprop(semVal (xCell d (t, false)) 0 ∗ semVal (xCell d (t, true)) 0)

/-- Where transfer `t` is when the first `s` are started and the first `w` waited for. -/
def stage_at (d : Dev nD) (s w : ℕ) (t : Tr) : sProp 𝕄 := if rank t < w then done d t else if rank t < s then flight d t else idle d t
def St (d : Dev nD) (s w : ℕ) : sProp 𝕄 := bigSep Finset.univ (stage_at d s w)

omit [FloatOps F] in
theorem St_start (d : Dev nD) (t : Tr) (w : ℕ) (hw : w ≤ rank t) :
    St (F := F) d (rank t) w ⊢ iprop(idle d t ∗ (flight d t -∗ St d (rank t + 1) w)) := by
  unfold St
  rw [bigSep_univ_split t, bigSep_univ_split (Φ := stage_at d (rank t + 1) w) t]
  rw [bigSep_congr (Φ := stage_at d (rank t) w) (Ψ := stage_at d (rank t + 1) w) fun t' ht' => by
    unfold stage_at
    have hne : rank t' ≠ rank t := fun h => Finset.ne_of_mem_erase ht' (rank_inj h)
    by_cases h1 : rank t' < w
    · rw [if_pos h1, if_pos h1]
    · rw [if_neg h1, if_neg h1]
      by_cases h2 : rank t' < rank t
      · rw [if_pos h2, if_pos (by omega)]
      · rw [if_neg h2, if_neg (by omega)]]
  have e1 : stage_at (F := F) d (rank t) w t = idle d t := by
    unfold stage_at; rw [if_neg (by omega), if_neg (by omega)]
  have e2 : stage_at (F := F) d (rank t + 1) w t = flight d t := by
    unfold stage_at; rw [if_neg (by omega), if_pos (by omega)]
  rw [e1, e2]
  change iprop(_ ∗ _) ⊢ iprop(_ ∗ (_ -∗ _ ∗ _))
  iintro ⟨H1, H2⟩
  isplitl [H1]; · iexact H1
  iintro H1
  isplitl [H1]; · iexact H1
  iexact H2
omit [FloatOps F] in
theorem St_wait (d : Dev nD) (t : Tr) (s : ℕ) (hs : rank t < s) :
    St (F := F) d s (rank t) ⊢ iprop(flight d t ∗ (done d t -∗ St d s (rank t + 1))) := by
  unfold St
  rw [bigSep_univ_split t, bigSep_univ_split (Φ := stage_at d s (rank t + 1)) t]
  rw [bigSep_congr (Φ := stage_at d s (rank t)) (Ψ := stage_at d s (rank t + 1)) fun t' ht' => by
    unfold stage_at
    have hne : rank t' ≠ rank t := fun h => Finset.ne_of_mem_erase ht' (rank_inj h)
    by_cases h1 : rank t' < rank t
    · rw [if_pos h1, if_pos (by omega)]
    · rw [if_neg h1, if_neg (show ¬ rank t' < rank t + 1 by omega)]]
  have e1 : stage_at (F := F) d s (rank t) t = flight d t := by
    unfold stage_at; rw [if_neg (by omega), if_pos hs]
  have e2 : stage_at (F := F) d s (rank t + 1) t = done d t := by
    unfold stage_at; rw [if_pos (by omega)]
  rw [e1, e2]
  change iprop(_ ∗ _) ⊢ iprop(_ ∗ (_ -∗ _ ∗ _))
  iintro ⟨H1, H2⟩
  isplitl [H1]; · iexact H1
  iintro H1
  isplitl [H1]; · iexact H1
  iexact H2

/-- The start of transfer `t`: its source given away, this device owing one landing less. -/
theorem runs_start {d : Dev nD} {Q : PUnit.{1} → sProp 𝕄} {sh : Shape} (t : Tr) (n : Dev nD) (hn : n = tgt d t)
    {src dst : Memref sig .tc .vmem sh .bf16} {hsc : (show Memref sig (Dev.tc n : Thread nD τ).2.kind .vmem sh .bf16 from dst).view.ref.isScScratch = false}
    {hsrc : src.view.WordExact} {hdst : dst.view.WordExact} {sS rS : DmaSem sig}
    {hsem : DmaTarget.Typed .vmem (.dma rS) (.remote (Dev.tc n : Thread nD τ) dst (.dma sS) hsc)}
    {k : PUnit → P F} {q : PosShare TreeShare} {v : Vec F sh .bf16} {w : ℕ}
    (hS : sS = xs (t, false)) (hR : rS = xs (t, true)) (hN : dst.view.amount (.dma rS : SemLoc sig) = NT t) (hw : w ≤ rank t)
    (hland : land (F := F) (tgt d t) t ⊢ iprop(∃ v, own (tgt d t) dst fullShare v))
    (hpay₁ : own d src q v ⊢ sendPay A d t) (hpay₂ : own (tgt d t) dst fullShare v ⊢ recvPay A (tgt d t) t) :
    iprop(records A K ∗ St d (rank t) w ∗ owesE d (owe (rank t) d) ∗ own d src q v)
      ⊢ iprop(((St d (rank t + 1) w ∗ owesE d (owe (rank t + 1) d)) -∗ runs d Q (k ⟨⟩))
          -∗ runs d Q (.op (.enqueueDma src (.remote (Dev.tc n : Thread nD τ) dst (.dma sS) hsc) (.dma rS) hsrc hdst hsem) k)) := by
  subst hn; subst hS; subst hR
  iintro ⟨#HR, HSt, HO, Hsrc⟩ Hk
  ihave HSt := (St_start d t w hw) $$ HSt
  icases HSt with ⟨Hi, Hback⟩
  unfold idle owesE
  icases Hi with ⟨Ht1, Ht2, Ha1, Ha2, Hc, Hl⟩
  icases HO with ⟨%W, HO⟩
  ihave Hl := hland $$ Hl
  icases Hl with ⟨%v', Hl⟩
  ihave Hl' := (show own (tgt d t) dst fullShare v' ⊢ (iprop(∃ f, ⌜dst.view.read (Elt F) f = v'⌝ ∗ (dst.view.loc (tgt d t : Thread nD τ) ↦[dst.view.set]{fullShare} f)) : sProp 𝕄) from .rfl) $$ Hl
  ihave Hsrc' := (show own d src q v ⊢ (iprop(∃ f, ⌜src.view.read (Elt F) f = v⌝ ∗ (src.view.loc (d : Thread nD τ) ↦[src.view.set]{q} f)) : sProp 𝕄) from .rfl) $$ Hsrc
  icases Hl' with ⟨%fd, %hfd, Hl⟩
  icases Hsrc' with ⟨%fs, %hfs, Hsrc⟩
  iapply (Rounds.wp_send_pointsTo 𝒱₀ ER (Rd A) (d : Thread nD τ) none (κ₁ := K (d, .inr (t, false))) (κ₂ := K (tgt d t, .inr (t, true)))
    (c' := (tgt d t : Thread nD τ)) (src := src) (dst := dst)
    (r₁ := 0) (r₂ := 0) (d₁ := false) (d₂ := false) (fs := fs) (fd := fd) (q := q)
    (by rw [duties_x]; exact Finset.mem_singleton_self _) (by rw [duties_x]; exact Finset.mem_singleton_self _)
    () () (NT t) hN (amount_x A d (t, false) false) (amount_x A (tgt d t) (t, true) false) (owe (rank t + 1) d) (owe_step d t) (W := W)
    (by rw [payload_x]; unfold xPay; refine (show _ ⊢ own d src q v from ?_).trans hpay₁; rw [← hfs]; exact owns_intro _ _ _ _)
    (by
      rw [payload_x]; unfold xPay; refine (show _ ⊢ own (tgt d t) dst fullShare v from ?_).trans hpay₂
      have := owns_intro (Ix := Unit) (Name := ℕ) (U := UU) (Lvl := ℕ) (tgt d t : Thread nD τ) dst fullShare
        (dst.view.write (Elt F) fd (src.view.read (Elt F) fs) Finset.univ)
      rw [View.read_write_univ, hfs] at this
      rw [hfs]
      exact this)) $$ [HO Ht1 Ht2 Hl Hsrc]
  · isplitr; · iapply (inv_x A K d (t, false)); iexact HR
    isplitr; · iapply (inv_x A K (tgt d t) (t, true)); iexact HR
    isplitl [Hsrc]; · iexact Hsrc
    isplitl [Hl]; · iexact Hl
    isplitl [HO]; · iexact HO
    isplitl [Ht1]; · iexact Ht1
    isplitr; · iapply (reached_x A K d (t, false)); iexact HR
    isplitl [Ht2]; · iexact Ht2
    iapply (reached_x A K (tgt d t) (t, true)); iexact HR
  iintro ⟨HcS, HO⟩
  iapply Hk
  isplitl [Hback Ha1 Ha2 Hc HcS]
  · iapply Hback
    unfold flight
    isplitl [Ha1]; · iexact Ha1
    isplitl [Ha2]; · iexact Ha2
    isplitl [Hc]; · iexact Hc
    iexact HcS
  iexists W; iexact HO

/-- The two waits for transfer `t`: its source comes back, its landing place comes filled, and its two cells close. -/
theorem runs_wait {d : Dev nD} {Q : PUnit.{1} → sProp 𝕄} {sh : Shape} (t : Tr) {s : ℕ} (hs : rank t < s)
    {a b a' b' : Memref sig .tc .vmem sh .bf16} {ha : a.view.WordExact} {hb : b.view.WordExact} {ha' : a'.view.WordExact} {hb' : b'.view.WordExact}
    {sS rS : DmaSem sig} {k : P F}
    (hS : sS = xs (t, false)) (hR : rS = xs (t, true)) (hN : b.view.dmaCredit = NT t) (hN' : b'.view.dmaCredit = NT t) :
    iprop(records A K ∗ levAts L lv ∗ St d s (rank t) ∗ owesE d (owe s d))
      ⊢ iprop(((St d s (rank t + 1) ∗ owesE d (owe s d) ∗ sendPay A d t ∗ recvPay A d t) -∗ runs d Q k)
          -∗ runs d Q (.op (.waitDma2 sS a b ha hb) fun _ => .op (.waitDma2 rS a' b' ha' hb') fun _ => k)) := by
  subst hS; subst hR
  iintro ⟨#HR, #Hlev, HSt, HO⟩ Hk
  ihave HSt := (St_wait d t s hs) $$ HSt
  icases HSt with ⟨Hi, Hback⟩
  unfold flight owesE
  icases Hi with ⟨Ha1, Ha2, Hc, HcS⟩
  icases HO with ⟨%W, HO⟩
  iapply (Rounds.wp_wait_rest_token 𝒱₀ ER (Rd A) (d : Thread nD τ) none (κ := K (d, .inr (t, false)))
      (wpE_waitDma2_eq 𝒱₀ (d : Thread nD τ) none Set.univ) (Set.mem_univ _) () (O := owe s d) (W := W) (R := 0) (m := 0) (T := ∅)
      (by rw [Nat.zero_add, expect_x]; exact hN)) $$ [HcS HO Ha1]
  · isplitr; · iapply (inv_x A K d (t, false)); iexact HR
    isplitl [HcS]; · rw [hN]; iexact HcS
    isplitl [HO]; · iexact HO
    isplitr; · iapply (mayWait_x d (t, false) s hs); iexact Hlev
    iexact Ha1
  iintro ⟨HO, Ha1, -, Hp1⟩
  iapply (Rounds.wp_wait_rest_token 𝒱₀ ER (Rd A) (d : Thread nD τ) none (κ := K (d, .inr (t, true)))
      (wpE_waitDma2_eq 𝒱₀ (d : Thread nD τ) none Set.univ) (Set.mem_univ _) () (O := owe s d) (W := _) (R := 0) (m := 0) (T := ∅)
      (by rw [Nat.zero_add, expect_x]; exact hN')) $$ [Hc HO Ha2]
  · isplitr; · iapply (inv_x A K d (t, true)); iexact HR
    isplitl [Hc]; · rw [hN']; iexact Hc
    isplitl [HO]; · iexact HO
    isplitr; · iapply (mayWait_x d (t, true) s hs); iexact Hlev
    iexact Ha2
  iintro ⟨HO, Ha2, -, Hp2⟩
  ihave Hp1 := (Entails.of_eq (rest_x A d (t, false))) $$ Hp1
  ihave Hp2 := (Entails.of_eq (rest_x A d (t, true))) $$ Hp2
  imod (Rounds.cell_close ER (Rd A) (Set.mem_univ (K (d, .inr (t, false)))) (fun h => h) (R := 0 + 1) (duties_later A (xCell d (t, false)))) $$ [Ha1] with Hz1
  · isplitr; · iapply (inv_x A K d (t, false)); iexact HR
    iexact Ha1
  imod (Rounds.cell_close ER (Rd A) (Set.mem_univ (K (d, .inr (t, true)))) (fun h => h) (R := 0 + 1) (duties_later A (xCell d (t, true)))) $$ [Ha2] with Hz2
  · isplitr; · iapply (inv_x A K d (t, true)); iexact HR
    iexact Ha2
  iapply Hk
  isplitl [Hback Hz1 Hz2]
  · iapply Hback
    unfold done
    isplitl [Hz1]; · iexact Hz1
    iexact Hz2
  isplitl [HO]; · iexists _; iexact HO
  isplitl [Hp1]; · iapply (show xPay A d (t, false) ⊢ sendPay A d t from .rfl); iexact Hp1
  iapply (show xPay A d (t, true) ⊢ recvPay A d t from .rfl); iexact Hp2

/-- The handshake: this device's landing places go to the neighbours that will write them, theirs come back, and the
    barrier cell closes. -/
theorem runs_handshake {d : Dev nD} {Q : PUnit.{1} → sProp 𝕄} {k : P F} :
    iprop(records A K ∗ levAts L lv ∗ owesE d (O₀ d) ∗ atPos ER (barCell d) 0 ∅ 0 ∗ cred (tallyAt (barCell d) () 2)
        ∗ dutyTok ER (barCell (nxt d)) 0 false ∗ dutyTok ER (barCell (prv d)) 0 true ∗ bigSep Finset.univ (fun t => land (F := F) d t))
      ⊢ iprop(((owesE d (owe 0 d) ∗ semVal (barCell d) 0 ∗ bigSep Finset.univ (fun t => land (F := F) (tgt d t) t)) -∗ runs d Q k)
          -∗ runs d Q (handshake d k)) := by
  unfold handshake
  simp only [dev1_eq d, dev2_eq d]
  have hsplit (Φ : Tr → sProp 𝕄) : bigSep Finset.univ Φ
      = iprop(bigSep (Finset.univ.filter fun t => dirT t = true) Φ ∗ bigSep (Finset.univ.filter fun t => dirT t = false) Φ) := by
    rw [bigSep_filter_split Finset.univ fun t => dirT t = true]
    simp only [Bool.not_eq_true]; rfl
  iintro ⟨#HR, #Hlev, HO, Ha, Hc, Ht1, Ht2, Hl⟩ Hk
  ihave Hl := (Entails.of_eq (hsplit fun t => land d t)) $$ Hl
  icases Hl with ⟨Hlr, Hll⟩
  unfold owesE
  icases HO with ⟨%W, HO⟩
  iapply (Rounds.wp_signal 𝒱₀ ER (Rd A) (d : Thread nD τ) none (dst := (nxt d : Thread nD τ)) (κ := K (nxt d, .inl ()))
      (d := false) (by rw [duties_bar]; exact Finset.mem_univ _) ((amount_bar A (nxt d) false).trans (by decide)) () (O₁ d) rfl)
    $$ [HO Ht1 Hll]
  · isplitr; · iapply (inv_bar A K (nxt d)); iexact HR
    isplitl [HO]; · iexact HO
    isplitl [Ht1]; · iexact Ht1
    isplitl [Hll]
    · rw [payload_bar]; unfold barPay
      rw [show toward false (nxt d) = d from toward_not true d]; iexact Hll
    iapply (reached_bar A K (nxt d)); iexact HR
  iintro HO
  iapply (Rounds.wp_signal 𝒱₀ ER (Rd A) (d : Thread nD τ) none (dst := (prv d : Thread nD τ)) (κ := K (prv d, .inl ()))
      (d := true) (by rw [duties_bar]; exact Finset.mem_univ _) ((amount_bar A (prv d) true).trans (by decide)) () (owe 0 d) rfl)
    $$ [HO Ht2 Hlr]
  · isplitr; · iapply (inv_bar A K (prv d)); iexact HR
    isplitl [HO]; · iexact HO
    isplitl [Ht2]; · iexact Ht2
    isplitl [Hlr]
    · rw [payload_bar]; unfold barPay
      rw [show toward true (prv d) = d from toward_not false d]; iexact Hlr
    iapply (reached_bar A K (prv d)); iexact HR
  iintro HO
  iapply (Rounds.wp_wait_rest_token 𝒱₀ ER (Rd A) (d : Thread nD τ) none (κ := K (d, .inl ()))
      (wpE_semWait_eq 𝒱₀ (d : Thread nD τ) none Set.univ) (Set.mem_univ _) () (O := owe 0 d) (W := W) (R := 0) (m := 0) (T := ∅)
      (by rw [expect_bar]; decide)) $$ [Hc HO Ha]
  · isplitr; · iapply (inv_bar A K d); iexact HR
    isplitl [Hc]; · iexact Hc
    isplitl [HO]; · iexact HO
    isplitr; · iapply (mayWait_bar d); iexact Hlev
    iexact Ha
  iintro ⟨HO, Ha, -, Hp⟩
  ihave Hp := (Entails.of_eq (rest_bar A d)) $$ Hp
  icases Hp with ⟨Hpl, Hpr⟩
  imod (Rounds.cell_close ER (Rd A) (Set.mem_univ (K (d, .inl ()))) (fun h => h) (R := 0 + 1) (duties_later A (barCell d))) $$ [Ha] with Hz
  · isplitr; · iapply (inv_bar A K d); iexact HR
    iexact Ha
  iapply Hk
  isplitl [HO]; · iexists _; iexact HO
  isplitl [Hz]; · iexact Hz
  rw [hsplit]
  unfold barPay
  isplitl [Hpr]
  · iapply (Entails.of_eq (bigSep_congr fun t ht => by rw [tgt, (Finset.mem_filter.mp ht).2])); iexact Hpr
  · iapply (Entails.of_eq (bigSep_congr fun t ht => by rw [tgt, (Finset.mem_filter.mp ht).2])); iexact Hpl

end Cert.Attn

end
-- ==== Proof.Blocks.lean ====
/-
What the buffers hold, as functions of the devices' inputs: the projections, the two arrays with the rotary embedding
done, the attention of a chunk of rows, the partial sums of the reduce-scatter and the result; and the closed forms of
the offsets at which the body reads and writes them.
-/
module

public import proofs.«01_k».proof.Proof.Ring

@[expose] public section

set_option maxRecDepth 16384

noncomputable section

namespace Cert.Attn

open Cert.KernelIdeal Cert.KernelIdeal.Gen
open Idealize.ShloMosaic Idealize.ShloMosaic.TcCoe
open Idealize.SL Idealize.SL.Sem

variable {F : FTy → Type} [FloatOps F]

/-! ## Tiles of an array of rows -/

section Tiles
variable {α : Type} {n : ℕ}

abbrev Sh (n m : ℕ) : Shape := ⟨2, ![n, m]⟩

/-- The array whose columns `128·h …` are `g h`. -/
def ofCols (g : Fin 8 → (Sh n 128).Idx → α) : (Sh n 1024).Idx → α := fun i =>
  g ⟨(i 1).val / 128, by have := (i 1).isLt; simp only [Matrix.cons_val_one, Matrix.cons_val_zero] at this; omega⟩
    (ix2 (i 0) ⟨(i 1).val % 128, Nat.mod_lt _ (by decide)⟩)
/-- Columns `128·h …`. -/
def colTile (y : (Sh n 1024).Idx → α) (h : Fin 8) : (Sh n 128).Idx → α := fun i =>
  y (ix2 (i 0) ⟨128 * h.val + (i 1).val, by have := (i 1).isLt; simp only [Matrix.cons_val_one, Matrix.cons_val_zero] at this; omega⟩)

theorem ext2 {a b : ℕ} {i j : (Sh a b).Idx} (h0 : (i 0).val = (j 0).val) (h1 : (i 1).val = (j 1).val) : i = j := by
  funext k; match k with
  | ⟨0, _⟩ => exact Fin.ext h0
  | ⟨1, _⟩ => exact Fin.ext h1

theorem lt1 {a b : ℕ} (i : (Sh a b).Idx) : (i 1).val < b := (i 1).isLt
theorem lt0 {a b : ℕ} (i : (Sh a b).Idx) : (i 0).val < a := (i 0).isLt

theorem colTile_ofCols (g : Fin 8 → (Sh n 128).Idx → α) (h : Fin 8) : colTile (ofCols g) h = g h := by
  funext i
  have h1 := lt1 i
  have hh := h.isLt
  unfold colTile ofCols
  have e1 : (⟨(128 * h.val + (i 1).val) / 128, by omega⟩ : Fin 8) = h := Fin.ext (by dsimp only; omega)
  have e2 : (ix2 (i 0) ⟨(128 * h.val + (i 1).val) % 128, Nat.mod_lt _ (by decide)⟩ : (Sh n 128).Idx) = i :=
    ext2 rfl (by show (128 * h.val + (i 1).val) % 128 = (i 1).val; omega)
  exact (congrFun (congrArg g e1) _).trans (congrArg (g h) e2)
theorem ofCols_colTile (y : (Sh n 1024).Idx → α) : ofCols (colTile y) = y := by
  funext i
  unfold colTile ofCols
  refine congrArg y (ext2 rfl ?_)
  show 128 * ((i 1).val / 128) + (i 1).val % 128 = (i 1).val
  omega

theorem extract_cols (y : (Sh n 1024).Idx → α) (h : Fin 8) (hs : (Sh n 1024).Slices ![0, 128 * h.val] (Sh n 128)) :
    extractStridedSlice (Sh n 128) ![0, 128 * h.val] y hs = colTile y h := by
  funext i
  refine congrArg y (ext2 ?_ rfl)
  show 0 + (i 0).val = (i 0).val
  omega

theorem update_cols (g : Fin 8 → (Sh n 128).Idx → α) (v : (Sh n 128).Idx → α) (h : Fin 8) (hs : (Sh n 1024).Slices ![0, 128 * h.val] (Sh n 128)) :
    updateSlice (ofCols g) v ![0, 128 * h.val] hs = ofCols (Function.update g h v) := by
  funext i
  have h0 := lt0 i
  have h1 := lt1 i
  have hh := h.isLt
  unfold updateSlice
  split
  · next hin =>
    have hin1 : 128 * h.val ≤ (i 1).val ∧ (i 1).val < 128 * h.val + 128 := hin 1
    unfold ofCols
    have e1 : (⟨(i 1).val / 128, by omega⟩ : Fin 8) = h := Fin.ext (by dsimp only; omega)
    rw [e1, Function.update_self]
    exact congrArg v (ext2 (by show (i 0).val - 0 = (i 0).val; omega) (by show (i 1).val - 128 * h.val = (i 1).val % 128; omega))
  · next hout =>
    unfold ofCols
    rw [Function.update_of_ne]
    intro e
    have e' : (i 1).val / 128 = h.val := congrArg Fin.val e
    refine hout fun a => ?_
    match a with
    | ⟨0, _⟩ => exact ⟨Nat.zero_le _, by show (i 0).val < 0 + n; omega⟩
    | ⟨1, _⟩ => show 128 * h.val ≤ (i 1).val ∧ (i 1).val < 128 * h.val + 128; omega

/-- What a store leaves where it agrees with `o`, and elsewhere. -/
theorem update_agree {m a b : ℕ} {G : (Sh n m).Idx → Prop} {v o : (Sh n m).Idx → α} (hv : ∀ i, G i → v i = o i) (off : Fin 2 → ℕ)
    (w : (Sh a b).Idx → α) (hs : (Sh n m).Slices off (Sh a b)) (hw : w = extractStridedSlice (Sh a b) off o hs) (i : (Sh n m).Idx)
    (hi : G i ∨ (off 0 ≤ (i 0).val ∧ (i 0).val < off 0 + a ∧ off 1 ≤ (i 1).val ∧ (i 1).val < off 1 + b)) :
    updateSlice v w off hs i = o i := by
  subst hw
  unfold updateSlice
  split
  · next hin =>
    have h0 : off 0 ≤ (i 0).val := (hin 0).1
    have h1 : off 1 ≤ (i 1).val := (hin 1).1
    exact congrArg o (ext2 (by show off 0 + ((i 0).val - off 0) = (i 0).val; omega) (by show off 1 + ((i 1).val - off 1) = (i 1).val; omega))
  · next hout =>
    rcases hi with hi | hi
    · exact hv i hi
    · refine absurd (fun k => ?_) hout
      match k with
      | ⟨0, _⟩ => exact ⟨hi.1, hi.2.1⟩
      | ⟨1, _⟩ => exact ⟨hi.2.2.1, hi.2.2.2⟩

theorem extract_zero {a b : ℕ} (v : (Sh a b).Idx → α) (hs : (Sh a b).Slices ![0, 0] (Sh a b)) : extractStridedSlice (Sh a b) ![0, 0] v hs = v := by
  funext i
  exact congrArg v (ext2 (by show 0 + (i 0).val = _; omega) (by show 0 + (i 1).val = _; omega))
theorem update_zero {a b : ℕ} (v w : (Sh a b).Idx → α) (hs : (Sh a b).Slices ![0, 0] (Sh a b)) : updateSlice v w ![0, 0] hs = w := by
  funext i
  refine update_agree (G := fun _ => False) (fun _ h => h.elim) _ w hs (extract_zero w hs).symm i (Or.inr ?_)
  have h0 := lt0 i
  have h1 := lt1 i
  refine ⟨Nat.zero_le _, ?_, Nat.zero_le _, ?_⟩
  · show (i 0).val < 0 + a; omega
  · show (i 1).val < 0 + b; omega
end Tiles

/-! ## The closed forms of the offsets -/

set_option backward.proofsInPublic true in
/-- The chunk of rows device `d` works on at hop `j`. -/
def cid (d : Dev nD) (j : ℕ) : Fin 8 := ⟨(d.val + 8 - j % 8) % 8, Nat.mod_lt _ (by decide)⟩

theorem qOff_eq (d : Dev nD) (j h : Fin 8) : qOff d j h = ![256 * (cid d j.val).val, 128 * h.val] := by
  revert d j h; decide +kernel
theorem off9_eq (d : Dev nD) (j : Fin 8) : k0_off9 d (BitVec.ofNat 32 j.val) = ![256 * (cid d j.val).val, 0] := by
  revert d j; decide +kernel
theorem off10_eq (d : Dev nD) (j : Fin 7) : k0_off10 d (BitVec.ofNat 32 j.val) = ![256 * (cid d j.val).val, 0] := by
  revert d j; decide +kernel
theorem off11_eq (d : Dev nD) : k0_off11 d = ![256 * (cid d 7).val, 0] := by revert d; decide +kernel
theorem off12_eq (d : Dev nD) : k0_off12 d = ![256 * (cid d 7).val, 512] := by revert d; decide +kernel
theorem off13_eq (d : Dev nD) (g : Fin 7) : k0_off13 d (BitVec.ofNat 32 g.val) = ![256 * ((d.val + 8 - g.val) % 8), 0] := by
  revert d g; decide +kernel
theorem off14_eq (d : Dev nD) (g : Fin 7) : k0_off14 d (BitVec.ofNat 32 g.val) = ![256 * ((d.val + 2 + g.val) % 8), 512] := by
  revert d g; decide +kernel

theorem cid_succ (d : Dev nD) (j : ℕ) : cid (prv d) j = cid d (j + 1) := by
  have := d.isLt
  refine Fin.ext ?_
  show ((d.val + 7) % 8 + 8 - j % 8) % 8 = (d.val + 8 - (j + 1) % 8) % 8
  have h8 : d.val < 8 := d.isLt
  omega
theorem cid_inj (d : Dev nD) {j j' : Fin 8} (h : cid d j.val = cid d j'.val) : j = j' := by revert d j j'; decide

/-! ## The contents -/

/-- One device's eight inputs. -/
structure Ins (F : FTy → Type) where
  x : Vec F S2048x1024 .bf16
  wq : Vec F S1024x1024 .bf16
  wk : Vec F S1024x1024 .bf16
  wv : Vec F S1024x1024 .bf16
  wo : Vec F S1024x1024 .bf16
  co : Vec F S2048x128 .bf16
  si : Vec F S2048x128 .bf16
  pm : Vec F S128x128 .bf16

/-- Rows `1024·i …` of `x`. -/
def half (x : Vec F S2048x1024 .bf16) (i : Fin 2) : Vec F S1024x1024 .bf16 :=
  extractStridedSlice S1024x1024 ![1024 * i.val, 0] x ⟨rfl, half_inb i⟩
/-- Rows `256·c …`, columns `128·h …`. -/
def rowTile (y : Vec F S2048x1024 .bf16) (c h : Fin 8) : Vec F S256x128 .bf16 := fun i =>
  y (ix2 ⟨256 * c.val + (i 0).val, by have := lt0 i; omega⟩ ⟨128 * h.val + (i 1).val, by have := lt1 i; omega⟩)

/-- A projection, each half of the rows by itself. -/
def proj (x : Vec F S2048x1024 .bf16) (w : Vec F S1024x1024 .bf16) : Vec F S2048x1024 .bf16 := fun i =>
  k0_pay6 (half x ⟨(i 0).val / 1024, by have := lt0 i; omega⟩) w (ix2 ⟨(i 0).val % 1024, Nat.mod_lt _ (by decide)⟩ (i 1))

variable (I : Ins F)
/-- The keys' and the queries' head `h`, rotated (the queries scaled as well). -/
def keyRot (h : Fin 8) : Vec F S2048x128 .bf16 := k0_pay13 (k0_pay2 I.pm) (k0_pay3 I.co) (k0_pay4 I.si) (colTile (n := 2048) (proj I.x I.wk) h)
def qRot (h : Fin 8) : Vec F S2048x128 .bf16 := k0_pay32 (k0_pay2 I.pm) (k0_pay3 I.co) (k0_pay4 I.si) (colTile (n := 2048) (proj I.x I.wq) h)
/-- The arrays after the first `s` heads. -/
def kUpto (s : ℕ) : Vec F S2048x1024 .bf16 := ofCols (n := 2048) fun h => if h.val < s then keyRot I h else colTile (n := 2048) (proj I.x I.wk) h
def qUpto (s : ℕ) : Vec F S2048x1024 .bf16 := ofCols (n := 2048) fun h => if h.val < s then qRot I h else colTile (n := 2048) (proj I.x I.wq) h

/-- The attention of chunk `c`'s rows at head `h`, -/
def ctxHead (c h : Fin 8) : Vec F S256x128 .bf16 :=
  k0_pay35 (rowTile (qUpto I 8) c h) (keyRot I h) (colTile (n := 2048) (proj I.x I.wv) h)
/-- at all heads, and this device's part of the output projection of the chunk. -/
def part (c : Fin 8) : Vec F S256x1024 .bf16 := k0_pay45 (ofCols (n := 256) (ctxHead I c)) I.wo

/-- The sum of a chunk and what was received for it. -/
def accum (a v : Vec F S256x1024 .bf16) : Vec F S256x1024 .bf16 :=
  addf (shapeCast S256x1024 a shapeCasts_S256x1024_S256x1024) v

/-- What device `d` holds for its chunk of hop `j`, the parts of the `j` devices before it added. -/
def acc (J : Dev nD → Ins F) : ℕ → Dev nD → Vec F S256x1024 .bf16
  | 0, d => part (J d) (cid d 0)
  | j + 1, d => accum (part (J d) (cid d (j + 1))) (acc J j (prv d))
abbrev accs (J : Dev nD → Ins F) (d : Dev nD) (j : Fin 8) : Vec F S256x1024 .bf16 := acc J j.val d

/-- The whole result. -/
def outFin (J : Dev nD → Ins F) : Vec F S2048x1024 .bf16 := fun i =>
  acc J 7 (prv ⟨(i 0).val / 256, by have := lt0 i; show _ < 8; omega⟩) (ix2 ⟨(i 0).val % 256, Nat.mod_lt _ (by decide)⟩ (i 1))

theorem pay57_eq (a : Vec F S256x1024 .bf16) (b : Vec F S1x256x1024 .bf16) (v : Vec F S256x1024 .bf16)
    (h : shapeCast S256x1024 b shapeCasts_S1x256x1024_S256x1024 = v) : k0_pay57 a b = accum a v := by
  subst h
  unfold k0_pay57 accum
  first | rfl | simp only [shapeCast_self]
theorem kUpto_zero : kUpto I 0 = proj I.x I.wk := by
  unfold kUpto; simp only [Nat.not_lt_zero, if_false]; exact ofCols_colTile _
theorem qUpto_zero : qUpto I 0 = proj I.x I.wq := by
  unfold qUpto; simp only [Nat.not_lt_zero, if_false]; exact ofCols_colTile _
theorem upto_step {α : Type} (g g' : Fin 8 → α) (h : Fin 8) :
    Function.update (fun h' : Fin 8 => if h'.val < h.val then g h' else g' h') h (g h) = fun h' => if h'.val < h.val + 1 then g h' else g' h' := by
  funext h'
  by_cases e : h' = h
  · subst e; rw [Function.update_self, if_pos (Nat.lt_succ_self _)]
  · rw [Function.update_of_ne e]
    have : h'.val ≠ h.val := fun e' => e (Fin.ext e')
    by_cases h1 : h'.val < h.val
    · rw [if_pos h1, if_pos (by omega)]
    · rw [if_neg h1, if_neg (by omega)]
theorem colTile_kUpto (h : Fin 8) : colTile (n := 2048) (kUpto I h.val) h = colTile (n := 2048) (proj I.x I.wk) h := by
  unfold kUpto; rw [colTile_ofCols, if_neg (Nat.lt_irrefl _)]
theorem colTile_qUpto (h : Fin 8) : colTile (n := 2048) (qUpto I h.val) h = colTile (n := 2048) (proj I.x I.wq) h := by
  unfold qUpto; rw [colTile_ofCols, if_neg (Nat.lt_irrefl _)]
theorem colTile_kUpto_end (h : Fin 8) : colTile (n := 2048) (kUpto I 8) h = keyRot I h := by
  unfold kUpto; rw [colTile_ofCols, if_pos h.isLt]

/-- The two halves' stores leave the projection. -/
theorem proj_stores (x : Vec F S2048x1024 .bf16) (w : Vec F S1024x1024 .bf16) (v : Vec F S2048x1024 .bf16) :
    updateSlice (updateSlice v (k0_pay6 (half x 0) w) ![1024 * (0 : Fin 2).val, 0] ⟨rfl, half_inb 0⟩) (k0_pay6 (half x 1) w) ![1024 * (1 : Fin 2).val, 0]
      ⟨rfl, half_inb 1⟩ = proj x w := by
  funext i
  have h0 := lt0 i
  have h1 := lt1 i
  have hw (b : Fin 2) : k0_pay6 (half x b) w = extractStridedSlice S1024x1024 ![1024 * b.val, 0] (proj x w) ⟨rfl, half_inb b⟩ := by
    funext i
    have h0 := lt0 i
    have hb := b.isLt
    unfold extractStridedSlice proj
    have e1 : (⟨(1024 * b.val + (i 0).val) / 1024, by omega⟩ : Fin 2) = b := Fin.ext (by dsimp only; omega)
    have e2 : (ix2 ⟨(1024 * b.val + (i 0).val) % 1024, Nat.mod_lt _ (by decide)⟩ ⟨0 + (i 1).val, by have := lt1 i; omega⟩ : S1024x1024.Idx) = i :=
      ext2 (by show (1024 * b.val + (i 0).val) % 1024 = _; omega) (by show 0 + (i 1).val = _; omega)
    show k0_pay6 (half x b) w i = k0_pay6 (half x ⟨(1024 * b.val + (i 0).val) / 1024, by omega⟩) w
      (ix2 ⟨(1024 * b.val + (i 0).val) % 1024, Nat.mod_lt _ (by decide)⟩ ⟨0 + (i 1).val, by have := lt1 i; omega⟩)
    rw [e1, e2]
  refine update_agree (n := 2048) (m := 1024) (a := 1024) (b := 1024) (G := fun i => (i 0).val < 1024) (o := proj x w) (fun i hi => ?_) _ _ _ (hw 1) i ?_
  · refine update_agree (n := 2048) (m := 1024) (a := 1024) (b := 1024) (G := fun i => False) (o := proj x w) (fun i hi => hi.elim) _ _ _ (hw 0) i (Or.inr ?_)
    have h1 := lt1 i
    refine ⟨Nat.zero_le _, ?_, Nat.zero_le _, ?_⟩
    · show (i 0).val < 0 + 1024; omega
    · show (i 1).val < 0 + 1024; omega
  · by_cases h : (i 0).val < 1024
    · exact Or.inl h
    · refine Or.inr ⟨?_, ?_, Nat.zero_le _, ?_⟩
      · show 1024 * 1 ≤ (i 0).val; omega
      · show (i 0).val < 1024 * 1 + 1024; omega
      · show (i 1).val < 0 + 1024; omega

end Cert.Attn

end
-- ==== Proof.Pieces.lean ====
/-
Owning a buffer, a piece of it, a squeezed piece of it: how one is made from the others, and the rules of a load and a
store through what is owned. Also the row of steps that turns one thing after the other.
-/
module

public import proofs.«01_k».proof.Proof.Rules
public import proofs.«01_k».proof.Proof.Blocks

@[expose] public section

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## One after the other -/

/-- The first `s` of a family are `X`, the others `Y`. -/
def upTo {n : ℕ} (s : ℕ) (X Y : Fin n → sProp 𝕄) : sProp 𝕄 := bigSep Finset.univ fun f => if f.val < s then X f else Y f

omit [FloatOps F] in
theorem upTo_zero {n : ℕ} (X Y : Fin n → sProp 𝕄) : upTo 0 X Y = bigSep Finset.univ Y := by
  unfold upTo; exact bigSep_congr fun f _ => if_neg (Nat.not_lt_zero _)
omit [FloatOps F] in
theorem upTo_end {n : ℕ} (X Y : Fin n → sProp 𝕄) : upTo n X Y = bigSep Finset.univ X := by
  unfold upTo; exact bigSep_congr fun f _ => if_pos f.isLt
omit [FloatOps F] in
theorem upTo_step {n : ℕ} (X Y : Fin n → sProp 𝕄) (i : Fin n) : upTo i.val X Y ⊢ iprop(Y i ∗ (X i -∗ upTo (i.val + 1) X Y)) := by
  unfold upTo
  rw [bigSep_univ_split i, bigSep_univ_split (Φ := fun f : Fin n => if f.val < i.val + 1 then X f else Y f) i]
  rw [bigSep_congr (Φ := fun f : Fin n => if f.val < i.val then X f else Y f) (Ψ := fun f : Fin n => if f.val < i.val + 1 then X f else Y f) fun f hf => by
    have hne : f.val ≠ i.val := fun h => Finset.ne_of_mem_erase hf (Fin.ext h)
    by_cases h1 : f.val < i.val
    · rw [if_pos h1, if_pos (by omega)]
    · rw [if_neg h1, if_neg (by omega)]]
  rw [if_neg (Nat.lt_irrefl _), if_pos (Nat.lt_succ_self _)]
  change iprop(_ ∗ _) ⊢ iprop(_ ∗ (_ -∗ _ ∗ _))
  iintro ⟨H1, H2⟩
  isplitl [H1]; · iexact H1
  iintro H1
  isplitl [H1]; · iexact H1
  iexact H2
omit [FloatOps F] in
theorem bigSep_fin4 (X : Fin 4 → sProp 𝕄) : bigSep Finset.univ X = iprop(X 0 ∗ X 1 ∗ X 2 ∗ X 3) :=
  bigSep_univ_eq_bigSepL [0, 1, 2, 3] (by decide) (by decide) X

/-! ## Owning -/

omit [FloatOps F] in
theorem own_open {d : Dev nD} {sh : Shape} {m : Memref sig .tc .vmem sh .bf16} {q : PosShare TreeShare} {v : Vec F sh .bf16} :
    own d m q v ⊢ (iprop(∃ f, ⌜m.view.read (Elt F) f = v⌝ ∗ (m.view.loc (d : Thread nD τ) ↦[m.view.set]{q} f)) : sProp 𝕄) := .rfl
omit [FloatOps F] in
theorem own_close {d : Dev nD} {sh : Shape} {m : Memref sig .tc .vmem sh .bf16} {q : PosShare TreeShare} {v : Vec F sh .bf16} :
    (iprop(∃ f, ⌜m.view.read (Elt F) f = v⌝ ∗ (m.view.loc (d : Thread nD τ) ↦[m.view.set]{q} f)) : sProp 𝕄) ⊢ own d m q v := .rfl

omit [FloatOps F] in
/-- A squeezed piece is the piece, its contents of the other shape. -/
theorem own_squeeze {d : Dev nD} {sh s' : Shape} {m : Memref sig .tc .vmem sh .bf16} {r : Rect sh} {hr : ∀ a, r.stride a = 1}
    {hq : r.shape.Squeezes s'} (hc : r.shape.ShapeCasts s') {q : PosShare TreeShare} {v : Vec F s' .bf16} :
    own d ((m.slice r hr).squeeze s' hq) q v ⊢ iprop(∃ u : Vec F r.shape .bf16, ⌜shapeCast s' u hc = v⌝ ∗ own d (m.slice r hr) q u) := by
  iintro H
  ihave H := own_open $$ H
  icases H with ⟨%f, %hf, H⟩
  iexists ((m.slice r hr).view.read (Elt F) f)
  isplitr
  · ipureintro; exact hf
  iapply own_close
  iexists f
  isplitr
  · ipureintro; rfl
  rw [show ((m.slice r hr).squeeze s' hq).view.set = (m.slice r hr).view.set from View.set_reshape _ _]
  iexact H
omit [FloatOps F] in
theorem own_unsqueeze {d : Dev nD} {sh s' : Shape} {m : Memref sig .tc .vmem sh .bf16} {r : Rect sh} {hr : ∀ a, r.stride a = 1}
    {hq : r.shape.Squeezes s'} (hc : r.shape.ShapeCasts s') {q : PosShare TreeShare} {u : Vec F r.shape .bf16} :
    own d (m.slice r hr) q u ⊢ own d ((m.slice r hr).squeeze s' hq) q (shapeCast s' u hc) := by
  iintro H
  ihave H := own_open $$ H
  icases H with ⟨%f, %hf, H⟩
  iapply own_close
  iexists f
  isplitr
  · ipureintro; subst hf; rfl
  rw [show ((m.slice r hr).squeeze s' hq).view.set = (m.slice r hr).view.set from View.set_reshape _ _]
  iexact H

omit [FloatOps F] in
/-- The two halves of a share. -/
theorem own_halve {d : Dev nD} {sh : Shape} {m : Memref sig .tc .vmem sh .bf16} {v : Vec F sh .bf16} :
    own d m fullShare v ⊢ iprop(own d m fullShare.left v ∗ own d m fullShare.right v) := by
  iintro H
  ihave H := own_open $$ H
  icases H with ⟨%f, %hf, H⟩
  ihave H := (pointsTo_share (PosShare.mem_left_op_right fullShare)).1 $$ H
  icases H with ⟨H1, H2⟩
  isplitl [H1]
  · iapply own_close; iexists f; isplitr; · ipureintro; exact hf
    iexact H1
  · iapply own_close; iexists f; isplitr; · ipureintro; exact hf
    iexact H2
omit [FloatOps F] in
theorem own_unhalve {d : Dev nD} {sh : Shape} {m : Memref sig .tc .vmem sh .bf16} {v : Vec F sh .bf16} :
    iprop(own d m fullShare.left v ∗ own d m fullShare.right v) ⊢ own d m fullShare v := by
  iintro ⟨H1, H2⟩
  ihave H1 := own_open $$ H1
  ihave H2 := own_open $$ H2
  icases H1 with ⟨%f, %hf, H1⟩
  icases H2 with ⟨%g, %hg, H2⟩
  iapply own_close
  iexists f
  isplitr; · ipureintro; exact hf
  iapply (pointsTo_share (PosShare.mem_left_op_right fullShare)).2
  isplitl [H1]; · iexact H1
  iapply (Entails.of_eq (show (m.view.loc (d : Thread nD τ) ↦[m.view.set]{fullShare.right} g : sProp 𝕄) = m.view.loc (d : Thread nD τ) ↦[m.view.set]{fullShare.right} f from
    pointsTo_congr fun i hi => by
      obtain ⟨x, -, rfl⟩ := Finset.mem_map.mp hi
      have := congrFun (hg.trans hf.symm) x
      simp only [View.read] at this
      exact (cast_inj _).mp this))
  iexact H2

omit [FloatOps F] in
theorem own_slice_congr {d : Dev nD} {sh : Shape} {m : Memref sig .tc .vmem sh .bf16} {q : PosShare TreeShare} {off off' size : Fin sh.rank → ℕ}
    {inb : ∀ a, off a + size a ≤ sh.size a} {inb' : ∀ a, off' a + size a ≤ sh.size a} {hr hr'} (h : off = off') (v : (⟨sh.rank, size⟩ : Shape).Idx → Elt F .bf16) :
    (own d (m.slice (Rect.unit off size inb) hr) q v : sProp 𝕄) = own d (m.slice (Rect.unit off' size inb') hr') q v := by
  subst h; rfl

section Join
variable {T : Type} [Fintype T] [DecidableEq T] {sh : Shape} (r : T → Rect sh) (hr : ∀ t a, (r t).stride a = 1)
  (hd : ∀ t t', t ≠ t' → Disjoint (r t).set (r t').set) (hcov : ∀ i : sh.Idx, ∃ t, i ∈ (r t).set)
include hd hcov

omit [FloatOps F] in
theorem own_cut (d : Dev nD) (m : Memref sig .tc .vmem sh .bf16) (q : PosShare TreeShare) (X : Vec F sh .bf16) :
    own d m q X ⊢ bigSep Finset.univ fun t => own d (m.slice (r t) (hr t)) q (fun j => X ((r t).emb j)) :=
  owns_rects (d : Thread nD τ) m q r hr hd (by ext i; obtain ⟨t, ht⟩ := hcov i; exact iff_of_true (Finset.mem_biUnion.mpr ⟨t, Finset.mem_univ _, ht⟩) (Finset.mem_univ _)) X
omit [FloatOps F] in
theorem own_join_of [∀ e, Nonempty (Elt F e)] (d : Dev nD) (m : Memref sig .tc .vmem sh .bf16) (q : PosShare TreeShare) (X : Vec F sh .bf16) :
    (bigSep Finset.univ fun t => own d (m.slice (r t) (hr t)) q (fun j => X ((r t).emb j))) ⊢ own d m q X :=
  owns_of_rects (d : Thread nD τ) m q r hr hd (by ext i; obtain ⟨t, ht⟩ := hcov i; exact iff_of_true (Finset.mem_biUnion.mpr ⟨t, Finset.mem_univ _, ht⟩) (Finset.mem_univ _)) X

/-- One function that agrees with every piece's. -/
theorem glue {α : Type} [Nonempty α] (vs : ∀ t, (r t).shape.Idx → α) : ∃ X : sh.Idx → α, ∀ t j, X ((r t).emb j) = vs t j := by
  classical
  refine ⟨fun i => if h : ∃ p : (Σ t, (r t).shape.Idx), (r p.1).emb p.2 = i then vs h.choose.1 h.choose.2 else Classical.arbitrary α, fun t j => ?_⟩
  have h : ∃ p : (Σ t, (r t).shape.Idx), (r p.1).emb p.2 = (r t).emb j := ⟨⟨t, j⟩, rfl⟩
  simp only [dif_pos h]
  have hs := h.choose_spec
  generalize h.choose = p at hs
  obtain ⟨t', j'⟩ := p
  have hm (t : T) (j : (r t).shape.Idx) : (r t).emb j ∈ (r t).set := (r t).map_emb_univ ▸ Finset.mem_map_of_mem _ (Finset.mem_univ j)
  have ht : t' = t := by
    by_contra hne
    exact Finset.disjoint_left.mp (hd t' t hne) (hm t' j') (hs ▸ hm t j)
  subst ht
  have hj : j' = j := (r t').emb.injective hs
  subst hj
  rfl

omit [FloatOps F] in
theorem own_join [∀ e, Nonempty (Elt F e)] (d : Dev nD) (m : Memref sig .tc .vmem sh .bf16) (q : PosShare TreeShare) (vs : ∀ t, Vec F (r t).shape .bf16) :
    (bigSep Finset.univ fun t => own d (m.slice (r t) (hr t)) q (vs t))
      ⊢ iprop(∃ X : Vec F sh .bf16, ⌜∀ t j, X ((r t).emb j) = vs t j⌝ ∗ own d m q X) := by
  obtain ⟨X, hX⟩ := glue r hd hcov (α := Elt F .bf16) vs
  iintro H
  iexists X
  isplitr; · ipureintro; exact hX
  iapply (own_join_of r hr hd hcov d m q X)
  iapply (Entails.of_eq (bigSep_congr fun t _ => by rw [show (fun j => X ((r t).emb j)) = vs t from funext (hX t)])); iexact H
end Join

/-! ## Loads and stores -/

theorem runs_ld {d : Dev nD} {Q : PUnit.{1} → sProp 𝕄} {sh : Shape} {m : Memref sig .tc .vmem sh .bf16} {off size : Fin sh.rank → ℕ}
    {inb : ∀ a, off a + size a ≤ sh.size a} {hl : m.view.LoadsAt (Rect.unit off size inb).toLoadRect}
    {k : ((Rect.unit off size inb).shape.Idx → Elt F .bf16) → P F} {q : PosShare TreeShare} {v : Vec F sh .bf16}
    {u : (Rect.unit off size inb).shape.Idx → Elt F .bf16} (hu : extractStridedSlice ⟨_, size⟩ off v ⟨rfl, inb⟩ = u) :
    own d m q v ⊢ iprop((own d m q v -∗ runs d Q (k u))
      -∗ runs d Q (.op (.load m (Rect.unit off size inb).toLoadRect hl) k)) := by
  iintro H Hk
  ihave H := own_open $$ H
  icases H with ⟨%f, %hf, H⟩
  iapply (runs_load (m := m) (S := m.view.set) (View.setOn_subset_set _ _)) $$ H
  iintro H
  subst hu
  rw [show m.view.readAt (Elt F) (Rect.unit off size inb).toLoadRect f = extractStridedSlice ⟨_, size⟩ off v ⟨rfl, inb⟩ by
    rw [View.readAt_eq_ld, hf]; exact funext fun x => congrArg v (funext fun a => Fin.ext (congrArg (off a + ·) (Nat.one_mul (x a).val)))]
  iapply Hk
  iapply own_close
  iexists f
  isplitr; · ipureintro; exact hf
  iexact H

omit [FloatOps F] in
theorem read_write_unit {sp : Space} {sh : Shape} {e : EltTy} (v : View sig .tc sp sh e) (off size : Fin sh.rank → ℕ) (inb : ∀ a, off a + size a ≤ sh.size a)
    (f : v.ty.Contents (Elt F)) (w : (Rect.unit off size inb).shape.Idx → Elt F e) :
    v.read (Elt F) ((v.slice (Rect.unit off size inb)).write (Elt F) f w Finset.univ) = updateSlice (v.read (Elt F) f) w off ⟨rfl, inb⟩ := by
  funext i
  unfold updateSlice
  split
  · next hin =>
    have hin' : ∀ a, off a ≤ (i a).val ∧ (i a).val < off a + size a := hin
    have hy : (v.slice (Rect.unit off size inb)).emb (fun a => (⟨(i a).val - off a, by have := hin' a; omega⟩ : Fin (size a))) = v.emb i := by
      rw [View.emb_slice, Function.Embedding.trans_apply]
      refine congrArg v.emb (funext fun a => Fin.ext ?_)
      rw [Rect.emb_apply]
      have := hin' a
      show off a + 1 * ((i a).val - off a) = (i a).val
      omega
    rw [View.read_apply, ← hy, View.write_emb_of_mem _ _ (Finset.mem_univ _)]
    simp only [cast_cast, cast_eq]
    rfl
  · next hout =>
    rw [View.read_apply, View.read_apply, View.write_of_not_mem _ _ _ fun hmem => hout ?_]
    rw [View.setOn_univ, View.set_slice] at hmem
    obtain ⟨j, hj, he⟩ := Finset.mem_map.mp hmem
    have : j = i := v.emb.injective he
    subst this
    exact fun a => (Rect.mem_set_unit (inb := inb)).mp hj a

theorem runs_st {d : Dev nD} {Q : PUnit.{1} → sProp 𝕄} {sh : Shape} {m : Memref sig .tc .vmem sh .bf16} {off size : Fin sh.rank → ℕ}
    {inb : ∀ a, off a + size a ≤ sh.size a} {w : (Rect.unit off size inb).shape.Idx → Elt F .bf16}
    {hx : (m.access (Rect.unit off size inb)).Stores Finset.univ}
    {hm : (Finset.univ : Finset (Rect.unit off size inb).shape.Idx) = Finset.univ ∨ ∀ a, (Rect.unit off size inb).stride a = 1}
    {k : PUnit → P F} {v u : Vec F sh .bf16} (hu : updateSlice v w off ⟨rfl, inb⟩ = u) :
    own d m fullShare v ⊢ iprop((own d m fullShare u -∗ runs d Q (k ⟨⟩))
      -∗ runs d Q (.op (.store m (Rect.unit off size inb) w Finset.univ hx hm) k)) := by
  iintro H Hk
  ihave H := own_open $$ H
  icases H with ⟨%f, %hf, H⟩
  iapply (wp_store 𝒱₀ (d : Thread nD τ) none Set.univ (m := m) (r := Rect.unit off size inb) (Mk := Finset.univ) (S := m.view.set)
    ((View.setOn_subset_set _ _).trans (View.set_slice_subset _ _))) $$ H
  iintro H
  iapply Hk
  iapply own_close
  iexists _
  isplitr
  · ipureintro; rw [← hu, ← hf]; exact read_write_unit m.view off size inb f w
  iexact H

end Cert.Attn

end
-- ==== Proof.Chunks.lean ====
/-
The first part of the body on one device: the projections, the rotary embedding, and the eight chunks of rows with the
reduce-scatter between them.
-/
module

public import proofs.«01_k».proof.Proof.Pieces

@[expose] public section

set_option maxRecDepth 16384

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The projections -/

theorem runs_projOne {d : Dev nD} {Q : PUnit.{1} → sProp 𝕄} {W : Memref sig .tc .vmem S1024x1024 .bf16} {T : Memref sig .tc .vmem S2048x1024 .bf16}
    {hT : T.IsWhole} {i : Fin 2} {x : Vec F S1024x1024 .bf16} {k : P F} {w : Vec F S1024x1024 .bf16} {v : Vec F S2048x1024 .bf16} :
    iprop(own d W fullShare w ∗ own d T fullShare v)
      ⊢ iprop(((own d W fullShare w ∗ own d T fullShare (updateSlice v (k0_pay6 x w) ![1024 * i.val, 0] ⟨rfl, half_inb i⟩)) -∗ runs d Q k)
        -∗ runs d Q (projOne W T hT i x k)) := by
  unfold projOne
  iintro ⟨HW, HT⟩ Hk
  iapply (runs_ld (m := W) (u := w) (extract_zero (a := 1024) (b := 1024) w _)) $$ HW
  iintro HW
  iapply (runs_ld (m := T) rfl) $$ HT
  iintro HT
  iapply (runs_st (m := T) rfl) $$ HT
  iintro HT
  iapply Hk
  isplitl [HW]; · iexact HW
  iexact HT

theorem runs_projHalf {d : Dev nD} {Q : PUnit.{1} → sProp 𝕄} {i : Fin 2} {k : P F} {x : Vec F S2048x1024 .bf16} {wq wk wv : Vec F S1024x1024 .bf16}
    {q kk v : Vec F S2048x1024 .bf16} :
    iprop(own d xM fullShare x ∗ own d wqM fullShare wq ∗ own d wkM fullShare wk ∗ own d wvM fullShare wv
        ∗ own d qM fullShare q ∗ own d kM fullShare kk ∗ own d vM fullShare v)
      ⊢ iprop(((own d xM fullShare x ∗ own d wqM fullShare wq ∗ own d wkM fullShare wk ∗ own d wvM fullShare wv
          ∗ own d qM fullShare (updateSlice q (k0_pay6 (half x i) wq) ![1024 * i.val, 0] ⟨rfl, half_inb i⟩)
          ∗ own d kM fullShare (updateSlice kk (k0_pay6 (half x i) wk) ![1024 * i.val, 0] ⟨rfl, half_inb i⟩)
          ∗ own d vM fullShare (updateSlice v (k0_pay6 (half x i) wv) ![1024 * i.val, 0] ⟨rfl, half_inb i⟩)) -∗ runs d Q k)
        -∗ runs d Q (projHalf i k)) := by
  unfold projHalf
  iintro ⟨Hx, Hwq, Hwk, Hwv, Hq, Hk, Hv⟩ Hcont
  iapply (runs_ld (m := xM) (u := half x i) rfl) $$ Hx
  iintro Hx
  iapply (runs_projOne (W := wqM) (T := qM)) $$ [Hwq Hq]
  · isplitl [Hwq]; · iexact Hwq
    iexact Hq
  iintro ⟨Hwq, Hq⟩
  iapply (runs_projOne (W := wkM) (T := kM)) $$ [Hwk Hk]
  · isplitl [Hwk]; · iexact Hwk
    iexact Hk
  iintro ⟨Hwk, Hk⟩
  iapply (runs_projOne (W := wvM) (T := vM)) $$ [Hwv Hv]
  · isplitl [Hwv]; · iexact Hwv
    iexact Hv
  iintro ⟨Hwv, Hv⟩
  iapply Hcont
  isplitl [Hx]; · iexact Hx
  isplitl [Hwq]; · iexact Hwq
  isplitl [Hwk]; · iexact Hwk
  isplitl [Hwv]; · iexact Hwv
  isplitl [Hq]; · iexact Hq
  isplitl [Hk]; · iexact Hk
  iexact Hv

/-! ## The rotary embedding -/

theorem kUpto_store (I : Ins F) (h : Fin 8) (hs : S2048x1024.Slices ![0, 128 * h.val] S2048x128) :
    updateSlice (kUpto I h.val) (keyRot I h) ![0, 128 * h.val] hs = kUpto I (h.val + 1) :=
  (update_cols (n := 2048) _ _ h hs).trans (congrArg (ofCols (n := 2048)) (upto_step (keyRot I) _ h))
theorem qUpto_store (I : Ins F) (h : Fin 8) (hs : S2048x1024.Slices ![0, 128 * h.val] S2048x128) :
    updateSlice (qUpto I h.val) (qRot I h) ![0, 128 * h.val] hs = qUpto I (h.val + 1) :=
  (update_cols (n := 2048) _ _ h hs).trans (congrArg (ofCols (n := 2048)) (upto_step (qRot I) _ h))

theorem runs_rope {d : Dev nD} {Q : PUnit.{1} → sProp 𝕄} (I : Ins F) (h : Fin 8) (k : P F) :
    iprop(own d kM fullShare (kUpto I h.val) ∗ own d qM fullShare (qUpto I h.val))
      ⊢ iprop(((own d kM fullShare (kUpto I (h.val + 1)) ∗ own d qM fullShare (qUpto I (h.val + 1))) -∗ runs d Q k)
        -∗ runs d Q (ropeStep (k0_pay2 I.pm) (k0_pay3 I.co) (k0_pay4 I.si) h k)) := by
  unfold ropeStep
  iintro ⟨Hk, Hq⟩ Hcont
  iapply (runs_ld (m := kM) (u := colTile (n := 2048) (proj I.x I.wk) h) ((extract_cols (n := 2048) _ h _).trans (colTile_kUpto I h))) $$ Hk
  iintro Hk
  iapply (runs_ld (m := kM) rfl) $$ Hk
  iintro Hk
  iapply (runs_st (m := kM) (off := ![0, 128 * h.val]) (size := S2048x128.size) (inb := head_inb h) (v := kUpto I h.val) (w := keyRot I h) (u := kUpto I (h.val + 1))
    (kUpto_store I h _)) $$ Hk
  iintro Hk
  iapply (runs_ld (m := qM) (u := colTile (n := 2048) (proj I.x I.wq) h) ((extract_cols (n := 2048) _ h _).trans (colTile_qUpto I h))) $$ Hq
  iintro Hq
  iapply (runs_ld (m := qM) rfl) $$ Hq
  iintro Hq
  iapply (runs_st (m := qM) (off := ![0, 128 * h.val]) (size := S2048x128.size) (inb := head_inb h) (v := qUpto I h.val) (w := qRot I h) (u := qUpto I (h.val + 1))
    (qUpto_store I h _)) $$ Hq
  iintro Hq
  iapply Hcont
  isplitl [Hk]; · iexact Hk
  iexact Hq

/-! ## One chunk of rows -/

/-- What a chunk reads and leaves alone. -/
def held (d : Dev nD) (I : Ins F) : sProp 𝕄 :=
  iprop(own d qM fullShare (qUpto I 8) ∗ own d kM fullShare (kUpto I 8) ∗ own d vM fullShare (proj I.x I.wv) ∗ own d woM fullShare I.wo)

theorem rowTile_eq (y : Vec F S2048x1024 .bf16) (c h : Fin 8) {off : Fin 2 → ℕ} (e : off = ![256 * c.val, 128 * h.val]) (hs : S2048x1024.Slices off S256x128) :
    extractStridedSlice S256x128 off y hs = rowTile y c h := by
  subst e; exact funext fun i => congrArg y (ext2 rfl rfl)

theorem runs_head {d : Dev nD} {Q : PUnit.{1} → sProp 𝕄} (I : Ins F) (j h : Fin 8) (k : P F) (g : Fin 8 → Vec F S256x128 .bf16) :
    iprop(held d I ∗ own d ctxM fullShare (ofCols (n := 256) fun h' => if h'.val < h.val then ctxHead I (cid d j.val) h' else g h'))
      ⊢ iprop(((held d I ∗ own d ctxM fullShare (ofCols (n := 256) fun h' => if h'.val < h.val + 1 then ctxHead I (cid d j.val) h' else g h')) -∗ runs d Q k)
        -∗ runs d Q (headStep d j h k)) := by
  unfold headStep held
  iintro ⟨⟨Hq, Hk, Hv, Hwo⟩, Hc⟩ Hcont
  iapply (runs_ld (m := qM) (u := rowTile (qUpto I 8) (cid d j.val) h) (rowTile_eq _ (cid d j.val) h (qOff_eq d j h) _)) $$ Hq
  iintro Hq
  iapply (runs_ld (m := kM) (u := keyRot I h) ((extract_cols (n := 2048) _ h _).trans (colTile_kUpto_end I h))) $$ Hk
  iintro Hk
  iapply (runs_ld (m := vM) (u := colTile (n := 2048) (proj I.x I.wv) h) (extract_cols (n := 2048) _ h _)) $$ Hv
  iintro Hv
  iapply (runs_ld (m := ctxM) rfl) $$ Hc
  iintro Hc
  iapply (runs_st (m := ctxM) (off := ![0, 128 * h.val]) (size := S256x128.size) (inb := ctx_inb h) (w := ctxHead I (cid d j.val) h)
    (v := ofCols (n := 256) fun h' : Fin 8 => if h'.val < h.val then ctxHead I (cid d j.val) h' else g h')
    (u := ofCols (n := 256) fun h' : Fin 8 => if h'.val < h.val + 1 then ctxHead I (cid d j.val) h' else g h')
    ((update_cols (n := 256) _ _ h _).trans (congrArg (ofCols (n := 256)) (upto_step (ctxHead I (cid d j.val)) g h)))) $$ Hc
  iintro Hc
  iapply Hcont
  isplitl [Hq Hk Hv Hwo]
  · isplitl [Hq]; · iexact Hq
    isplitl [Hk]; · iexact Hk
    isplitl [Hv]; · iexact Hv
    iexact Hwo
  iexact Hc

/-- Chunk `j`: its rows of the result become this device's part. -/
theorem runs_chunk {d : Dev nD} {Q : PUnit.{1} → sProp 𝕄} (I : Ins F) (j : Fin 8) (k : P F) {v₀ v : Vec F S256x1024 .bf16} {hr : ∀ a, (outR d j).stride a = 1} :
    iprop(held d I ∗ own d ctxM fullShare v₀ ∗ own d (outM.slice (outR d j) hr) fullShare v)
      ⊢ iprop(((held d I ∗ (∃ v₀, own d ctxM fullShare v₀) ∗ own d (outM.slice (outR d j) hr) fullShare (part I (cid d j.val))) -∗ runs d Q k)
        -∗ runs d Q (chunkPart d j k)) := by
  unfold chunkPart
  iintro ⟨Hh, Hc, Ho⟩ Hcont
  iapply (runs_seqK (d := d) (Q := Q) 8 (headStep d j) (fun s => iprop(held d I ∗ own d ctxM fullShare (ofCols (n := 256) fun h' : Fin 8 =>
    if h'.val < s then ctxHead I (cid d j.val) h' else colTile (n := 256) v₀ h'))) _ fun h k => runs_head I j h k _) $$ [Hh Hc]
  · isplitl [Hh]; · iexact Hh
    have e : (ofCols (n := 256) fun h' : Fin 8 => if h'.val < 0 then ctxHead I (cid d j.val) h' else colTile (n := 256) v₀ h') = v₀ := by
      simp only [Nat.not_lt_zero, if_false]; exact ofCols_colTile _
    rw [e]
    iexact Hc
  iintro ⟨Hh, Hc⟩
  have e : (ofCols (n := 256) fun h' : Fin 8 => if h'.val < 8 then ctxHead I (cid d j.val) h' else colTile (n := 256) v₀ h') = ofCols (n := 256) (ctxHead I (cid d j.val)) :=
    congrArg _ (funext fun h' => if_pos h'.isLt)
  rw [e]
  unfold projOut outStore held
  icases Hh with ⟨Hq, Hk, Hv, Hwo⟩
  iapply (runs_ld (m := ctxM) (u := ofCols (n := 256) (ctxHead I (cid d j.val))) (extract_zero (a := 256) (b := 1024) _ _)) $$ Hc
  iintro Hc
  iapply (runs_ld (m := woM) (u := I.wo) (extract_zero (a := 1024) (b := 1024) _ _)) $$ Hwo
  iintro Hwo
  iapply (runs_load_own hr (m := outM) (r := outR d j)) $$ Ho
  iintro Ho
  iapply (runs_store_own hr (m := outM) (r := outR d j)) $$ Ho
  iintro Ho
  iapply Hcont
  isplitl [Hq Hk Hv Hwo]
  · isplitl [Hq]; · iexact Hq
    isplitl [Hk]; · iexact Hk
    isplitl [Hv]; · iexact Hv
    iexact Hwo
  isplitl [Hc]; · iexists _; iexact Hc
  iexact Ho

/-! ## The reduce-scatter -/

/-- Chunk `j`'s rows of the result. -/
abbrev outPc (d : Dev nD) (j : Fin 8) : Memref sig .tc .vmem S256x1024 .bf16 := outM.slice (outR d j) (fun _ => rfl)

theorem outSrc_own (d : Dev nD) (j : Fin 7) (q : PosShare TreeShare) (v : Vec F S256x1024 .bf16) :
    (own d (outPc d j.castSucc) q v : sProp 𝕄) = own d (outSrc d j) q v :=
  own_slice_congr (sh := S2048x1024) (m := outM) (size := S256x1024.size) ((off9_eq d j.castSucc).trans (off10_eq d j).symm) v

variable (J : Dev nD → Ins F) (K : Dev nD × (Unit ⊕ (Tr × Bool)) → ℕ)

/-- Between two chunks: `j` chunks are sent and received, chunk `j` is summed up. -/
def mid (d : Dev nD) (j : ℕ) : sProp 𝕄 :=
  iprop(held d (J d) ∗ (∃ v, own d ctxM fullShare v) ∗ St d j j ∗ owesE d (owe j d)
    ∗ upTo (n := 7) j (fun i => iprop((∃ v, own d (outPc d i.castSucc) fullShare v) ∗ ∃ v, own d (rsSlot i) fullShare v))
        (fun i => iprop(∃ v, own d (outPc d i.succ) fullShare v))
    ∗ ∃ i : Fin 8, ⌜i.val = j⌝ ∗ own d (outPc d i) fullShare (acc J j d))

set_option maxHeartbeats 1000000 in
theorem runs_chunkStep {d : Dev nD} {Q : PUnit.{1} → sProp 𝕄} (j : Fin 7) (k : P F) :
    iprop(records (accs J) K ∗ levAts L lv ∗ mid J d j.val) ⊢ iprop(((records (accs J) K ∗ levAts L lv ∗ mid J d (j.val + 1)) -∗ runs d Q k) -∗ runs d Q (chunkStep d j k)) := by
  unfold chunkStep mid
  iintro ⟨#HR, #Hlev, Hh, ⟨%vc, Hc⟩, HSt, HO, Hup, ⟨%i, %hi, Hacc⟩⟩ Hcont
  have ei : i = j.castSucc := Fin.ext hi
  subst ei
  ihave Hup := (upTo_step _ _ j) $$ Hup
  icases Hup with ⟨⟨%vn, Hnext⟩, Hup⟩
  unfold rsStart
  ihave Hacc := (Entails.of_eq (outSrc_own d j fullShare (acc J j.val d))) $$ Hacc
  iapply (runs_start (accs J) K (d := d) (.inl j) (rsDev d j) (rsDev_eq d j) (src := outSrc d j) (dst := rsSlot j) (sS := rsSend j) (rS := rsRecv j)
      (q := fullShare) (v := acc J j.val d) (w := j.val) rfl rfl rfl (Nat.le_refl _) .rfl
      (by unfold sendPay; dsimp only; iintro H; iexists _; iexact H)
      (by
        unfold recvPay; dsimp only
        rw [show prv (tgt d (.inl j)) = d from prv_nxt d]; exact .rfl)) $$ [HSt HO Hacc]
  · isplitr; · iexact HR
    isplitl [HSt]; · iexact HSt
    isplitl [HO]; · iexact HO
    iexact Hacc
  iintro ⟨HSt, HO⟩
  iapply (runs_chunk (J d) j.succ _) $$ [Hh Hc Hnext]
  · isplitl [Hh]; · iexact Hh
    isplitl [Hc]; · iexact Hc
    iexact Hnext
  iintro ⟨Hh, Hc, Hnext⟩
  unfold rsWait
  iapply (runs_wait (accs J) K (d := d) (.inl j) (s := rank (.inl j) + 1) (Nat.lt_succ_self _)
    (a := rsSlot j) (b := outSrc d j) (a' := outSrc d j) (b' := rsSlot j) (sS := rsSend j) (rS := rsRecv j) rfl rfl rfl rfl) $$ [HSt HO]
  · isplitr; · iexact HR
    isplitr; · iexact Hlev
    isplitl [HSt]; · iexact HSt
    iexact HO
  iintro ⟨HSt, HO, Hs, Hr⟩
  unfold sendPay recvPay
  dsimp only
  icases Hs with ⟨%vs, Hs⟩
  ihave Hr := (own_squeeze shapeCasts_S1x256x1024_S256x1024) $$ Hr
  icases Hr with ⟨%u, %hu, Hr⟩
  unfold accStep outStore
  iapply (runs_load_own (fun _ => rfl) (m := outM) (r := outR d j.succ)) $$ Hnext
  iintro Hnext
  iapply (runs_load_own (fun _ => rfl) (m := rsM) (r := rsR j)) $$ Hr
  iintro Hr
  iapply (runs_load_own (fun _ => rfl) (m := outM) (r := outR d j.succ)) $$ Hnext
  iintro Hnext
  iapply (runs_store_own (fun _ => rfl) (m := outM) (r := outR d j.succ)) $$ Hnext
  iintro Hnext
  iapply Hcont
  isplitr; · iexact HR
  isplitr; · iexact Hlev
  isplitl [Hh]; · iexact Hh
  isplitl [Hc]; · iexact Hc
  isplitl [HSt]; · iexact HSt
  isplitl [HO]; · iexact HO
  isplitl [Hup Hs Hr]
  · iapply Hup
    isplitl [Hs]
    · iexists vs; iapply (Entails.of_eq (outSrc_own d j fullShare vs).symm); iexact Hs
    · iexists _; iapply (own_unsqueeze shapeCasts_S1x256x1024_S256x1024); iexact Hr
  iexists j.succ
  isplitr; · ipureintro; rfl
  rw [pay57_eq _ _ _ hu]
  iexact Hnext

end Cert.Attn

end
-- ==== Proof.Gather.lean ====
/-
The second part of the body on one device: the finished block staged, the all-gather along the four flows, and what it
lands written into the result.
-/
module

public import proofs.«01_k».proof.Proof.Chunks
public import Idealize.ShloMosaic.Lib.Pipeline.Value

@[expose] public section

set_option maxRecDepth 16384

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## A landing slot of the all-gather and its two halves -/

abbrev subR (g : Fin 7) (s : Fin 2) : Rect S7x256x512 := Rect.unit (s := S7x256x512) ![g.val, 128 * s.val, 0] S1x128x512.size (agsub_inb g s)
abbrev slotOf (m : Memref sig .tc .vmem S7x256x512 .bf16) (g : Fin 7) (s : Fin 2) : Memref sig .tc .vmem S128x512 .bf16 :=
  (m.slice (subR g s) (fun _ => rfl)).squeeze S128x512 squeezes_S1x128x512_S128x512

theorem sub_disjoint (p p' : Fin 7 × Fin 2) (h : p ≠ p') : Disjoint (subR p.1 p.2).set (subR p'.1 p'.2).set := by
  rw [Finset.disjoint_left]
  intro i hi hi'
  have a0 : p.1.val ≤ (i 0).val ∧ (i 0).val < p.1.val + 1 := Rect.mem_set_unit.mp hi 0
  have a1 : 128 * p.2.val ≤ (i 1).val ∧ (i 1).val < 128 * p.2.val + 128 := Rect.mem_set_unit.mp hi 1
  have b0 : p'.1.val ≤ (i 0).val ∧ (i 0).val < p'.1.val + 1 := Rect.mem_set_unit.mp hi' 0
  have b1 : 128 * p'.2.val ≤ (i 1).val ∧ (i 1).val < 128 * p'.2.val + 128 := Rect.mem_set_unit.mp hi' 1
  exact h (Prod.ext (Fin.ext (by omega)) (Fin.ext (by omega)))
theorem sub_cover (i : S7x256x512.Idx) : ∃ p : Fin 7 × Fin 2, i ∈ (subR p.1 p.2).set := by
  have h0 : (i 0).val < 7 := (i 0).isLt
  have h1 : (i 1).val < 256 := (i 1).isLt
  have h2 : (i 2).val < 512 := (i 2).isLt
  refine ⟨(⟨(i 0).val, h0⟩, ⟨(i 1).val / 128, by omega⟩), Rect.mem_set_unit.mpr fun a => ?_⟩
  match a with
  | ⟨0, _⟩ => show (i 0).val ≤ (i 0).val ∧ (i 0).val < (i 0).val + 1; omega
  | ⟨1, _⟩ => show 128 * ((i 1).val / 128) ≤ (i 1).val ∧ (i 1).val < 128 * ((i 1).val / 128) + 128; omega
  | ⟨2, _⟩ => show 0 ≤ (i 2).val ∧ (i 2).val < 0 + 512; omega

theorem drop_unit {a b : ℕ} {α : Type} (v : (⟨3, ![1, a, b]⟩ : Shape).Idx → α) (h : (⟨3, ![1, a, b]⟩ : Shape).ShapeCasts ⟨2, ![a, b]⟩) (j : (Sh a b).Idx) :
    shapeCast ⟨2, ![a, b]⟩ v h j = v (ix3 0 (j 0) (j 1)) :=
  (shapeCast_dropUnit_apply ![a, b] v h j).trans (congrArg v (funext fun k => by
    match k with
    | ⟨0, _⟩ => rfl
    | ⟨1, _⟩ => rfl
    | ⟨2, _⟩ => rfl))
theorem eq_ix3' {a b : ℕ} (j : (⟨3, ![1, a, b]⟩ : Shape).Idx) : j = ix3 0 (j 1) (j 2) := funext fun k => by
  match k with
  | ⟨0, _⟩ => exact Fin.ext (by have : (j 0).val < 1 := (j 0).isLt; show (j 0).val = 0; omega)
  | ⟨1, _⟩ => rfl
  | ⟨2, _⟩ => rfl

theorem shapeCasts_S1x128x512_S128x512 : S1x128x512.ShapeCasts S128x512 := squeezes_S1x128x512_S128x512.numel_eq.symm

/-- A half slot's contents as the part of a function of the whole array. -/
theorem sub_emb (g : Fin 7) (s : Fin 2) (j : S128x512.Idx) :
    (subR g s).emb (ix3 0 (j 0) (j 1)) = (ix3 g ⟨128 * s.val + (j 0).val, by have := lt0 j; omega⟩ (j 1) : S7x256x512.Idx) := funext fun k => by
  match k with
  | ⟨0, _⟩ => exact Fin.ext (by show g.val + 1 * 0 = g.val; omega)
  | ⟨1, _⟩ => exact Fin.ext (by show 128 * s.val + 1 * (j 0).val = 128 * s.val + (j 0).val; omega)
  | ⟨2, _⟩ => exact Fin.ext (by show 0 + 1 * (j 1).val = (j 1).val; omega)

section Slot
variable (d : Dev nD) (m : Memref sig .tc .vmem S7x256x512 .bf16) (g : Fin 7) (s : Fin 2) (q : PosShare TreeShare) (v : Vec F S128x512 .bf16)
  (X : Vec F S7x256x512 .bf16) (h : ∀ j : S128x512.Idx, v j = X (ix3 g ⟨128 * s.val + (j 0).val, by have := lt0 j; omega⟩ (j 1)))
include h
omit [FloatOps F] in
theorem slot_open : own d (slotOf m g s) q v ⊢ own d (m.slice (subR g s) (fun _ => rfl)) q (fun j => X ((subR g s).emb j)) := by
  iintro H
  ihave H := (own_squeeze shapeCasts_S1x128x512_S128x512) $$ H
  icases H with ⟨%u, %hu, H⟩
  have e : u = fun j => X ((subR g s).emb j) := by
    funext j
    have := congrFun hu (ix2 (j 1) (j 2))
    rw [show shapeCast S128x512 u shapeCasts_S1x128x512_S128x512 (ix2 (j 1) (j 2)) = u (ix3 0 (j 1) (j 2)) from drop_unit (a := 128) (b := 512) u _ _, h, ← sub_emb] at this
    rw [eq_ix3' (a := 128) (b := 512) j]
    exact this
  subst e
  iexact H
omit [FloatOps F] in
theorem slot_close : own d (m.slice (subR g s) (fun _ => rfl)) q (fun j => X ((subR g s).emb j)) ⊢ own d (slotOf m g s) q v := by
  have e : shapeCast S128x512 (fun j => X ((subR g s).emb j)) shapeCasts_S1x128x512_S128x512 = v := by
    funext j
    rw [show shapeCast S128x512 (fun j => X ((subR g s).emb j)) shapeCasts_S1x128x512_S128x512 j = X ((subR g s).emb (ix3 0 (j 0) (j 1)))
      from drop_unit (a := 128) (b := 512) _ _ _, h, sub_emb]
  rw [← e]
  exact own_unsqueeze shapeCasts_S1x128x512_S128x512
end Slot

/-- A load of a whole slot through its two halves. -/
theorem runs_ld_pair {d : Dev nD} {Q : PUnit.{1} → sProp 𝕄} {m : Memref sig .tc .vmem S7x256x512 .bf16} {g : Fin 7} {hl : m.view.LoadsAt (agR g).toLoadRect}
    {k : ((agR g).shape.Idx → Elt F .bf16) → P F} {q : PosShare TreeShare} {v₀ v₁ : Vec F S128x512 .bf16} (w : Vec F S256x512 .bf16)
    (h₀ : ∀ j : S128x512.Idx, v₀ j = w (ix2 ⟨128 * (0 : Fin 2).val + (j 0).val, by have := lt0 j; show 128 * 0 + _ < 256; omega⟩ (j 1)))
    (h₁ : ∀ j : S128x512.Idx, v₁ j = w (ix2 ⟨128 * (1 : Fin 2).val + (j 0).val, by have := lt0 j; show 128 * 1 + _ < 256; omega⟩ (j 1))) :
    iprop(own d (slotOf m g 0) q v₀ ∗ own d (slotOf m g 1) q v₁)
      ⊢ iprop(((own d (slotOf m g 0) q v₀ ∗ own d (slotOf m g 1) q v₁) -∗ runs d Q (k (fun i => w (ix2 (i 1) (i 2)))))
        -∗ runs d Q (.op (.load m (agR g).toLoadRect hl) k)) := by
  let X : Vec F S7x256x512 .bf16 := fun i => w (ix2 (i 1) (i 2))
  have two (Φ : Fin 2 → sProp 𝕄) : bigSep Finset.univ Φ = iprop(Φ 0 ∗ Φ 1) := bigSep_univ_eq_bigSepL [0, 1] (by decide) (by decide) Φ
  have hdj (t t' : Fin 2) (ht : t ≠ t') : Disjoint (subR g t).set (subR g t').set := sub_disjoint (g, t) (g, t') fun e => ht (congrArg Prod.snd e)
  have hdv (t t' : Fin 2) (ht : t ≠ t') : Disjoint (m.view.slice (subR g t)).set (m.view.slice (subR g t')).set := by
    rw [View.set_slice, View.set_slice]; exact (Finset.disjoint_map _).mpr (hdj t t' ht)
  iintro ⟨H0, H1⟩ Hk
  ihave H0 := (slot_open d m g 0 q v₀ X h₀) $$ H0
  ihave H1 := (slot_open d m g 1 q v₁ X h₁) $$ H1
  ihave H := (show iprop(own d (m.slice (subR g 0) (fun _ => rfl)) q (fun j => X ((subR g 0).emb j)) ∗ own d (m.slice (subR g 1) (fun _ => rfl)) q (fun j => X ((subR g 1).emb j)))
      ⊢ iprop(∃ f, ⌜∀ t ∈ (Finset.univ : Finset (Fin 2)), ∀ j, m.view.read (Elt F) f ((subR g t).emb j) = X ((subR g t).emb j)⌝
            ∗ m.view.loc (d : Thread nD τ) ↦[(Finset.univ : Finset (Fin 2)).biUnion fun t => (m.view.slice (subR g t)).set]{q} f) from
      (Entails.of_eq (two fun t => own d (m.slice (subR g t) (fun _ => rfl)) q (fun j => X ((subR g t).emb j))).symm).trans
        (owns_rects_join (d : Thread nD τ) m q (subR g) (fun _ _ => rfl) hdj X Finset.univ)) $$ [H0 H1]
  · isplitl [H0]; · iexact H0
    iexact H1
  icases H with ⟨%f, %hf, H⟩
  have hread (t : Fin 2) : (fun j => m.view.read (Elt F) f ((subR g t).emb j)) = fun j => X ((subR g t).emb j) := funext fun j => hf t (Finset.mem_univ t) j
  have hS : m.view.setOn (agR g).toLoadRect.set ⊆ (Finset.univ : Finset (Fin 2)).biUnion fun t => (m.view.slice (subR g t)).set := by
    intro y hy
    obtain ⟨i, hi, rfl⟩ := Finset.mem_map.mp hy
    have h0 : g.val ≤ (i 0).val ∧ (i 0).val < g.val + 1 := Rect.mem_set_unit.mp hi 0
    obtain ⟨⟨g', s⟩, hs⟩ := sub_cover i
    have h0' : g'.val ≤ (i 0).val ∧ (i 0).val < g'.val + 1 := Rect.mem_set_unit.mp hs 0
    have : g' = g := Fin.ext (by omega)
    subst this
    exact Finset.mem_biUnion.mpr ⟨s, Finset.mem_univ _, by rw [View.set_slice]; exact Finset.mem_map_of_mem _ hs⟩
  iapply (runs_load (m := m) hS) $$ H
  iintro H
  have e : m.view.readAt (Elt F) (agR g).toLoadRect f = fun i => w (ix2 (i 1) (i 2)) := by
    funext i
    have hi0 : (i 0).val < 1 := (i 0).isLt
    have hi1 : (i 1).val < 256 := (i 1).isLt
    have hi2 : (i 2).val < 512 := (i 2).isLt
    rw [View.readAt_eq_ld]
    show m.view.read (Elt F) f ((agR g).emb i) = w (ix2 (i 1) (i 2))
    have hx (s : Fin 2) (hs : s.val = (i 1).val / 128) : (agR g).emb i = (subR g s).emb (ix3 0 ⟨(i 1).val % 128, Nat.mod_lt _ (by decide)⟩ (i 2)) := funext fun k => by
      match k with
      | ⟨0, _⟩ => exact Fin.ext (by show g.val + 1 * (i 0).val = g.val + 1 * 0; omega)
      | ⟨1, _⟩ => exact Fin.ext (by show 0 + 1 * (i 1).val = 128 * s.val + 1 * ((i 1).val % 128); omega)
      | ⟨2, _⟩ => rfl
    have hs2 : (i 1).val / 128 < 2 := by omega
    rw [hx ⟨(i 1).val / 128, hs2⟩ rfl, hf _ (Finset.mem_univ _), ← hx ⟨(i 1).val / 128, hs2⟩ rfl]
    refine congrArg w (ext2 ?_ ?_)
    · show 0 + 1 * (i 1).val = (i 1).val; omega
    · show 0 + 1 * (i 2).val = (i 2).val; omega
  rw [e]
  iapply Hk
  ihave H := (Entails.of_eq ((pointsTo_biUnion (ℓ := m.view.loc (d : Thread nD τ)) (q := q) (f := f) (Finset.univ : Finset (Fin 2))
    (fun t => ((m.view.slice (subR g t)).set : Finset (Idx (m.view.loc (d : Thread nD τ))))) (fun t _ t' _ h => hdv t t' h)).trans (two _))) $$ H
  icases H with ⟨H0, H1⟩
  ihave H0 := (Entails.of_eq (owns_slice_read (d : Thread nD τ) m q (subR g 0) (fun _ => rfl) f).symm) $$ H0
  ihave H1 := (Entails.of_eq (owns_slice_read (d : Thread nD τ) m q (subR g 1) (fun _ => rfl) f).symm) $$ H1
  rw [hread 0, hread 1]
  isplitl [H0]
  · iapply (slot_close d m g 0 q v₀ X h₀); iexact H0
  · iapply (slot_close d m g 1 q v₁ X h₁); iexact H1

end Cert.Attn

end
-- ==== Proof.Hops.lean ====
/-
The all-gather on one device, hop by hop: the staged block's halves start the four flows, every hop's landing is sent on
and written into the result.
-/
module

public import proofs.«01_k».proof.Proof.Gather

@[expose] public section

set_option maxRecDepth 16384

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (J : Dev nD → Ins F) (K : Dev nD × (Unit ⊕ (Tr × Bool)) → ℕ)

/-! ## The blocks the flows carry -/

/-- The left (`b = 0`) or right half of the columns of device `o`'s finished block. -/
def quart (o : Dev nD) (b : Fin 2) : Vec F S256x512 .bf16 := fun i =>
  acc J 7 o (ix2 (i 0) ⟨512 * b.val + (i 1).val, by have := lt1 i; omega⟩)

theorem outFin_quart (c : Fin 8) (b : Fin 2) {off : Fin 2 → ℕ} (e : off = ![256 * c.val, 512 * b.val]) (hs : S2048x1024.Slices off S256x512) :
    quart J (prv c) b = extractStridedSlice S256x512 off (outFin J) hs := by
  subst e
  funext i
  have h0 := lt0 i
  show acc J 7 (prv c) (ix2 (i 0) ⟨512 * b.val + (i 1).val, _⟩)
    = acc J 7 (prv ⟨(256 * c.val + (i 0).val) / 256, _⟩) (ix2 ⟨(256 * c.val + (i 0).val) % 256, _⟩ ⟨512 * b.val + (i 1).val, _⟩)
  have e1 : (⟨(256 * c.val + (i 0).val) / 256, by have := c.isLt; show _ < 8; omega⟩ : Dev nD) = c := Fin.ext (by dsimp only; omega)
  have e2 : (⟨(256 * c.val + (i 0).val) % 256, Nat.mod_lt _ (by decide)⟩ : Fin 256) = i 0 := Fin.ext (by dsimp only; omega)
  exact congr (congrArg (acc J 7) (congrArg prv e1.symm)) (congrArg (fun r => ix2 r _) e2.symm)

/-- What flow `f` carries is a half of the rows of one of those. -/
theorem piece_quart (o : Dev nD) (f : Fin 4) (b s : Fin 2) (hb : f.val / 2 = b.val) (hs : f.val % 2 = s.val) (j : S128x512.Idx) :
    piece (accs J) o f j = quart J o b (ix2 ⟨128 * s.val + (j 0).val, by have := lt0 j; omega⟩ (j 1)) := by
  refine congrArg (acc J 7 o) (ext2 ?_ ?_)
  · show 128 * (f.val % 2) + (j 0).val = 128 * s.val + (j 0).val; rw [hs]
  · show 512 * (f.val / 2) + (j 1).val = 512 * b.val + (j 1).val; rw [hb]

/-! ## The result, filled hop by hop -/

/-- Where the result is final when `g` hops are written. -/
def gotten (d : Dev nD) (g : ℕ) (i : S2048x1024.Idx) : Prop :=
  (i 0).val / 256 = (d.val + 1) % 8 ∨ ((i 1).val < 512 ∧ (d.val + 8 - (i 0).val / 256) % 8 < g)
    ∨ (512 ≤ (i 1).val ∧ ((i 0).val / 256 + 14 - d.val) % 8 < g)
theorem gotten_all (d : Dev nD) (i : S2048x1024.Idx) : gotten d 7 i := by
  have h0 := lt0 i
  have hd : d.val < 8 := d.isLt
  unfold gotten
  by_cases h : (i 0).val / 256 = (d.val + 1) % 8
  · exact Or.inl h
  · by_cases h1 : (i 1).val < 512
    · exact Or.inr (Or.inl ⟨h1, by omega⟩)
    · exact Or.inr (Or.inr ⟨by omega, by omega⟩)

def outGot (d : Dev nD) (g : ℕ) : sProp 𝕄 := iprop(∃ v, ⌜∀ i, gotten d g i → v i = outFin J i⌝ ∗ own d outM fullShare v)

theorem outGot_all (d : Dev nD) : outGot J d 7 ⊢ own d outM fullShare (outFin J) := by
  unfold outGot
  iintro ⟨%v, %hv, H⟩
  have e : v = outFin J := funext fun i => hv i (gotten_all d i)
  subst e
  iexact H

/-- The contents of a landing slot, and of a hop's source. -/
abbrev slotV (d : Dev nD) (g : Fin 7) (f : Fin 4) : Vec F S128x512 .bf16 := piece (accs J) (og d g f) f
abbrev srcV (d : Dev nD) (g : Fin 7) (f : Fin 4) : Vec F S128x512 .bf16 := piece (accs J) (og (tgt d (.inr (g, f))) g f) f

set_option maxHeartbeats 1000000 in
/-- Hop `g`'s two landed blocks go into the result. -/
theorem runs_agWrite {d : Dev nD} {Q : PUnit.{1} → sProp 𝕄} (g : Fin 7) (q : PosShare TreeShare) (k : P F) :
    iprop(outGot J d g.val ∗ bigSep Finset.univ fun f => own d (agSlot g f) q (slotV J d g f))
      ⊢ iprop(((outGot J d (g.val + 1) ∗ bigSep Finset.univ fun f => own d (agSlot g f) q (slotV J d g f)) -∗ runs d Q k)
        -∗ runs d Q (agWrite d g k)) := by
  have hd : d.val < 8 := d.isLt
  have hg := g.isLt
  have b4 := bigSep_fin4 (F := F) fun f => own d (agSlot g f) q (slotV J d g f)
  rw [b4]
  have oP (f : Fin 4) (hf : f.val < 2) : og d g f = prv ⟨(d.val + 8 - g.val) % 8, Nat.mod_lt _ (by decide)⟩ := by
    unfold og; rw [if_pos hf]; refine Fin.ext ?_
    show (d.val + (8 - (g.val + 1))) % 8 = ((d.val + 8 - g.val) % 8 + 7) % 8
    omega
  have oM (f : Fin 4) (hf : ¬ f.val < 2) : og d g f = prv ⟨(d.val + 2 + g.val) % 8, Nat.mod_lt _ (by decide)⟩ := by
    unfold og; rw [if_neg hf]; refine Fin.ext ?_
    show (d.val + (g.val + 1)) % 8 = ((d.val + 2 + g.val) % 8 + 7) % 8
    omega
  let wP : Vec F S256x512 .bf16 := quart J (prv ⟨(d.val + 8 - g.val) % 8, Nat.mod_lt _ (by decide)⟩) 0
  let wM : Vec F S256x512 .bf16 := quart J (prv ⟨(d.val + 2 + g.val) % 8, Nat.mod_lt _ (by decide)⟩) 1
  have pay (w : Vec F S256x512 .bf16) : k0_pay1 (fun i => w (ix2 (i 1) (i 2))) = w := by
    funext j
    exact (drop_unit (a := 256) (b := 512) (fun i => w (ix2 (i 1) (i 2))) shapeCasts_S1x256x512_S256x512 j).trans (congrArg w (ix2_eta (n0 := 256) (n1 := 512) j))
  unfold agWrite outGot
  iintro ⟨⟨%v, %hv, Ho⟩, H0, H1, H2, H3⟩ Hk
  iapply (runs_ld_pair (m := agpM) (g := g) (v₀ := slotV J d g 0) (v₁ := slotV J d g 1) wP
    (fun j => by show piece (accs J) (og d g 0) 0 j = _; rw [oP 0 (by decide)]; exact piece_quart J _ 0 0 0 rfl rfl j)
    (fun j => by show piece (accs J) (og d g 1) 1 j = _; rw [oP 1 (by decide)]; exact piece_quart J _ 1 0 1 rfl rfl j)) $$ [H0 H1]
  · isplitl [H0]; · iexact H0
    iexact H1
  iintro ⟨H0, H1⟩
  iapply (runs_ld (m := outM) rfl) $$ Ho
  iintro Ho
  iapply (runs_st (m := outM) rfl) $$ Ho
  iintro Ho
  iapply (runs_ld_pair (m := agmM) (g := g) (v₀ := slotV J d g 2) (v₁ := slotV J d g 3) wM
    (fun j => by show piece (accs J) (og d g 2) 2 j = _; rw [oM 2 (by decide)]; exact piece_quart J _ 2 1 0 rfl rfl j)
    (fun j => by show piece (accs J) (og d g 3) 3 j = _; rw [oM 3 (by decide)]; exact piece_quart J _ 3 1 1 rfl rfl j)) $$ [H2 H3]
  · isplitl [H2]; · iexact H2
    iexact H3
  iintro ⟨H2, H3⟩
  iapply (runs_ld (m := outM) rfl) $$ Ho
  iintro Ho
  iapply (runs_st (m := outM) rfl) $$ Ho
  iintro Ho
  iapply Hk
  isplitl [Ho]
  · iexists _
    isplitr
    rotate_left
    · iexact Ho
    · ipureintro
      intro i hi
      have h0 := lt0 i
      have h1 := lt1 i
      have e13 := off13_eq d g
      have e14 := off14_eq d g
      refine update_agree (n := 2048) (m := 1024) (a := 256) (b := 512)
        (G := fun i => gotten d g.val i ∨ (k0_off13 d (BitVec.ofNat 32 g.val) 0 ≤ (i 0).val ∧ (i 0).val < k0_off13 d (BitVec.ofNat 32 g.val) 0 + 256
          ∧ k0_off13 d (BitVec.ofNat 32 g.val) 1 ≤ (i 1).val ∧ (i 1).val < k0_off13 d (BitVec.ofNat 32 g.val) 1 + 512)) (o := outFin J)
        (fun i hi => update_agree (n := 2048) (m := 1024) (a := 256) (b := 512) hv _ _ ⟨rfl, k0_off13_inb d g⟩
          ((pay wP).trans (outFin_quart J ⟨(d.val + 8 - g.val) % 8, Nat.mod_lt _ (by decide)⟩ 0 (off13_eq d g) _)) i hi) _ _ ⟨rfl, k0_off14_inb d g⟩
        ((pay wM).trans (outFin_quart J ⟨(d.val + 2 + g.val) % 8, Nat.mod_lt _ (by decide)⟩ 1 (off14_eq d g) _)) i ?_
      rw [e13, e14]
      show (gotten d g.val i ∨ (256 * ((d.val + 8 - g.val) % 8) ≤ (i 0).val ∧ (i 0).val < 256 * ((d.val + 8 - g.val) % 8) + 256 ∧ 0 ≤ (i 1).val ∧ (i 1).val < 0 + 512))
        ∨ (256 * ((d.val + 2 + g.val) % 8) ≤ (i 0).val ∧ (i 0).val < 256 * ((d.val + 2 + g.val) % 8) + 256 ∧ 512 ≤ (i 1).val ∧ (i 1).val < 512 + 512)
      unfold gotten at hi ⊢
      rcases hi with hi | ⟨hi, hi'⟩ | ⟨hi, hi'⟩
      · exact Or.inl (Or.inl (Or.inl hi))
      · by_cases hlt : (d.val + 8 - (i 0).val / 256) % 8 < g.val
        · exact Or.inl (Or.inl (Or.inr (Or.inl ⟨hi, hlt⟩)))
        · exact Or.inl (Or.inr ⟨by omega, by omega, by omega, by omega⟩)
      · by_cases hlt : ((i 0).val / 256 + 14 - d.val) % 8 < g.val
        · exact Or.inl (Or.inl (Or.inr (Or.inr ⟨hi, hlt⟩)))
        · exact Or.inr ⟨by omega, by omega, by omega, by omega⟩
  isplitl [H0]; · iexact H0
  isplitl [H1]; · iexact H1
  isplitl [H2]; · iexact H2
  iexact H3

/-! ## One start and one wait of a flow -/

theorem agCredit (g : Fin 7) (f : Fin 4) : (agSlot g f).view.dmaCredit = NT (.inr (g, f)) := match f with
  | 0 => rfl | 1 => rfl | 2 => rfl | 3 => rfl
theorem agAmount (g : Fin 7) (f : Fin 4) (s : DmaSem sig) : (agSlot g f).view.amount (.dma s : SemLoc sig) = NT (.inr (g, f)) := agCredit g f
theorem agSrcCredit (g : Fin 7) (f : Fin 4) : (agSrc g f).view.dmaCredit = NT (.inr (g, f)) := match g, f with
  | ⟨0, _⟩, 0 => rfl | ⟨0, _⟩, 1 => rfl | ⟨0, _⟩, 2 => rfl | ⟨0, _⟩, 3 => rfl
  | ⟨n + 1, _⟩, 0 => rfl | ⟨n + 1, _⟩, 1 => rfl | ⟨n + 1, _⟩, 2 => rfl | ⟨n + 1, _⟩, 3 => rfl

theorem runs_agStart {d : Dev nD} {Q : PUnit.{1} → sProp 𝕄} (g : Fin 7) (f : Fin 4) {w : ℕ} (hw : w ≤ rank (.inr (g, f))) (k : P F) :
    iprop(records (accs J) K ∗ St d (rank (.inr (g, f))) w ∗ owesE d (owe (rank (.inr (g, f))) d) ∗ own d (agSrc g f) fullShare.left (srcV J d g f))
      ⊢ iprop(((St d (rank (.inr (g, f)) + 1) w ∗ owesE d (owe (rank (.inr (g, f)) + 1) d)) -∗ runs d Q k) -∗ runs d Q (agStart d g f k)) := by
  unfold agStart
  exact runs_start (accs J) K (d := d) (.inr (g, f)) (agDev d g f) (agDev_eq d g f) (src := agSrc g f) (dst := agSlot g f) (sS := agSend g f) (rS := agRecv g f) (Q := Q) (k := fun _ => k)
    (q := fullShare.left) (v := srcV J d g f) (w := w) rfl rfl (agAmount g f _) hw .rfl .rfl .rfl
theorem runs_agWait {d : Dev nD} {Q : PUnit.{1} → sProp 𝕄} (g : Fin 7) (f : Fin 4) {s : ℕ} (hs : rank (.inr (g, f)) < s) (k : P F) :
    iprop(records (accs J) K ∗ levAts L lv ∗ St d s (rank (.inr (g, f))) ∗ owesE d (owe s d))
      ⊢ iprop(((St d s (rank (.inr (g, f)) + 1) ∗ owesE d (owe s d) ∗ own d (agSrc g f) fullShare.left (srcV J d g f) ∗ own d (agSlot g f) fullShare (slotV J d g f)) -∗ runs d Q k)
        -∗ runs d Q (agWait g f k)) := by
  unfold agWait
  exact runs_wait (accs J) K (d := d) (.inr (g, f)) hs (a := agSlot g f) (b := agSrc g f) (a' := agSrc g f) (b' := agSlot g f) (sS := agSend g f) (rS := agRecv g f)
    rfl rfl (agSrcCredit g f) (agCredit g f)

/-! ## The hops -/

/-- What one hop leaves in the device's hand: the source's left half, back, and the landed slot's right half. -/
def hopHeld (d : Dev nD) (g : Fin 7) (f : Fin 4) : sProp 𝕄 :=
  iprop(own d (agSrc g f) fullShare.left (srcV J d g f) ∗ own d (agSlot g f) fullShare.right (slotV J d g f))

/-- Between two hops: hop `g` of every flow is on its way, the hops before it are written. -/
def hopMid (d : Dev nD) (g : ℕ) : sProp 𝕄 :=
  iprop(St d (11 + 4 * g) (7 + 4 * g) ∗ owesE d (owe (11 + 4 * g) d) ∗ outGot J d g
    ∗ upTo (n := 6) g (fun g' => bigSep Finset.univ fun f => hopHeld J d g'.castSucc f) (fun _ => iprop(emp)))

theorem srcV_succ (d : Dev nD) (g : Fin 6) (f : Fin 4) : srcV J d g.succ f = slotV J d g.castSucc f := by
  show piece (accs J) (og (tgt d (.inr (g.succ, f))) g.succ f) f = piece (accs J) (og d g.castSucc f) f
  rw [og_succ]
theorem agSrc_succ (g : Fin 6) (f : Fin 4) : agSrc g.succ f = agSlot g.castSucc f := rfl

omit [FloatOps F] in
theorem upTo_none {n : ℕ} (X : Fin n → sProp 𝕄) : iprop(emp) ⊢ upTo 0 X (fun _ => iprop(emp)) :=
  Entails.of_eq (by rw [upTo_zero]; exact (bigSep_emp_const _).symm)

theorem split_held (d : Dev nD) (g : Fin 7) :
    (bigSep Finset.univ fun f => hopHeld J d g f)
      ⊢ iprop((bigSep Finset.univ fun f => own d (agSlot g f) fullShare.right (slotV J d g f))
        ∗ ((bigSep Finset.univ fun f => own d (agSlot g f) fullShare.right (slotV J d g f)) -∗ bigSep Finset.univ fun f => hopHeld J d g f)) := by
  have e : (bigSep Finset.univ fun f => hopHeld J d g f : sProp 𝕄)
      = iprop((bigSep Finset.univ fun f => own d (agSrc g f) fullShare.left (srcV J d g f)) ∗ bigSep Finset.univ fun f => own d (agSlot g f) fullShare.right (slotV J d g f)) :=
    bigSep_sep ..
  rw [e]
  iintro ⟨H1, H2⟩
  isplitl [H2]; · iexact H2
  iintro H2
  isplitl [H1]; · iexact H1
  iexact H2

set_option maxHeartbeats 1000000 in
theorem runs_agHop {d : Dev nD} {Q : PUnit.{1} → sProp 𝕄} (g : Fin 6) (k : P F) :
    iprop(records (accs J) K ∗ levAts L lv ∗ hopMid J d g.val)
      ⊢ iprop(((records (accs J) K ∗ levAts L lv ∗ hopMid J d (g.val + 1)) -∗ runs d Q k) -∗ runs d Q (agHop d g k)) := by
  unfold agHop hopMid
  iintro ⟨#HR, #Hlev, HSt, HO, Hout, Hup⟩ Hcont
  ihave Hup := (upTo_step _ _ g) $$ Hup
  icases Hup with ⟨-, Hup⟩
  iapply (runs_seqK (d := d) (Q := Q) 4 _ (fun s => iprop(records (accs J) K ∗ levAts L lv ∗ St d (11 + 4 * g.val + s) (7 + 4 * g.val + s) ∗ owesE d (owe (11 + 4 * g.val + s) d)
      ∗ upTo (n := 4) s (fun f => hopHeld J d g.castSucc f) (fun _ => iprop(emp)))) _ fun f k => by
    have r1 : rank (.inr (g.castSucc, f)) = 7 + 4 * g.val + f.val := rfl
    have r2 : rank (.inr (g.succ, f)) = 11 + 4 * g.val + f.val := by show 7 + 4 * (g.val + 1) + f.val = _; omega
    iintro ⟨#HR, #Hlev, HSt, HO, Hup⟩ Hcont
    ihave Hup := (upTo_step _ _ f) $$ Hup
    icases Hup with ⟨-, Hup⟩
    have w := runs_agWait J K (d := d) (Q := Q) g.castSucc f (s := 11 + 4 * g.val + f.val) (by rw [r1]; omega) (agStart d g.succ f k)
    have st := runs_agStart J K (d := d) (Q := Q) g.succ f (w := 7 + 4 * g.val + f.val + 1) (by rw [r2]; omega) k
    rw [r1] at w
    rw [r2, srcV_succ, agSrc_succ] at st
    iapply w $$ [HSt HO]
    · isplitr; · iexact HR
      isplitr; · iexact Hlev
      isplitl [HSt]; · iexact HSt
      iexact HO
    iintro ⟨HSt, HO, Hsrc, Hslot⟩
    ihave Hslot := own_halve $$ Hslot
    icases Hslot with ⟨Hl, Hr⟩
    iapply st $$ [HSt HO Hl]
    · isplitr; · iexact HR
      isplitl [HSt]; · iexact HSt
      isplitl [HO]; · iexact HO
      iexact Hl
    iintro ⟨HSt, HO⟩
    iapply Hcont
    isplitr; · iexact HR
    isplitr; · iexact Hlev
    isplitl [HSt]; · iexact HSt
    isplitl [HO]; · iexact HO
    iapply Hup
    unfold hopHeld
    isplitl [Hsrc]; · iexact Hsrc
    iexact Hr) $$ [HSt HO]
  · isplitr; · iexact HR
    isplitr; · iexact Hlev
    isplitl [HSt]; · iexact HSt
    isplitl [HO]; · iexact HO
    iapply (upTo_none (F := F) _)
    iempintro
  iintro ⟨-, -, HSt, HO, Hheld⟩
  ihave Hheld := (Entails.of_eq (upTo_end _ _)) $$ Hheld
  ihave Hheld := (split_held J d g.castSucc) $$ Hheld
  icases Hheld with ⟨Hr, Hheld⟩
  iapply (runs_agWrite J (d := d) g.castSucc fullShare.right) $$ [Hout Hr]
  · isplitl [Hout]; · iexact Hout
    iexact Hr
  iintro ⟨Hout, Hr⟩
  ihave Hheld := Hheld $$ Hr
  iapply Hcont
  isplitr; · iexact HR
  isplitr; · iexact Hlev
  rw [show 11 + 4 * (g.val + 1) = 11 + 4 * g.val + 4 by omega, show 7 + 4 * (g.val + 1) = 7 + 4 * g.val + 4 by omega]
  isplitl [HSt]; · iexact HSt
  isplitl [HO]; · iexact HO
  isplitl [Hout]; · iexact Hout
  iapply Hup
  iexact Hheld

/-! ## The pieces of an array and the array -/

omit [FloatOps F] in
theorem mono {I : Type} [DecidableEq I] {S : Finset I} {Φ Ψ : I → sProp 𝕄} (h : ∀ i, Φ i ⊢ Ψ i) : bigSep S Φ ⊢ bigSep S Ψ := bigSep_mono fun i _ => h i
omit [FloatOps F] in
theorem both {P Q : sProp 𝕄} (h : P ⊢ Q) (h' : Q ⊢ P) : P = Q := BI.equiv_iff.mp ⟨h, h'⟩
instance vec_nonempty (sh : Shape) : Nonempty (Vec F sh .bf16) := ⟨fun _ => Classical.choice ((inferInstance : ∀ e, Nonempty (Elt F e)) .bf16)⟩

section Parts
variable {T : Type} [Fintype T] [DecidableEq T] {sh s' : Shape} (r : T → Rect sh) (hr : ∀ t a, (r t).stride a = 1)
  (hd : ∀ t t', t ≠ t' → Disjoint (r t).set (r t').set) (hcov : ∀ i : sh.Idx, ∃ t, i ∈ (r t).set) (hq : ∀ t, (r t).shape.Squeezes s')
include hd hcov

omit [FloatOps F] in
theorem parts_cut (d : Dev nD) (m : Memref sig .tc .vmem sh .bf16) :
    iprop(∃ X, own d m fullShare X) ⊢ (bigSep Finset.univ fun t => iprop(∃ v, own d ((m.slice (r t) (hr t)).squeeze s' (hq t)) fullShare v) : sProp 𝕄) := by
  iintro ⟨%X, H⟩
  ihave H := (own_cut r hr hd hcov d m fullShare X) $$ H
  iapply (mono (Φ := fun t => own d (m.slice (r t) (hr t)) fullShare (fun j => X ((r t).emb j))) fun t => by
    iintro H
    iexists _
    iapply (own_unsqueeze (hq t).numel_eq)
    iexact H)
  iexact H
theorem parts_join (d : Dev nD) (m : Memref sig .tc .vmem sh .bf16) :
    (bigSep Finset.univ fun t => iprop(∃ v, own d ((m.slice (r t) (hr t)).squeeze s' (hq t)) fullShare v) : sProp 𝕄) ⊢ iprop(∃ X, own d m fullShare X) := by
  iintro H
  ihave H := (show (bigSep Finset.univ fun t => iprop(∃ v, own d ((m.slice (r t) (hr t)).squeeze s' (hq t)) fullShare v) : sProp 𝕄)
      ⊢ bigSep Finset.univ fun t => iprop(∃ u : Vec F (r t).shape .bf16, own d (m.slice (r t) (hr t)) fullShare u) from mono fun t => by
    iintro ⟨%v, H⟩
    ihave H := (own_squeeze (hq t).numel_eq) $$ H
    icases H with ⟨%u, -, H⟩
    iexists u
    iexact H) $$ H
  ihave H := (BI.bigSep_exists_pi Finset.univ fun t (u : Vec F (r t).shape .bf16) => (own d (m.slice (r t) (hr t)) fullShare u : sProp 𝕄)) $$ H
  icases H with ⟨%us, H⟩
  ihave H := (own_join r hr hd hcov d m fullShare us) $$ H
  icases H with ⟨%X, -, H⟩
  iexists X
  iexact H
end Parts

theorem rs_disjoint (t t' : Fin 7) (h : t ≠ t') : Disjoint (rsR t).set (rsR t').set := by
  rw [Finset.disjoint_left]
  intro i hi hi'
  have a0 : t.val ≤ (i 0).val ∧ (i 0).val < t.val + 1 := Rect.mem_set_unit.mp hi 0
  have b0 : t'.val ≤ (i 0).val ∧ (i 0).val < t'.val + 1 := Rect.mem_set_unit.mp hi' 0
  exact h (Fin.ext (by omega))
theorem rs_cover (i : S7x256x1024.Idx) : ∃ t, i ∈ (rsR t).set := by
  have h0 : (i 0).val < 7 := (i 0).isLt
  have h1 : (i 1).val < 256 := (i 1).isLt
  have h2 : (i 2).val < 1024 := (i 2).isLt
  refine ⟨⟨(i 0).val, h0⟩, Rect.mem_set_unit.mpr fun a => ?_⟩
  match a with
  | ⟨0, _⟩ => show (i 0).val ≤ (i 0).val ∧ (i 0).val < (i 0).val + 1; omega
  | ⟨1, _⟩ => show 0 ≤ (i 1).val ∧ (i 1).val < 0 + 256; omega
  | ⟨2, _⟩ => show 0 ≤ (i 2).val ∧ (i 2).val < 0 + 1024; omega

/-- Some contents of a whole array. -/
abbrev some (d : Dev nD) {sh : Shape} (m : Memref sig .tc .vmem sh .bf16) : sProp 𝕄 := iprop(∃ v, own d m fullShare v)

omit [FloatOps F] in
theorem bigSep_fin2 (Φ : Fin 2 → sProp 𝕄) : bigSep Finset.univ Φ = iprop(Φ 0 ∗ Φ 1) := bigSep_univ_eq_bigSepL [0, 1] (by decide) (by decide) Φ

omit [FloatOps F] in
theorem ag_slots (d : Dev nD) :
    (bigSep Finset.univ fun p : Fin 7 × Fin 4 => some d (agSlot p.1 p.2) : sProp 𝕄)
      = iprop((bigSep Finset.univ fun p : Fin 7 × Fin 2 => some d (slotOf agpM p.1 p.2)) ∗ bigSep Finset.univ fun p : Fin 7 × Fin 2 => some d (slotOf agmM p.1 p.2)) := by
  rw [bigSep_univ_prod, bigSep_univ_prod, bigSep_univ_prod, ← bigSep_sep']
  refine bigSep_congr fun g _ => ?_
  rw [bigSep_fin4, bigSep_fin2, bigSep_fin2]
  refine both ?_ ?_
  ·
    iintro ⟨H0, H1, H2, H3⟩
    isplitl [H0 H1]
    · isplitl [H0]; · iexact H0
      iexact H1
    · isplitl [H2]; · iapply (Entails.of_eq (show some d (agSlot g 2) = some d (slotOf agmM g 0) from rfl)); iexact H2
      iapply (Entails.of_eq (show some d (agSlot g 3) = some d (slotOf agmM g 1) from rfl)); iexact H3
  ·
    iintro ⟨⟨H0, H1⟩, H2, H3⟩
    isplitl [H0]; · iexact H0
    isplitl [H1]; · iexact H1
    isplitl [H2]; · iapply (Entails.of_eq (show some d (slotOf agmM g 0) = some d (agSlot g 2) from rfl)); iexact H2
    iapply (Entails.of_eq (show some d (slotOf agmM g 1) = some d (agSlot g 3) from rfl)); iexact H3

omit [FloatOps F] in
theorem lands_eq (d : Dev nD) : (bigSep Finset.univ fun t : Tr => land d t : sProp 𝕄)
    = iprop((bigSep Finset.univ fun j => some d (rsSlot j)) ∗ bigSep Finset.univ fun p : Fin 7 × Fin 4 => some d (agSlot p.1 p.2)) := by
  rw [bigSep_univ_sum]; rfl

omit [FloatOps F] in
/-- The three landing arrays are their slots. -/
theorem lands_cut (d : Dev nD) : iprop(some d rsM ∗ some d agpM ∗ some d agmM) ⊢ (bigSep Finset.univ fun t : Tr => land d t : sProp 𝕄) := by
  rw [lands_eq, ag_slots]
  iintro ⟨Hr, Hp, Hm⟩
  isplitl [Hr]
  · iapply (parts_cut rsR (fun _ _ => rfl) rs_disjoint rs_cover (fun _ => squeezes_S1x256x1024_S256x1024) d rsM); iexact Hr
  isplitl [Hp]
  · iapply (parts_cut (fun p : Fin 7 × Fin 2 => subR p.1 p.2) (fun _ _ => rfl) sub_disjoint sub_cover (fun _ => squeezes_S1x128x512_S128x512) d agpM); iexact Hp
  · iapply (parts_cut (fun p : Fin 7 × Fin 2 => subR p.1 p.2) (fun _ _ => rfl) sub_disjoint sub_cover (fun _ => squeezes_S1x128x512_S128x512) d agmM); iexact Hm
theorem lands_join (d : Dev nD) : (bigSep Finset.univ fun t : Tr => land d t : sProp 𝕄) ⊢ iprop(some d rsM ∗ some d agpM ∗ some d agmM) := by
  rw [lands_eq, ag_slots]
  iintro ⟨Hr, Hp, Hm⟩
  isplitl [Hr]
  · iapply (parts_join rsR (fun _ _ => rfl) rs_disjoint rs_cover (fun _ => squeezes_S1x256x1024_S256x1024) d rsM); iexact Hr
  isplitl [Hp]
  · iapply (parts_join (fun p : Fin 7 × Fin 2 => subR p.1 p.2) (fun _ _ => rfl) sub_disjoint sub_cover (fun _ => squeezes_S1x128x512_S128x512) d agpM); iexact Hp
  · iapply (parts_join (fun p : Fin 7 × Fin 2 => subR p.1 p.2) (fun _ _ => rfl) sub_disjoint sub_cover (fun _ => squeezes_S1x128x512_S128x512) d agmM); iexact Hm

/-! ### The result's chunks -/

theorem out_mem {d : Dev nD} {j : Fin 8} {i : S2048x1024.Idx} : Iff (i ∈ (outR d j).set) ((i 0).val / 256 = (cid d j.val).val) := by
  rw [Rect.mem_set_unit]
  have h0 := lt0 i
  have h1 := lt1 i
  have hc := (cid d j.val).isLt
  rw [off9_eq]
  constructor
  · intro h
    have a0 : 256 * (cid d j.val).val ≤ (i 0).val ∧ (i 0).val < 256 * (cid d j.val).val + 256 := h 0
    omega
  · intro h a
    match a with
    | ⟨0, _⟩ => show 256 * (cid d j.val).val ≤ (i 0).val ∧ (i 0).val < 256 * (cid d j.val).val + 256; omega
    | ⟨1, _⟩ => show 0 ≤ (i 1).val ∧ (i 1).val < 0 + 1024; omega
theorem out_disjoint (d : Dev nD) (t t' : Fin 8) (h : t ≠ t') : Disjoint (outR d t).set (outR d t').set := by
  rw [Finset.disjoint_left]
  exact fun i hi hi' => h (cid_inj d (Fin.ext ((out_mem.mp hi).symm.trans (out_mem.mp hi'))))
theorem cid_surj (d : Dev nD) (c : Fin 8) : ∃ j : Fin 8, (cid d j.val).val = c.val := by revert d c; decide
theorem out_cover (d : Dev nD) (i : S2048x1024.Idx) : ∃ t, i ∈ (outR d t).set := by
  have h0 := lt0 i
  obtain ⟨j, hj⟩ := cid_surj d ⟨(i 0).val / 256, by omega⟩
  exact ⟨j, out_mem.mpr hj.symm⟩

omit [FloatOps F] in
theorem out_cut (d : Dev nD) : some d outM ⊢ (bigSep Finset.univ fun j : Fin 8 => some d (outPc d j) : sProp 𝕄) := by
  iintro ⟨%X, H⟩
  ihave H := (own_cut (outR d) (fun _ _ => rfl) (out_disjoint d) (out_cover d) d outM fullShare X) $$ H
  iapply (mono (Φ := fun t => own d (outPc d t) fullShare (fun j => X ((outR d t).emb j))) fun t => by iintro H; iexists _; iexact H)
  iexact H

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
theorem bigSep_fin8_last (Φ : Fin 8 → sProp 𝕄) : iprop((bigSep Finset.univ fun i : Fin 7 => Φ i.castSucc) ∗ Φ 7) ⊢ bigSep Finset.univ Φ := by
  rw [bigSep_fin7, bigSep_fin8]
  change iprop((Φ 0 ∗ Φ 1 ∗ Φ 2 ∗ Φ 3 ∗ Φ 4 ∗ Φ 5 ∗ Φ 6) ∗ Φ 7) ⊢ _
  iintro ⟨⟨H0, H1, H2, H3, H4, H5, H6⟩, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7
omit [FloatOps F] in
theorem bigSep_fin8_first (Φ : Fin 8 → sProp 𝕄) : bigSep Finset.univ Φ ⊢ iprop(Φ 0 ∗ bigSep Finset.univ fun i : Fin 7 => Φ i.succ) := by
  rw [bigSep_fin7, bigSep_fin8]
  exact .rfl

/-- All eight chunks, the finished one among them: the result before any hop. -/
theorem out_join (d : Dev nD) :
    iprop((bigSep Finset.univ fun i : Fin 7 => some d (outPc d i.castSucc)) ∗ own d (outPc d 7) fullShare (acc J 7 d)) ⊢ outGot J d 0 := by
  haveI : Nonempty (Vec F S256x1024 .bf16) := vec_nonempty _
  iintro ⟨H, Hl⟩
  ihave H := (BI.bigSep_exists_pi Finset.univ fun (i : Fin 7) (v : Vec F S256x1024 .bf16) => (own d (outPc d i.castSucc) fullShare v : sProp 𝕄)) $$ H
  icases H with ⟨%vs, H⟩
  let us : Fin 8 → Vec F S256x1024 .bf16 := fun j => if h : j.val < 7 then vs ⟨j.val, h⟩ else acc J 7 d
  ihave H := (bigSep_fin8_last fun j => own d (outPc d j) fullShare (us j)) $$ [H Hl]
  · isplitl [H]
    · iapply (Entails.of_eq (bigSep_congr fun i _ => by rw [show us i.castSucc = vs i from dif_pos i.isLt])); iexact H
    · iexact Hl
  ihave H := (own_join (outR d) (fun _ _ => rfl) (out_disjoint d) (out_cover d) d outM fullShare us) $$ H
  icases H with ⟨%X, %hX, H⟩
  unfold outGot
  iexists X
  isplitr; rotate_left
  · iexact H
  ipureintro
  intro i hi
  have h0 := lt0 i
  have hd : d.val < 8 := d.isLt
  have hi' : (i 0).val / 256 = (d.val + 1) % 8 := by
    unfold gotten at hi
    rcases hi with h | ⟨_, h⟩ | ⟨_, h⟩
    · exact h
    · omega
    · omega
  have e : (outR d 7).emb (ix2 ⟨(i 0).val % 256, Nat.mod_lt _ (by decide)⟩ (i 1)) = i := ext2 (by
      show k0_off9 d (BitVec.ofNat 32 (7 : Fin 8).val) 0 + 1 * ((i 0).val % 256) = (i 0).val
      rw [off9_eq]
      show 256 * ((d.val + 8 - 7 % 8) % 8) + 1 * ((i 0).val % 256) = (i 0).val
      omega) (by
      show k0_off9 d (BitVec.ofNat 32 (7 : Fin 8).val) 1 + 1 * (i 1).val = (i 1).val
      rw [off9_eq]
      show 0 + 1 * (i 1).val = (i 1).val
      omega)
  have := hX 7 (ix2 ⟨(i 0).val % 256, Nat.mod_lt _ (by decide)⟩ (i 1))
  rw [e] at this
  rw [this]
  show acc J 7 d _ = acc J 7 (prv ⟨(i 0).val / 256, _⟩) _
  have e1 : prv ⟨(i 0).val / 256, by show _ < 8; omega⟩ = d := by
    refine Fin.ext ?_
    show ((i 0).val / 256 + 7) % 8 = d.val
    omega
  rw [e1]

/-! ### The staged halves -/

abbrev stRs (s : Fin 2) : Rect S256x512 := Rect.unit (s := S256x512) ![128 * s.val, 0] S128x512.size (stsub_inb s)
theorem st_disjoint (t t' : Fin 2) (h : t ≠ t') : Disjoint (stRs t).set (stRs t').set := by
  rw [Finset.disjoint_left]
  intro i hi hi'
  have a0 : 128 * t.val ≤ (i 0).val ∧ (i 0).val < 128 * t.val + 128 := Rect.mem_set_unit.mp hi 0
  have b0 : 128 * t'.val ≤ (i 0).val ∧ (i 0).val < 128 * t'.val + 128 := Rect.mem_set_unit.mp hi' 0
  exact h (Fin.ext (by omega))
theorem st_cover (i : S256x512.Idx) : ∃ t, i ∈ (stRs t).set := by
  have h0 := lt0 i
  have h1 := lt1 i
  refine ⟨⟨(i 0).val / 128, by omega⟩, Rect.mem_set_unit.mpr fun a => ?_⟩
  match a with
  | ⟨0, _⟩ => show 128 * ((i 0).val / 128) ≤ (i 0).val ∧ (i 0).val < 128 * ((i 0).val / 128) + 128; omega
  | ⟨1, _⟩ => show 0 ≤ (i 1).val ∧ (i 1).val < 0 + 512; omega
theorem st_emb (o : Dev nD) (f : Fin 4) (b s : Fin 2) (hb : f.val / 2 = b.val) (hs : f.val % 2 = s.val) :
    (fun j => quart J o b ((stRs s).emb j)) = piece (accs J) o f := by
  funext j
  rw [piece_quart J o f b s hb hs]
  exact congrArg (quart J o b) (ext2 (by show 128 * s.val + 1 * (j 0).val = 128 * s.val + (j 0).val; omega) (by show 0 + 1 * (j 1).val = (j 1).val; omega))
theorem st_cut (d : Dev nD) :
    iprop(own d stpM fullShare (quart J d 0) ∗ own d stmM fullShare (quart J d 1)) ⊢ bigSep Finset.univ fun f => own d (stSlot f) fullShare (piece (accs J) d f) := by
  rw [bigSep_fin4]
  iintro ⟨Hp, Hm⟩
  ihave Hp := (own_cut stRs (fun _ _ => rfl) st_disjoint st_cover d stpM fullShare (quart J d 0)) $$ Hp
  ihave Hm := (own_cut stRs (fun _ _ => rfl) st_disjoint st_cover d stmM fullShare (quart J d 1)) $$ Hm
  ihave Hp := (Entails.of_eq (bigSep_fin2 fun t => own d (stpM.slice (stRs t) (fun _ => rfl)) fullShare (fun j => quart J d 0 ((stRs t).emb j)))) $$ Hp
  ihave Hm := (Entails.of_eq (bigSep_fin2 fun t => own d (stmM.slice (stRs t) (fun _ => rfl)) fullShare (fun j => quart J d 1 ((stRs t).emb j)))) $$ Hm
  icases Hp with ⟨H0, H1⟩
  icases Hm with ⟨H2, H3⟩
  rw [← st_emb J d 0 0 0 rfl rfl, ← st_emb J d 1 0 1 rfl rfl, ← st_emb J d 2 1 0 rfl rfl, ← st_emb J d 3 1 1 rfl rfl]
  isplitl [H0]; · iexact H0
  isplitl [H1]; · iexact H1
  isplitl [H2]; · iexact H2
  iexact H3
theorem st_join (d : Dev nD) : (bigSep Finset.univ fun f => some d (stSlot f) : sProp 𝕄) ⊢ iprop(some d stpM ∗ some d stmM) := by
  have one (m : Memref sig .tc .vmem S256x512 .bf16) :
      iprop(some d (m.slice (stRs 0) (fun _ => rfl)) ∗ some d (m.slice (stRs 1) (fun _ => rfl))) ⊢ (some d m : sProp 𝕄) := by
    iintro ⟨⟨%v0, H0⟩, ⟨%v1, H1⟩⟩
    ihave H := (own_join stRs (fun _ _ => rfl) st_disjoint st_cover d m fullShare (fun t => if t.val = 0 then v0 else v1)) $$ [H0 H1]
    · iapply (Entails.of_eq (bigSep_fin2 _).symm)
      isplitl [H0]; · iexact H0
      iexact H1
    icases H with ⟨%X, -, H⟩
    iexists X
    iexact H
  rw [bigSep_fin4]
  iintro ⟨H0, H1, H2, H3⟩
  isplitl [H0 H1]
  · iapply (one stpM)
    isplitl [H0]; · iexact H0
    iexact H1
  · iapply (one stmM)
    isplitl [H2]; · iexact H2
    iexact H3

/-! ## Staging -/

theorem pay_stage (a : Vec F S256x512 .bf16) : k0_pay143 a = a ∧ k0_pay144 a = a := by
  constructor
  · exact (shapeCast_self _ _).trans (shapeCast_self _ _)
  · exact (shapeCast_self _ _).trans (shapeCast_self _ _)

/-- The finished block's halves, read from the result. -/
theorem stage_ext (d : Dev nD) (b : Fin 2) (v : Vec F S2048x1024 .bf16) (hv : ∀ i, gotten d 0 i → v i = outFin J i) {off : Fin 2 → ℕ}
    (e : off = ![256 * (cid d 7).val, 512 * b.val]) (hs : S2048x1024.Slices off S256x512) : extractStridedSlice S256x512 off v hs = quart J d b := by
  have hd : d.val < 8 := d.isLt
  have hp : prv (cid d 7) = d := Fin.ext (by show ((d.val + 8 - 7 % 8) % 8 + 7) % 8 = d.val; omega)
  have := outFin_quart J (cid d 7) b e hs
  rw [hp] at this
  rw [this]
  subst e
  funext i
  have h0 := lt0 i
  refine hv _ (Or.inl ?_)
  show (256 * ((d.val + 8 - 7 % 8) % 8) + (i 0).val) / 256 = (d.val + 1) % 8
  omega

set_option maxHeartbeats 1000000 in
theorem runs_stage {d : Dev nD} {Q : PUnit.{1} → sProp 𝕄} (k : P F) :
    iprop(outGot J d 0 ∗ some d stpM ∗ some d stmM)
      ⊢ iprop(((outGot J d 0 ∗ bigSep Finset.univ fun f => own d (stSlot f) fullShare (piece (accs J) d f)) -∗ runs d Q k) -∗ runs d Q (stage d k)) := by
  unfold stage outGot
  iintro ⟨⟨%v, %hv, Ho⟩, ⟨%vp, Hp⟩, ⟨%vm, Hm⟩⟩ Hk
  iapply (runs_ld (m := outM) (u := quart J d 0) (stage_ext J d 0 v hv (off11_eq d) _)) $$ Ho
  iintro Ho
  iapply (runs_ld (m := stpM) (v := vp) rfl) $$ Hp
  iintro Hp
  iapply (runs_st (m := stpM) (u := quart J d 0) ((update_zero (a := 256) (b := 512) vp (k0_pay143 (quart J d 0)) _).trans (pay_stage _).1)) $$ Hp
  iintro Hp
  iapply (runs_ld (m := outM) (u := quart J d 1) (stage_ext J d 1 v hv (off12_eq d) _)) $$ Ho
  iintro Ho
  iapply (runs_ld (m := stmM) (v := vm) rfl) $$ Hm
  iintro Hm
  iapply (runs_st (m := stmM) (u := quart J d 1) ((update_zero (a := 256) (b := 512) vm (k0_pay144 (quart J d 1)) _).trans (pay_stage _).2)) $$ Hm
  iintro Hm
  iapply Hk
  isplitl [Ho]
  · iexists v
    isplitr; · ipureintro; exact hv
    iexact Ho
  iapply (st_cut J d)
  isplitl [Hp]; · iexact Hp
  iexact Hm

/-! ## The whole gather -/

/-- Both halves of every place come together again. -/
theorem regain (d : Dev nD) :
    iprop((bigSep Finset.univ fun f => own d (stSlot f) fullShare.right (srcV J d 0 f))
        ∗ (bigSep Finset.univ fun g : Fin 6 => bigSep Finset.univ fun f => hopHeld J d g.castSucc f)
        ∗ (bigSep Finset.univ fun f => own d (agSrc 6 f) fullShare.left (srcV J d 6 f))
        ∗ (bigSep Finset.univ fun f => own d (agSlot 6 f) fullShare (slotV J d 6 f)))
      ⊢ iprop((bigSep Finset.univ fun f => some d (stSlot f)) ∗ bigSep Finset.univ fun p : Fin 7 × Fin 4 => some d (agSlot p.1 p.2)) := by
  let A (g : Fin 7) : sProp 𝕄 := bigSep Finset.univ fun f => own d (agSrc g f) fullShare.left (srcV J d g f)
  let B (g : Fin 7) : sProp 𝕄 := bigSep Finset.univ fun f => own d (agSlot g f) fullShare.right (slotV J d g f)
  let C (g : Fin 7) : sProp 𝕄 := bigSep Finset.univ fun f => some d (agSlot g f)
  have hAB (g : Fin 7) : (bigSep Finset.univ fun f => hopHeld J d g f) = iprop(A g ∗ B g) := bigSep_sep' ..
  have hC (g : Fin 6) : iprop(A g.succ ∗ B g.castSucc) ⊢ C g.castSucc := by
    show iprop((bigSep Finset.univ fun f => own d (agSrc g.succ f) fullShare.left (srcV J d g.succ f)) ∗ bigSep Finset.univ fun f => own d (agSlot g.castSucc f) fullShare.right (slotV J d g.castSucc f)) ⊢ _
    rw [← bigSep_sep']
    refine mono fun f => ?_
    rw [srcV_succ, agSrc_succ]
    iintro H
    iexists _
    iapply own_unhalve
    iexact H
  have hS : iprop(A 0 ∗ bigSep Finset.univ fun f => own d (stSlot f) fullShare.right (srcV J d 0 f)) ⊢ bigSep Finset.univ fun f => some d (stSlot f) := by
    show iprop((bigSep Finset.univ fun f => own d (agSrc 0 f) fullShare.left (srcV J d 0 f)) ∗ _) ⊢ _
    rw [← bigSep_sep']
    refine mono fun f => ?_
    iintro H
    iexists _
    iapply own_unhalve
    iexact H
  have h6 : (bigSep Finset.univ fun f => own d (agSlot 6 f) fullShare (slotV J d 6 f)) ⊢ C 6 := mono fun f => by
    iintro H
    iexists _
    iexact H
  have e1 : (bigSep Finset.univ fun g : Fin 6 => bigSep Finset.univ fun f => hopHeld J d g.castSucc f)
      = iprop((A 0 ∗ B 0) ∗ (A 1 ∗ B 1) ∗ (A 2 ∗ B 2) ∗ (A 3 ∗ B 3) ∗ (A 4 ∗ B 4) ∗ (A 5 ∗ B 5)) := by
    rw [bigSep_congr fun (g : Fin 6) _ => hAB g.castSucc]
    exact bigSep_univ_eq_bigSepL [0, 1, 2, 3, 4, 5] (by decide) (by decide) fun g : Fin 6 => iprop(A g.castSucc ∗ B g.castSucc)
  have e2 : (bigSep Finset.univ fun p : Fin 7 × Fin 4 => some d (agSlot p.1 p.2)) = iprop(C 0 ∗ C 1 ∗ C 2 ∗ C 3 ∗ C 4 ∗ C 5 ∗ C 6) := by
    rw [bigSep_univ_prod]; exact bigSep_fin7 C
  rw [e1, e2]
  iintro ⟨HS, ⟨⟨HA0, HB0⟩, ⟨HA1, HB1⟩, ⟨HA2, HB2⟩, ⟨HA3, HB3⟩, ⟨HA4, HB4⟩, ⟨HA5, HB5⟩⟩, HA6, HC6⟩
  isplitl [HS HA0]
  · iapply hS
    isplitl [HA0]; · iexact HA0
    iexact HS
  isplitl [HA1 HB0]
  · iapply (show iprop(A 1 ∗ B 0) ⊢ C 0 from hC 0)
    isplitl [HA1]; · iexact HA1
    iexact HB0
  isplitl [HA2 HB1]
  · iapply (show iprop(A 2 ∗ B 1) ⊢ C 1 from hC 1)
    isplitl [HA2]; · iexact HA2
    iexact HB1
  isplitl [HA3 HB2]
  · iapply (show iprop(A 3 ∗ B 2) ⊢ C 2 from hC 2)
    isplitl [HA3]; · iexact HA3
    iexact HB2
  isplitl [HA4 HB3]
  · iapply (show iprop(A 4 ∗ B 3) ⊢ C 3 from hC 3)
    isplitl [HA4]; · iexact HA4
    iexact HB3
  isplitl [HA5 HB4]
  · iapply (show iprop(A 5 ∗ B 4) ⊢ C 4 from hC 4)
    isplitl [HA5]; · iexact HA5
    iexact HB4
  isplitl [HA6 HB5]
  · iapply (show iprop(A 6 ∗ B 5) ⊢ C 5 from hC 5)
    isplitl [HA6]; · iexact HA6
    iexact HB5
  iapply h6
  iexact HC6

set_option maxHeartbeats 1000000 in
/-- From the finished block to the full result. -/
theorem runs_gather {d : Dev nD} {Q : PUnit.{1} → sProp 𝕄} (k : P F) :
    iprop(records (accs J) K ∗ levAts L lv ∗ outGot J d 0 ∗ some d stpM ∗ some d stmM ∗ St d 7 7 ∗ owesE d (owe 7 d))
      ⊢ iprop(((own d outM fullShare (outFin J) ∗ some d stpM ∗ some d stmM ∗ St d 35 35 ∗ owesE d 0
          ∗ bigSep Finset.univ fun p : Fin 7 × Fin 4 => some d (agSlot p.1 p.2)) -∗ runs d Q k) -∗ runs d Q (gather d k)) := by
  unfold gather
  iintro ⟨#HR, #Hlev, Hout, Hp, Hm, HSt, HO⟩ Hcont
  iapply (runs_stage J (d := d)) $$ [Hout Hp Hm]
  · isplitl [Hout]; · iexact Hout
    isplitl [Hp]; · iexact Hp
    iexact Hm
  iintro ⟨Hout, Hst⟩
  iapply (runs_seqK (d := d) (Q := Q) 4 _ (fun s => iprop(records (accs J) K ∗ St d (7 + s) 7 ∗ owesE d (owe (7 + s) d)
      ∗ upTo (n := 4) s (fun f => own d (stSlot f) fullShare.right (srcV J d 0 f)) (fun f => own d (stSlot f) fullShare (piece (accs J) d f)))) _ fun f k => by
    have r1 : rank (.inr (0, f)) = 7 + f.val := by show 7 + 4 * 0 + f.val = _; omega
    iintro ⟨#HR, HSt, HO, Hup⟩ Hcont
    ihave Hup := (upTo_step _ _ f) $$ Hup
    icases Hup with ⟨Hs, Hup⟩
    have st := runs_agStart J K (d := d) (Q := Q) 0 f (w := 7) (by rw [r1]; omega) k
    rw [r1] at st
    have e0 : srcV J d 0 f = piece (accs J) d f := by show piece (accs J) (og (tgt d (.inr (0, f))) 0 f) f = _; rw [og_zero]
    rw [← e0]
    ihave Hs := own_halve $$ Hs
    icases Hs with ⟨Hl, Hr⟩
    iapply st $$ [HSt HO Hl]
    · isplitr; · iexact HR
      isplitl [HSt]; · iexact HSt
      isplitl [HO]; · iexact HO
      iexact Hl
    iintro ⟨HSt, HO⟩
    iapply Hcont
    isplitr; · iexact HR
    isplitl [HSt]; · iexact HSt
    isplitl [HO]; · iexact HO
    iapply Hup
    iexact Hr) $$ [HSt HO Hst]
  · isplitr; · iexact HR
    isplitl [HSt]; · iexact HSt
    isplitl [HO]; · iexact HO
    iapply (Entails.of_eq (upTo_zero _ _).symm)
    iexact Hst
  iintro ⟨-, HSt, HO, Hst⟩
  ihave Hst := (Entails.of_eq (upTo_end _ _)) $$ Hst
  iapply (runs_seqK (d := d) (Q := Q) 6 (agHop d) (fun g => iprop(records (accs J) K ∗ levAts L lv ∗ hopMid J d g)) _ fun g k => runs_agHop J K g k) $$ [HSt HO Hout]
  · isplitr; · iexact HR
    isplitr; · iexact Hlev
    unfold hopMid
    isplitl [HSt]; · iexact HSt
    isplitl [HO]; · iexact HO
    isplitl [Hout]; · iexact Hout
    iapply (upTo_none (F := F) _)
    iempintro
  unfold hopMid
  iintro ⟨-, -, HSt, HO, Hout, Hheld⟩
  ihave Hheld := (Entails.of_eq (upTo_end _ _)) $$ Hheld
  iapply (runs_seqK (d := d) (Q := Q) 4 _ (fun s => iprop(records (accs J) K ∗ levAts L lv ∗ St d 35 (31 + s) ∗ owesE d (owe 35 d)
      ∗ upTo (n := 4) s (fun f => iprop(own d (agSrc 6 f) fullShare.left (srcV J d 6 f) ∗ own d (agSlot 6 f) fullShare (slotV J d 6 f))) (fun _ => iprop(emp)))) _ fun f k => by
    have r1 : rank (.inr (6, f)) = 31 + f.val := rfl
    iintro ⟨#HR, #Hlev, HSt, HO, Hup⟩ Hcont
    ihave Hup := (upTo_step _ _ f) $$ Hup
    icases Hup with ⟨-, Hup⟩
    have w := runs_agWait J K (d := d) (Q := Q) 6 f (s := 35) (by rw [r1]; omega) k
    rw [r1] at w
    iapply w $$ [HSt HO]
    · isplitr; · iexact HR
      isplitr; · iexact Hlev
      isplitl [HSt]; · iexact HSt
      iexact HO
    iintro ⟨HSt, HO, Hsrc, Hslot⟩
    iapply Hcont
    isplitr; · iexact HR
    isplitr; · iexact Hlev
    isplitl [HSt]; · iexact HSt
    isplitl [HO]; · iexact HO
    iapply Hup
    isplitl [Hsrc]; · iexact Hsrc
    iexact Hslot) $$ [HSt HO]
  · isplitr; · iexact HR
    isplitr; · iexact Hlev
    isplitl [HSt]; · iexact HSt
    isplitl [HO]; · iexact HO
    iapply (upTo_none (F := F) _)
    iempintro
  iintro ⟨-, -, HSt, HO, Hlast⟩
  ihave Hlast := (Entails.of_eq (upTo_end _ _)) $$ Hlast
  ihave Hlast := (Entails.of_eq (bigSep_sep' Finset.univ (fun f => own d (agSrc 6 f) fullShare.left (srcV J d 6 f)) (fun f => own d (agSlot 6 f) fullShare (slotV J d 6 f)))) $$ Hlast
  icases Hlast with ⟨Hsrc, Hslot⟩
  iapply (runs_agWrite J (d := d) 6 fullShare) $$ [Hout Hslot]
  · isplitl [Hout]; · iexact Hout
    iexact Hslot
  iintro ⟨Hout, Hslot⟩
  ihave Hout := (show outGot J d ((6 : Fin 7).val + 1) ⊢ _ from outGot_all J d) $$ Hout
  ihave Hall := (regain J d) $$ [Hst Hheld Hsrc Hslot]
  · isplitl [Hst]; · iexact Hst
    isplitl [Hheld]; · iexact Hheld
    isplitl [Hsrc]; · iexact Hsrc
    iexact Hslot
  icases Hall with ⟨Hst, Hag⟩
  ihave Hst := (st_join d) $$ Hst
  icases Hst with ⟨Hp, Hm⟩
  iapply Hcont
  isplitl [Hout]; · iexact Hout
  isplitl [Hp]; · iexact Hp
  isplitl [Hm]; · iexact Hm
  isplitl [HSt]; · iexact HSt
  isplitl [HO]
  · iapply (Entails.of_eq (show owesE d (owe 35 d) = (owesE d 0 : sProp 𝕄) by rw [owe_end])); iexact HO
  iexact Hag

end Cert.Attn

end
-- ==== Proof.Body.lean ====
/-
The whole body on one device.
-/
module

public import proofs.«01_k».proof.Proof.Hops

@[expose] public section

set_option maxRecDepth 16384

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (J : Dev nD → Ins F) (K : Dev nD × (Unit ⊕ (Tr × Bool)) → ℕ)

/-- A transfer before the handshake: all of `idle` but the landing place. -/
def raw (d : Dev nD) (t : Tr) : sProp 𝕄 :=
  iprop(dutyTok ER (xCell d (t, false)) 0 false ∗ dutyTok ER (xCell (tgt d t) (t, true)) 0 false
    ∗ atPos ER (xCell d (t, false)) 0 ∅ 0 ∗ atPos ER (xCell d (t, true)) 0 ∅ 0
    ∗ cred (tallyAt (xCell d (t, true)) () (NT t)))

omit [FloatOps F] in
theorem St_zero (d : Dev nD) :
    iprop((bigSep Finset.univ fun t => raw d t) ∗ bigSep Finset.univ fun t => land (tgt d t) t) ⊢ (St d 0 0 : sProp 𝕄) := by
  unfold St
  rw [← bigSep_sep']
  refine mono fun t => ?_
  unfold stage_at raw idle
  rw [if_neg (Nat.not_lt_zero _), if_neg (Nat.not_lt_zero _)]
  iintro ⟨⟨H1, H2, H3, H4, H5⟩, H6⟩
  isplitl [H1]; · iexact H1
  isplitl [H2]; · iexact H2
  isplitl [H3]; · iexact H3
  isplitl [H4]; · iexact H4
  isplitl [H5]; · iexact H5
  iexact H6

/-- What the handshake takes of the barrier. -/
def knock (d : Dev nD) : sProp 𝕄 :=
  iprop(atPos ER (barCell d) 0 ∅ 0 ∗ cred (tallyAt (barCell d) () 2) ∗ dutyTok ER (barCell (nxt d)) 0 false ∗ dutyTok ER (barCell (prv d)) 0 true)

/-- The eight staged inputs. -/
def given (d : Dev nD) (I : Ins F) : sProp 𝕄 :=
  iprop(own d xM fullShare I.x ∗ own d wqM fullShare I.wq ∗ own d wkM fullShare I.wk ∗ own d wvM fullShare I.wv ∗ own d woM fullShare I.wo
    ∗ own d cosM fullShare I.co ∗ own d sinM fullShare I.si ∗ own d pmM fullShare I.pm)

/-- The nine scratch arrays at some contents. -/
def scratch (d : Dev nD) : sProp 𝕄 :=
  iprop(some d qM ∗ some d kM ∗ some d vM ∗ some d ctxM ∗ some d rsM ∗ some d stpM ∗ some d agpM ∗ some d stmM ∗ some d agmM)

set_option maxHeartbeats 1000000 in
/-- The chunks: from the projected arrays to the finished block. -/
theorem runs_chunks {d : Dev nD} {Q : PUnit.{1} → sProp 𝕄} (k : P F) :
    iprop(records (accs J) K ∗ levAts L lv ∗ held d (J d) ∗ some d ctxM ∗ St d 0 0 ∗ owesE d (owe 0 d) ∗ some d outM)
      ⊢ iprop(((held d (J d) ∗ some d ctxM ∗ St d 7 7 ∗ owesE d (owe 7 d) ∗ outGot J d 0 ∗ bigSep Finset.univ fun j => some d (rsSlot j)) -∗ runs d Q k)
        -∗ runs d Q (chunks d k)) := by
  unfold chunks
  iintro ⟨#HR, #Hlev, Hh, ⟨%vc, Hc⟩, HSt, HO, Hout⟩ Hcont
  ihave Hout := (out_cut d) $$ Hout
  ihave Hout := (bigSep_fin8_first fun j => some d (outPc d j)) $$ Hout
  icases Hout with ⟨⟨%v0, H0⟩, Hrest⟩
  iapply (runs_chunk (J d) 0) $$ [Hh Hc H0]
  · isplitl [Hh]; · iexact Hh
    isplitl [Hc]; · iexact Hc
    iexact H0
  iintro ⟨Hh, Hc, H0⟩
  iapply (runs_seqK (d := d) (Q := Q) 7 (chunkStep d) (fun s => iprop(records (accs J) K ∗ levAts L lv ∗ mid J d s)) _ fun j k => runs_chunkStep J K j k)
    $$ [Hh Hc HSt HO Hrest H0]
  · isplitr; · iexact HR
    isplitr; · iexact Hlev
    unfold mid
    isplitl [Hh]; · iexact Hh
    isplitl [Hc]; · iexact Hc
    isplitl [HSt]; · iexact HSt
    isplitl [HO]; · iexact HO
    isplitl [Hrest]
    · iapply (Entails.of_eq (upTo_zero _ _).symm)
      iexact Hrest
    iexists (0 : Fin 8)
    isplitr; · ipureintro; rfl
    iexact H0
  unfold mid
  iintro ⟨-, -, Hh, Hc, HSt, HO, Hup, ⟨%i, %hi, Hlast⟩⟩
  have ei : i = 7 := Fin.ext hi
  subst ei
  ihave Hup := (Entails.of_eq (upTo_end _ _)) $$ Hup
  ihave Hup := (Entails.of_eq (bigSep_sep' Finset.univ (fun i : Fin 7 => some d (outPc d i.castSucc)) (fun i => some d (rsSlot i)))) $$ Hup
  icases Hup with ⟨Ho, Hrs⟩
  iapply Hcont
  isplitl [Hh]; · iexact Hh
  isplitl [Hc]; · iexact Hc
  isplitl [HSt]; · iexact HSt
  isplitl [HO]; · iexact HO
  isplitl [Ho Hlast]
  · iapply (out_join J d)
    isplitl [Ho]; · iexact Ho
    iexact Hlast
  iexact Hrs

/-- The body's state before it and after it. -/
def before (d : Dev nD) : sProp 𝕄 :=
  iprop((records (accs J) K ∗ levAts L lv) ∗ owesE d (O₀ d) ∗ knock d ∗ (bigSep Finset.univ fun t => raw d t) ∗ given d (J d) ∗ some d outM ∗ scratch d)
def closed (d : Dev nD) : sProp 𝕄 := iprop(semVal (barCell d) 0 ∗ St d 35 35)
def after (d : Dev nD) : sProp 𝕄 := iprop(closed d ∗ owesE d 0 ∗ given d (J d) ∗ own d outM fullShare (outFin J) ∗ scratch d)

set_option maxHeartbeats 2000000 in
theorem runs_walk {d : Dev nD} {Q : PUnit.{1} → sProp 𝕄} : before J K d ⊢ iprop((after J d -∗ Q ⟨⟩) -∗ runs d Q walk) := by
  unfold walk before after closed knock given scratch
  rw [show (runs d Q (Prog.op TpuEff.deviceId _) : sProp 𝕄) = _ from wp_deviceId ..]
  iintro ⟨⟨#HR, #Hlev⟩, HO, ⟨Hb1, Hb2, Hb3, Hb4⟩, Hraw, ⟨Hx, Hwq, Hwk, Hwv, Hwo, Hco, Hsi, Hpm⟩, Hout, ⟨⟨%vq, Hq⟩, ⟨%vk, Hk⟩, ⟨%vv, Hv⟩, Hc, Hrs, Hstp, Hagp, Hstm, Hagm⟩⟩ Hcont
  ihave Hland := (lands_cut d) $$ [Hrs Hagp Hagm]
  · isplitl [Hrs]; · iexact Hrs
    isplitl [Hagp]; · iexact Hagp
    iexact Hagm
  iapply (runs_handshake (accs J) K (d := d)) $$ [HO Hb1 Hb2 Hb3 Hb4 Hland]
  · isplitr; · iexact HR
    isplitr; · iexact Hlev
    isplitl [HO]; · iexact HO
    isplitl [Hb1]; · iexact Hb1
    isplitl [Hb2]; · iexact Hb2
    isplitl [Hb3]; · iexact Hb3
    isplitl [Hb4]; · iexact Hb4
    iexact Hland
  iintro ⟨HO, Hbar, Hland⟩
  ihave HSt := (St_zero d) $$ [Hraw Hland]
  · isplitl [Hraw]; · iexact Hraw
    iexact Hland
  iapply (runs_ld (m := pmM) (u := (J d).pm) (extract_zero (a := 128) (b := 128) (J d).pm _)) $$ Hpm
  iintro Hpm
  iapply (runs_ld (m := cosM) (u := (J d).co) (extract_zero (a := 2048) (b := 128) (J d).co _)) $$ Hco
  iintro Hco
  iapply (runs_ld (m := sinM) (u := (J d).si) (extract_zero (a := 2048) (b := 128) (J d).si _)) $$ Hsi
  iintro Hsi
  iapply (runs_projHalf (d := d)) $$ [Hx Hwq Hwk Hwv Hq Hk Hv]
  · isplitl [Hx]; · iexact Hx
    isplitl [Hwq]; · iexact Hwq
    isplitl [Hwk]; · iexact Hwk
    isplitl [Hwv]; · iexact Hwv
    isplitl [Hq]; · iexact Hq
    isplitl [Hk]; · iexact Hk
    iexact Hv
  iintro ⟨Hx, Hwq, Hwk, Hwv, Hq, Hk, Hv⟩
  iapply (runs_projHalf (d := d)) $$ [Hx Hwq Hwk Hwv Hq Hk Hv]
  · isplitl [Hx]; · iexact Hx
    isplitl [Hwq]; · iexact Hwq
    isplitl [Hwk]; · iexact Hwk
    isplitl [Hwv]; · iexact Hwv
    isplitl [Hq]; · iexact Hq
    isplitl [Hk]; · iexact Hk
    iexact Hv
  iintro ⟨Hx, Hwq, Hwk, Hwv, Hq, Hk, Hv⟩
  ihave Hq := (Entails.of_eq (congrArg (own d qM fullShare) ((proj_stores (J d).x (J d).wq vq).trans (qUpto_zero (J d)).symm))) $$ Hq
  ihave Hk := (Entails.of_eq (congrArg (own d kM fullShare) ((proj_stores (J d).x (J d).wk vk).trans (kUpto_zero (J d)).symm))) $$ Hk
  ihave Hv := (Entails.of_eq (congrArg (own d vM fullShare) (proj_stores (J d).x (J d).wv vv))) $$ Hv
  iapply (runs_seqK (d := d) (Q := Q) 8 _ (fun s => iprop(own d kM fullShare (kUpto (J d) s) ∗ own d qM fullShare (qUpto (J d) s))) _ fun h k => runs_rope (J d) h k) $$ [Hk Hq]
  · isplitl [Hk]; · iexact Hk
    iexact Hq
  iintro ⟨Hk, Hq⟩
  iapply (runs_chunks J K (d := d)) $$ [HSt HO Hc Hout Hq Hk Hv Hwo]
  · isplitr; · iexact HR
    isplitr; · iexact Hlev
    isplitl [Hq Hk Hv Hwo]
    · unfold held
      isplitl [Hq]; · iexact Hq
      isplitl [Hk]; · iexact Hk
      isplitl [Hv]; · iexact Hv
      iexact Hwo
    isplitl [Hc]; · iexact Hc
    isplitl [HSt]; · iexact HSt
    isplitl [HO]; · iexact HO
    iexact Hout
  unfold held
  iintro ⟨⟨Hq, Hk, Hv, Hwo⟩, Hc, HSt, HO, Hout, Hrs⟩
  iapply (runs_gather J K (d := d)) $$ [Hout Hstp Hstm HSt HO]
  · isplitr; · iexact HR
    isplitr; · iexact Hlev
    isplitl [Hout]; · iexact Hout
    isplitl [Hstp]; · iexact Hstp
    isplitl [Hstm]; · iexact Hstm
    isplitl [HSt]; · iexact HSt
    iexact HO
  iintro ⟨Hout, Hstp, Hstm, HSt, HO, Hag⟩
  ihave Hl := ((Entails.of_eq (lands_eq (F := F) d).symm).trans (lands_join d)) $$ [Hrs Hag]
  · isplitl [Hrs]; · iexact Hrs
    iexact Hag
  icases Hl with ⟨Hrs, Hagp, Hagm⟩
  rw [show (runs d Q (Prog.ret PUnit.unit) : sProp 𝕄) = _ from wp_ret ..]
  imodintro
  iapply Hcont
  isplitl [Hbar HSt]
  · isplitl [Hbar]; · iexact Hbar
    iexact HSt
  isplitl [HO]; · iexact HO
  isplitl [Hx Hwq Hwk Hwv Hwo Hco Hsi Hpm]
  · isplitl [Hx]; · iexact Hx
    isplitl [Hwq]; · iexact Hwq
    isplitl [Hwk]; · iexact Hwk
    isplitl [Hwv]; · iexact Hwv
    isplitl [Hwo]; · iexact Hwo
    isplitl [Hco]; · iexact Hco
    isplitl [Hsi]; · iexact Hsi
    iexact Hpm
  isplitl [Hout]; · iexact Hout
  isplitl [Hq]; · iexists _; iexact Hq
  isplitl [Hk]; · iexists _; iexact Hk
  isplitl [Hv]; · iexists _; iexact Hv
  isplitl [Hc]; · iexact Hc
  isplitl [Hrs]; · iexact Hrs
  isplitl [Hstp]; · iexact Hstp
  isplitl [Hagp]; · iexact Hagp
  isplitl [Hstm]; · iexact Hstm
  iexact Hagm

end Cert.Attn

end
-- ==== Proof.Launch.lean ====
/-
The region's proof data, and its body's obligation.
-/
module

public import proofs.«01_k».proof.Proof.Body
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A device's cells: the barrier's, and the two of each transfer. -/
abbrev KI : Type := Unit ⊕ (Tr × Bool)

variable (m : (ℓ : Loc nD τ sig) → Buf (Elt F) ℓ) (ρ : Dev nD → PrngReg)

/-- The memory at the start. -/
def s₀ : MemSt nD τ sig (Elt F) := ⟨m, fun _ => 0, ρ⟩

/-- The eight blocks the launch stages on device `c`. -/
def ins (c : Dev nD) : Ins F where
  x := (win0_0.blk t0_0).view.read (Elt F) (m ((c : Thread nD τ).loc main_arg0))
  wq := (win0_1.blk t0_0).view.read (Elt F) (m ((c : Thread nD τ).loc main_arg1))
  wk := (win0_2.blk t0_0).view.read (Elt F) (m ((c : Thread nD τ).loc main_arg2))
  wv := (win0_3.blk t0_0).view.read (Elt F) (m ((c : Thread nD τ).loc main_arg3))
  wo := (win0_4.blk t0_0).view.read (Elt F) (m ((c : Thread nD τ).loc main_arg4))
  co := (win0_5.blk t0_0).view.read (Elt F) (m ((c : Thread nD τ).loc main_arg5))
  si := (win0_6.blk t0_0).view.read (Elt F) (m ((c : Thread nD τ).loc main_arg6))
  pm := (win0_7.blk t0_0).view.read (Elt F) (m ((c : Thread nD τ).loc main_arg7))

/-- The duty tokens a device holds once they are dealt. -/
def payToks (c : Dev nD) : sProp 𝕄 :=
  iprop((dutyTok ER (barCell (nxt c)) 0 false ∗ dutyTok ER (barCell (prv c)) 0 true)
    ∗ (bigSep Finset.univ fun t : Tr => dutyTok ER (xCell (tgt c t) (t, true)) 0 false)
    ∗ bigSep Finset.univ fun t : Tr => dutyTok ER (xCell c (t, false)) 0 false)
/-- With its places at its own cells. -/
def linear (c : Dev nD) : sProp 𝕄 := iprop((bigSep Finset.univ fun k : KI => atPos ER (kcell (c, k)) 0 ∅ 0) ∗ payToks c)

/-- What a device starts its body with, beside its buffers. -/
def start (c : Dev nD) : sProp 𝕄 :=
  iprop((∃ K, records (accs (ins m)) K ∗ linear c) ∗ cred (tallyAt (barCell c) () 2)
    ∗ (bigSep Finset.univ fun t : Tr => cred (tallyAt (xCell c (t, true)) () (NT t))) ∗ levAts L lv)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (ins m c).x
    | ⟨1, _⟩ => (ins m c).wq
    | ⟨2, _⟩ => (ins m c).wk
    | ⟨3, _⟩ => (ins m c).wv
    | ⟨4, _⟩ => (ins m c).wo
    | ⟨5, _⟩ => (ins m c).co
    | ⟨6, _⟩ => (ins m c).si
    | ⟨7, _⟩ => (ins m c).pm
    | ⟨8, _⟩ => outFin (ins m)
  Φ t := match t with
    | ⟨0, _⟩ => iprop(start m c ∗ scratch c)
    | ⟨_ + 1, _⟩ => iprop(closed c ∗ scratch c)
  q _ := fullShare
  owed t := match t with
    | ⟨0, _⟩ => O₀ c
    | ⟨_ + 1, _⟩ => 0

/-! ## The body's obligation -/

omit [FloatOps F] in
theorem own_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
theorem some_whole (c : Dev nD) (b : Ref sig .tc) :
    iprop(∃ f : Buf (Elt F) (((c : Dev nD) : Thread nD τ).loc b), (((c : Thread nD τ).loc b) ↦{fullShare} f))
      = (iprop(∃ X : b.ty.Contents (Elt F), owns (Ix := Unit) (Name := ℕ) (U := UU) (Lvl := ℕ) (c : Thread nD τ) (Memref.whole b) fullShare X) : sProp 𝕄) := by
  refine both ?_ ?_
  · iintro ⟨%f, H⟩
    iexists f; rw [own_whole]
    iexists f
    isplitr; · (ipureintro; rfl)
    iexact H
  · iintro ⟨%X, H⟩
    ihave H' := (Entails.of_eq (own_whole c b X)) $$ H
    icases H' with ⟨%f, -, H⟩
    iexists f; iexact H

omit [FloatOps F] in
theorem rest_eq (c : Dev nD) : (Pipeline.scopedRest (Ix := Unit) (Name := ℕ) (U := UU) (Lvl := ℕ) (Val := Elt F) cfg0.spec c : sProp 𝕄) = scratch c := by
  rw [scopedRest0_eq, some_whole c cc0_scratch0, some_whole c cc0_scratch1, some_whole c cc0_scratch2, some_whole c cc0_scratch3,
    some_whole c cc0_scratch4, some_whole c cc0_scratch5, some_whole c cc0_scratch6, some_whole c cc0_scratch7, some_whole c cc0_scratch8]
  rfl

omit [FloatOps F] in
theorem linear_open (c : Dev nD) :
    iprop(linear c ∗ cred (tallyAt (barCell c) () 2) ∗ (bigSep Finset.univ fun t : Tr => cred (tallyAt (xCell c (t, true)) () (NT t))))
      ⊢ (iprop(knock c ∗ bigSep Finset.univ fun t => raw c t) : sProp 𝕄) := by
  unfold linear payToks knock raw
  rw [show (bigSep Finset.univ fun k : KI => (atPos ER (kcell (c, k)) 0 ∅ 0 : sProp 𝕄))
      = iprop((bigSep Finset.univ fun a : Unit => atPos ER (kcell (c, .inl a)) 0 ∅ 0) ∗ bigSep Finset.univ fun x : Tr × Bool => atPos ER (xCell c x) 0 ∅ 0)
      from BI.bigSep_univ_sum _]
  simp only [bigSep_sep']
  iintro ⟨⟨⟨Hb, Hx⟩, ⟨H1, H2⟩, H3, H4⟩, Hc, Hcs⟩
  ihave Hb' := (show bigSep Finset.univ (fun a : Unit => (atPos ER (kcell (c, .inl a)) 0 ∅ 0 : sProp 𝕄)) ⊢ atPos ER (barCell c) 0 ∅ 0 from bigSep_elim (Finset.mem_univ ())) $$ Hb
  ihave Hx' := (show (bigSep Finset.univ fun x : Tr × Bool => (atPos ER (xCell c x) 0 ∅ 0 : sProp 𝕄))
      ⊢ iprop((bigSep Finset.univ fun t : Tr => atPos ER (xCell c (t, false)) 0 ∅ 0) ∗ bigSep Finset.univ fun t : Tr => atPos ER (xCell c (t, true)) 0 ∅ 0) from by
    rw [BI.bigSep_univ_prod, ← bigSep_sep']
    exact mono fun t => Entails.of_eq (by rw [bigSep_univ_eq_bigSepL [false, true] (by decide) (by decide), bigSepL_cons_cons, bigSepL_singleton]; rfl)) $$ Hx
  icases Hx' with ⟨H5, H6⟩
  isplitl [Hb' Hc H1 H2]
  · isplitl [Hb']; · iexact Hb'
    isplitl [Hc]; · iexact Hc
    isplitl [H1] <;> iassumption
  isplitl [H4]; · iexact H4
  isplitl [H3]; · iexact H3
  isplitl [H5]; · iexact H5
  isplitl [H6]; · iexact H6
  iexact Hcs

theorem before_0 (c : Dev nD) (d) : (dats m ρ 0 c).before (0 : Fin 9) t0_0 d = (ins m c).x := by
  unfold Dat.before; rw [if_pos (fetch0_0 _)]; rfl
theorem before_1 (c : Dev nD) (d) : (dats m ρ 0 c).before (1 : Fin 9) t0_0 d = (ins m c).wq := by
  unfold Dat.before; rw [if_pos (fetch0_1 _)]; rfl
theorem before_2 (c : Dev nD) (d) : (dats m ρ 0 c).before (2 : Fin 9) t0_0 d = (ins m c).wk := by
  unfold Dat.before; rw [if_pos (fetch0_2 _)]; rfl
theorem before_3 (c : Dev nD) (d) : (dats m ρ 0 c).before (3 : Fin 9) t0_0 d = (ins m c).wv := by
  unfold Dat.before; rw [if_pos (fetch0_3 _)]; rfl
theorem before_4 (c : Dev nD) (d) : (dats m ρ 0 c).before (4 : Fin 9) t0_0 d = (ins m c).wo := by
  unfold Dat.before; rw [if_pos (fetch0_4 _)]; rfl
theorem before_5 (c : Dev nD) (d) : (dats m ρ 0 c).before (5 : Fin 9) t0_0 d = (ins m c).co := by
  unfold Dat.before; rw [if_pos (fetch0_5 _)]; rfl
theorem before_6 (c : Dev nD) (d) : (dats m ρ 0 c).before (6 : Fin 9) t0_0 d = (ins m c).si := by
  unfold Dat.before; rw [if_pos (fetch0_6 _)]; rfl
theorem before_7 (c : Dev nD) (d) : (dats m ρ 0 c).before (7 : Fin 9) t0_0 d = (ins m c).pm := by
  unfold Dat.before; rw [if_pos (fetch0_7 _)]; rfl

/-- The windows before the body, -/
def wins (c : Dev nD) : sProp 𝕄 :=
  iprop((∃ d, own c xM fullShare ((dats m ρ 0 c).before (0 : Fin 9) t0_0 d)) ∗ (∃ d, own c wqM fullShare ((dats m ρ 0 c).before (1 : Fin 9) t0_0 d))
    ∗ (∃ d, own c wkM fullShare ((dats m ρ 0 c).before (2 : Fin 9) t0_0 d)) ∗ (∃ d, own c wvM fullShare ((dats m ρ 0 c).before (3 : Fin 9) t0_0 d))
    ∗ (∃ d, own c woM fullShare ((dats m ρ 0 c).before (4 : Fin 9) t0_0 d)) ∗ (∃ d, own c cosM fullShare ((dats m ρ 0 c).before (5 : Fin 9) t0_0 d))
    ∗ (∃ d, own c sinM fullShare ((dats m ρ 0 c).before (6 : Fin 9) t0_0 d)) ∗ (∃ d, own c pmM fullShare ((dats m ρ 0 c).before (7 : Fin 9) t0_0 d))
    ∗ (∃ d, own c outM fullShare ((dats m ρ 0 c).before (8 : Fin 9) t0_0 d)))
/-- and after it. -/
def wins' (c : Dev nD) : sProp 𝕄 :=
  iprop(own c xM fullShare (ins m c).x ∗ own c wqM fullShare (ins m c).wq ∗ own c wkM fullShare (ins m c).wk ∗ own c wvM fullShare (ins m c).wv
    ∗ own c woM fullShare (ins m c).wo ∗ own c cosM fullShare (ins m c).co ∗ own c sinM fullShare (ins m c).si ∗ own c pmM fullShare (ins m c).pm
    ∗ own c outM fullShare (outFin (ins m)))

theorem wins_open (c : Dev nD) : wins m ρ c ⊢ iprop(given c (ins m c) ∗ some c outM) := by
  unfold wins given
  simp only [before_0, before_1, before_2, before_3, before_4, before_5, before_6, before_7]
  iintro ⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  isplitr [H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iexists _; iexact H8

theorem wins_close (c : Dev nD) : iprop(given c (ins m c) ∗ own c outM fullShare (outFin (ins m))) ⊢ wins' m c := by
  unfold wins' given
  iintro ⟨⟨H0, H1, H2, H3, H4, H5, H6, H7⟩, H8⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

def bodyPre (c : Dev nD) : sProp 𝕄 := iprop((start m c ∗ scratch c) ∗ (dats m ρ 0 c).owesAt () t0_0.castSucc ∗ wins m ρ c)
def bodyPost (c : Dev nD) : sProp 𝕄 := iprop((closed c ∗ scratch c) ∗ (dats m ρ 0 c).owesAt () t0_0.succ ∗ wins' m c)

theorem owes_open (c : Dev nD) : (dats m ρ 0 c).owesAt () t0_0.castSucc ⊢ owesE c (O₀ c) := by
  unfold Dat.owesAt Pipeline.owesWithin owesE
  iintro ⟨%W, -, H⟩
  iexists W; iexact H
theorem owes_close (c : Dev nD) : owesE c 0 ⊢ (dats m ρ 0 c).owesAt () t0_0.succ := by
  unfold Dat.owesAt Pipeline.owesWithin owesE
  iintro ⟨%W, H⟩
  iexists W
  isplitr; · (ipureintro; exact fun _ _ => Or.inl trivial)
  iexact H

theorem body_runs (c : Dev nD) : bodyPre m ρ c ⊢ runs c (fun _ => bodyPost m ρ c) walk := by
  unfold bodyPre start
  iintro ⟨⟨⟨⟨%K, HR, Hl⟩, Hb, Hc, Hlev⟩, Hs⟩, Ho, Hw⟩
  ihave Hlin := (linear_open c) $$ [Hl Hb Hc]
  · isplitl [Hl]; · iexact Hl
    isplitl [Hb] <;> iassumption
  icases Hlin with ⟨Hk, Hr⟩
  ihave Ho' := (owes_open m ρ c) $$ Ho
  ihave Hw' := (wins_open m ρ c) $$ Hw
  icases Hw' with ⟨Hg, Hout⟩
  iapply (runs_walk (ins m) K (d := c) (Q := fun _ => bodyPost m ρ c)) $$ [HR Hlev Ho' Hk Hr Hg Hout Hs]
  · unfold before
    isplitl [HR Hlev]
    · isplitl [HR] <;> iassumption
    isplitl [Ho']; · iexact Ho'
    isplitl [Hk]; · iexact Hk
    isplitl [Hr]; · iexact Hr
    isplitl [Hg]; · iexact Hg
    isplitl [Hout] <;> iassumption
  unfold after
  iintro ⟨Hcl, Ho, Hg, Hout, Hs⟩
  ihave Ho' := (owes_close m ρ c) $$ Ho
  ihave Hw := (wins_close m c) $$ [Hg Hout]
  · isplitl [Hg] <;> iassumption
  unfold bodyPost
  isplitl [Hcl Hs]
  · isplitl [Hcl] <;> iassumption
  isplitl [Ho'] <;> iassumption

omit [FloatOps F] in
theorem bigSep_W (Φ : Fin cfg0.W → sProp 𝕄) : bigSep Finset.univ Φ
    = iprop(Φ (0 : Fin 9) ∗ Φ (1 : Fin 9) ∗ Φ (2 : Fin 9) ∗ Φ (3 : Fin 9) ∗ Φ (4 : Fin 9) ∗ Φ (5 : Fin 9) ∗ Φ (6 : Fin 9) ∗ Φ (7 : Fin 9) ∗ Φ (8 : Fin 9)) := bigSep_W0 Φ

theorem runs_of_eq {c : Dev nD} {p p' : P F} (h : p = p') {Pre : sProp 𝕄} {Q : PUnit.{1} → sProp 𝕄} (hp : Pre ⊢ runs c Q p') :
    Pre ⊢ runs c Q p := h ▸ hp

theorem row_eq : defs₀ (F := F) .tc cfg0.body (cfg0.bodyArgs t0_0 (cfg0.slots t0_0)) = walk :=
  body_eq_walk

theorem phi_first (c : Dev nD) : (dats m ρ 0 c).Φ t0_0.castSucc = iprop(start m c ∗ scratch c) := rfl
theorem phi_last (c : Dev nD) : (dats m ρ 0 c).Φ t0_0.succ = iprop(closed c ∗ scratch c) := rfl

theorem wins_eq (c : Dev nD) : (bigSep Finset.univ fun w : Fin cfg0.W => iprop(∃ d, owns (Ix := Unit) (Name := ℕ) (U := UU) (Lvl := ℕ) (c : Thread nD τ) ((cfg0.win w).stage (cfg0.slots t0_0 w)) fullShare ((dats m ρ 0 c).before w t0_0 d))) = wins m ρ c := by
  rw [bigSep_W]; rfl
theorem wins'_eq (c : Dev nD) : (bigSep Finset.univ fun w : Fin cfg0.W => owns (Ix := Unit) (Name := ℕ) (U := UU) (Lvl := ℕ) (c : Thread nD τ) ((cfg0.win w).stage (cfg0.slots t0_0 w)) fullShare ((dats m ρ 0 c).after w t0_0)) = wins' m c := by
  rw [bigSep_W]; rfl

theorem body_obligation (c : Dev nD) : BodyObligation (dats (F := F) m ρ 0 c) (defs₀ (F := F)) 𝒱₀ () Set.univ := fun t => by
  rw [fin_N0 t]
  have h := runs_of_eq (row_eq (F := F)) (body_runs m ρ c)
  unfold bodyPre bodyPost at h
  rw [← wins_eq, ← wins'_eq m ρ, ← phi_first m ρ, ← phi_last m ρ] at h
  unfold runs at h
  simp only []
  generalize defs₀ (F := F) Proc.tc cfg0.body (cfg0.bodyArgs t0_0 (cfg0.slots t0_0)) = p at h ⊢
  exact h

end Cert.Attn

end
-- ==== Proof.Run.lean ====
/-
The launch: the cells' ghost state minted and dealt around the ring, the launch's credit read off what the devices owe,
and the run of the program on the eight devices.
-/
module

public import proofs.«01_k».proof.Proof.Launch
public import Idealize.ShloMosaic.Lib.Pipeline.Launch
public import Idealize.ShloMosaic.Lib.Pipeline.Kit
public import Idealize.ShloMosaic.Lib.Pipeline.CollectiveSegs
public import Idealize.ShloMosaic.Lib.Quiescent
public import Idealize.ShloMosaic.Lib.Tactic

@[expose] public section

set_option maxRecDepth 16384

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The ghost state -/

theorem ownSemFacts : Pipeline.OwnSemFacts cfg0.spec osem := by decide +kernel

theorem share_eq (c : Dev nD) (w : Fin cfg0.W) : (dats m ρ 0 c).share w = fullShare := by unfold Dat.share; split <;> rfl

def ringCells : Finset (GSem nD τ sig) := Finset.univ.map ⟨kcell, kcell_injective⟩

/-- The duties of a device's own cells: the barrier's two, and one for each cell of a transfer. -/
def tokOf (ck : Dev nD × (Bool ⊕ (Tr × Bool))) : GSem nD τ sig × ℕ × Bool :=
  match ck.2 with
  | .inl b => (barCell ck.1, 0, b)
  | .inr x => (xCell ck.1 x, 0, false)
theorem tokOf_injective : Function.Injective tokOf := fun ⟨a, x⟩ ⟨b, y⟩ h => by
  have h1 : a = b := by
    have := congrArg (fun g : GSem nD τ sig × ℕ × Bool => g.1.1.1) h
    cases x <;> cases y <;> exact this
  subst h1
  have h2 := congrArg (fun g : GSem nD τ sig × ℕ × Bool => (g.1.2, g.2.2)) h
  match x, y with
  | .inl b, .inl b' => exact congrArg (fun z => (a, Sum.inl z)) (congrArg Prod.snd h2)
  | .inl b, .inr x => cases congrArg Prod.fst h2
  | .inr x, .inl b => cases congrArg Prod.fst h2
  | .inr x, .inr x' => exact congrArg (fun z => (a, Sum.inr z)) (xs_inj (by have := congrArg Prod.fst h2; injection this))
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The tokens of a device's own cells. -/
def toks (c : Dev nD) : sProp 𝕄 :=
  iprop((dutyTok ER (barCell c) 0 false ∗ dutyTok ER (barCell c) 0 true)
    ∗ (bigSep Finset.univ fun t : Tr => dutyTok ER (xCell c (t, true)) 0 false)
    ∗ bigSep Finset.univ fun t : Tr => dutyTok ER (xCell c (t, false)) 0 false)

/-- What the launch's element deals a device, -/
def G (c : Dev nD) : sProp 𝕄 :=
  iprop((bigSep Finset.univ fun k : KI => roundState ER (Rd (accs (ins m))) (kcell (c, k)) 0)
    ∗ (bigSep Finset.univ fun k : KI => iprop(atPos ER (kcell (c, k)) 0 ∅ 0 ∗ reached ER (kcell (c, k)) 0)) ∗ toks c)
/-- and what it becomes. -/
def G' (c : Dev nD) : sProp 𝕄 := iprop(∃ K, records (accs (ins m)) K ∗ linear c)

omit [FloatOps F] in
/-- Something for both semaphores of every transfer. -/
theorem bigSep_pairs (Φ : Tr × Bool → sProp 𝕄) :
    bigSep Finset.univ Φ = iprop((bigSep Finset.univ fun t : Tr => Φ (t, true)) ∗ bigSep Finset.univ fun t : Tr => Φ (t, false)) := by
  rw [BI.bigSep_univ_prod, ← bigSep_sep']
  exact bigSep_congr fun t _ => by
    rw [bigSep_univ_eq_bigSepL [true, false] (by decide) (by decide), bigSepL_cons_cons, bigSepL_singleton]; rfl
omit [FloatOps F] in
theorem bigSep_two {A B : Type} [Fintype A] [Fintype B] (Φ : A ⊕ B → sProp 𝕄) :
    bigSep Finset.univ Φ = iprop((bigSep Finset.univ fun a => Φ (.inl a)) ∗ bigSep Finset.univ fun b => Φ (.inr b)) := BI.bigSep_univ_sum Φ
omit [FloatOps F] in
theorem bigSep_one (Φ : Unit → sProp 𝕄) : bigSep Finset.univ Φ = Φ () := by
  rw [show (Finset.univ : Finset Unit) = {()} from rfl, bigSep_singleton]

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : KI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks
    rw [bigSep_two, bigSep_pairs, bigSep_univ_eq_bigSepL [false, true] (by decide) (by decide), bigSepL_cons_cons, bigSepL_singleton]
    rfl
  iintro HX
  imod (Rounds.fund ER (Rd (accs (ins m))) ringCells ringToks) $$ HX with ⟨Hst, Hr, Hat, Htok⟩
  imodintro
  ihave Hst' := (Entails.of_eq (hX fun g => roundState ER (Rd (accs (ins m))) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun x : Tr × Bool => semVal (xCell c x) 0 := by
  unfold Pipeline.ownSems0; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : KI => semVal (kcell (c, k)) 0 : sProp 𝕄) := by
  rw [ownSems0_eq, unscopedSems0_eq, bigSep_two, bigSep_one]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : KI => iprop(∃ κ : ℕ, cellInv ER (Rd (accs (ins m))) κ (kcell (c, k))))
          ∗ (bigSep Finset.univ fun k : KI => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : KI => semVal (kcell (c, k)) 0) ∗ bigSep Finset.univ fun k : KI => roundState ER (Rd (accs (ins m))) (kcell (c, k)) 0)
      ⊢ (|={Set.univ}=> bigSep Finset.univ fun k : KI => iprop(∃ κ : ℕ, cellInv ER (Rd (accs (ins m))) κ (kcell (c, k))) : sProp 𝕄) from by
        rw [← bigSep_sep']
        exact (bigSep_mono fun k _ => (Rounds.body_intro ER (Rd (accs (ins m))) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The step a transfer takes around the ring. -/
def step (b : Bool) : Dev nD ≃ Dev nD := if b then ring else ring.symm
theorem step_apply (b : Bool) (c : Dev nD) : step b c = toward b c := by cases b <;> rfl

omit [FloatOps F] in
/-- The tokens dealt around the ring: each to the device that pays the duty. -/
theorem toks_around : (bigSep Finset.univ fun c : Dev nD => (toks c : sProp 𝕄)) ⊢ bigSep Finset.univ fun c : Dev nD => payToks c := by
  have hr : (bigSep Finset.univ fun c : Dev nD => bigSep Finset.univ fun t : Tr => (dutyTok ER (xCell c (t, true)) 0 false : sProp 𝕄))
      = bigSep Finset.univ fun c : Dev nD => bigSep Finset.univ fun t : Tr => dutyTok ER (xCell (tgt c t) (t, true)) 0 false := by
    rw [BI.bigSep_univ_comm, BI.bigSep_univ_comm (fun (c : Dev nD) (t : Tr) => (dutyTok ER (xCell (tgt c t) (t, true)) 0 false : sProp 𝕄))]
    refine bigSep_congr fun t _ => ?_
    rw [bigSep_univ_equiv (step (dirT t)) (fun c : Dev nD => (dutyTok ER (xCell c (t, true)) 0 false : sProp 𝕄))]
    exact bigSep_congr fun c _ => by rw [step_apply]
  unfold toks payToks
  rw [bigSep_sep', bigSep_sep', bigSep_sep', bigSep_sep', bigSep_sep', bigSep_sep', hr,
    bigSep_univ_equiv ring (fun c : Dev nD => (dutyTok ER (barCell c) 0 false : sProp 𝕄)),
    bigSep_univ_equiv ring.symm (fun c : Dev nD => (dutyTok ER (barCell c) 0 true : sProp 𝕄))]
  exact .rfl

theorem ghost_intro (K : Dev nD × KI → ℕ) (c : Dev nD) : iprop(records (accs (ins m)) K ∗ linear c) ⊢ G' m c := by
  unfold G'
  iintro H
  iexists K; iexact H

theorem regroup :
    (bigSep Finset.univ fun c : Dev nD => iprop((bigSep Finset.univ fun k : KI => iprop(∃ κ : ℕ, cellInv ER (Rd (accs (ins m))) κ (kcell (c, k))))
          ∗ (bigSep Finset.univ fun k : KI => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × KI => iprop(∃ κ : ℕ, cellInv ER (Rd (accs (ins m))) κ (kcell ck))),
    bigSep_congr (s := Finset.univ) (fun (c : Dev nD) _ => bigSep_sep' Finset.univ (fun k : KI => (atPos ER (kcell (c, k)) 0 ∅ 0 : sProp 𝕄)) (fun k => reached ER (kcell (c, k)) 0)),
    bigSep_sep', ← bigSep_univ_prod (fun ck : Dev nD × KI => (reached ER (kcell ck) 0 : sProp 𝕄))]
  iintro ⟨HI, ⟨Hat, #HR⟩, Htok⟩
  ihave HK := (BI.bigSep_exists_pi Finset.univ (fun (ck : Dev nD × KI) (κ : ℕ) => (cellInv ER (Rd (accs (ins m))) κ (kcell ck) : sProp 𝕄))) $$ HI
  icases HK with ⟨%K, #HI⟩
  ihave Htk := (toks_around (F := F)) $$ Htok
  iapply (BI.bigSep_with_persistent (S := Finset.univ) (R := records (accs (ins m)) K) fun c _ => ghost_intro m K c)
  isplitr
  · unfold records; isplitl; · iexact HI
    iexact HR
  · iapply (Entails.of_eq (bigSep_sep' Finset.univ (fun c : Dev nD => bigSep Finset.univ fun k : KI => (atPos ER (kcell (c, k)) 0 ∅ 0 : sProp 𝕄)) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's credit -/

theorem toward_eq_iff (b : Bool) (d c : Dev nD) : (toward b d = c) ↔ (d = toward (!b) c) := by
  revert b d c; decide

theorem bar_eq_iff {a b : Dev nD} : Iff (barCell a = barCell b) (a = b) :=
  ⟨fun h => congrArg (fun g : GSem nD τ sig => g.1.1) h, fun h => h ▸ rfl⟩
theorem x_eq_iff {a b : Dev nD} {x y : Tr × Bool} : Iff (xCell a x = xCell b y) (a = b ∧ x = y) :=
  ⟨fun h => ⟨congrArg (fun g : GSem nD τ sig => g.1.1) h, xs_inj (by have := congrArg Prod.snd h; injection this)⟩, fun h => by rw [h.1, h.2]⟩

theorem owe_x (d c : Dev nD) (t : Tr) : owe 0 d (xCell c (t, true)) () = if d = toward (!dirT t) c then NT t else 0 := by
  unfold owe
  rw [sum_apply, Finset.filter_true_of_mem fun _ _ => Nat.zero_le _]
  rw [Finset.sum_eq_single t]
  · rw [tallyAt_apply]
    by_cases h : d = toward (!dirT t) c
    · rw [if_pos ⟨x_eq_iff.mpr ⟨((toward_eq_iff _ _ _).mpr h).symm, rfl⟩, rfl⟩, if_pos h]
    · rw [if_neg (fun h' => h ((toward_eq_iff _ _ _).mp (x_eq_iff.mp h'.1).1.symm)), if_neg h]
  · intro t' _ ht
    rw [tallyAt_apply, if_neg fun h' => ht (congrArg Prod.fst (x_eq_iff.mp h'.1).2).symm]
  · exact fun h => absurd (Finset.mem_univ _) h
theorem owe_bar (d c : Dev nD) : owe 0 d (barCell c) () = 0 := by
  unfold owe
  rw [sum_apply]
  exact Finset.sum_eq_zero fun t _ => by rw [tallyAt_apply, if_neg fun h' => dma_ne_bar _ (congrArg Prod.snd h'.1).symm]

theorem owed_x (d c : Dev nD) (t : Tr) : O₀ d (xCell c (t, true)) () = if d = toward (!dirT t) c then NT t else 0 := by
  unfold O₀ O₁
  rw [Pi.add_apply, Finsupp.add_apply, Pi.add_apply, Finsupp.add_apply, tallyAt_ne_cell (fun h => dma_ne_bar _ (congrArg Prod.snd h)),
    tallyAt_ne_cell (fun h => dma_ne_bar _ (congrArg Prod.snd h)), Finsupp.zero_apply, Nat.add_zero, Nat.add_zero, owe_x]
theorem owed_bar (d c : Dev nD) : O₀ d (barCell c) () = (if d = nxt c then 1 else 0) + (if d = prv c then 1 else 0) := by
  unfold O₀ O₁
  rw [Pi.add_apply, Finsupp.add_apply, Pi.add_apply, Finsupp.add_apply, owe_bar, tallyAt_apply, tallyAt_apply, Nat.zero_add]
  congr 1
  · by_cases h : d = nxt c
    · subst h; rw [prv_nxt, if_pos ⟨rfl, rfl⟩, if_pos rfl]
    · rw [if_neg (fun ⟨h1, _⟩ => h (by rw [← nxt_prv d]; exact congrArg nxt (bar_eq_iff.mp h1).symm)), if_neg h]
  · by_cases h : d = prv c
    · subst h; rw [nxt_prv, if_pos ⟨rfl, rfl⟩, if_pos rfl]
    · rw [if_neg (fun ⟨h1, _⟩ => h (by rw [← prv_nxt d]; exact congrArg prv (bar_eq_iff.mp h1).symm)), if_neg h]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (nxt c) fun _ => 1, Finset.sum_ite_eq' Finset.univ (prv c) fun _ => 1, if_pos (Finset.mem_univ _), if_pos (Finset.mem_univ _)]
theorem launch_x (c : Dev nD) (t : Tr) :
    tallyOn (xCell c (t, true)) (launchCredit (Pipeline.owing O₀) 0 (xCell c (t, true))) = (tallyAt (xCell c (t, true)) () (NT t) : CellTallies nD τ sig Unit) := by
  unfold tallyAt; refine congrArg _ (Finsupp.ext fun u => ?_); cases u
  rw [Pipeline.launchCredit_owing, Finsupp.single_eq_same, Finset.sum_congr rfl fun d _ => owed_x d c t,
    Finset.sum_ite_eq' Finset.univ (toward (!dirT t) c) fun _ => NT t, if_pos (Finset.mem_univ _)]

/-- The cells a device is credited at: its barrier's and its landings'. -/
def credOf : Unit ⊕ Tr → SemLoc sig
  | .inl _ => .reg barS
  | .inr t => .dma (xs (t, true))
theorem credOf_inj : Function.Injective credOf := fun a b h => by
  match a, b with
  | .inl _, .inl _ => rfl
  | .inl _, .inr x => cases h
  | .inr x, .inl _ => cases h
  | .inr x, .inr y => exact congrArg Sum.inr (congrArg Prod.fst (xs_inj (by injection h)))

omit [FloatOps F] in
theorem creds (c : Dev nD) :
    (Pipeline.launchCred O₀ c : sProp 𝕄) ⊢ iprop(cred (tallyAt (barCell c) () 2) ∗ bigSep Finset.univ fun t : Tr => cred (tallyAt (xCell c (t, true)) () (NT t))) := by
  unfold Pipeline.launchCred
  refine (show _ ⊢ _ from bigSep_subset (Finset.subset_univ (Finset.univ.map ⟨credOf, credOf_inj⟩))).trans (Entails.of_eq ?_)
  rw [bigSep_map, bigSep_two, bigSep_one]
  refine congrArg₂ (fun a b => iprop(a ∗ b)) ?_ (bigSep_congr fun t _ => ?_)
  · exact congrArg _ (launch_bar c)
  · exact congrArg _ (launch_x c t)

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ scratch c) from rfl, rest_eq]
  iintro ⟨Hs, -, Hr⟩
  isplitl [Hs] <;> iassumption

omit [FloatOps F] in
theorem St_all (c : Dev nD) : (St c 35 35 : sProp 𝕄) ⊢ bigSep Finset.univ fun x : Tr × Bool => semVal (xCell c x) 0 := by
  rw [bigSep_pairs, ← bigSep_sep']
  unfold St
  refine mono fun t => ?_
  unfold stage_at done
  rw [if_pos (rank_lt t)]
  iintro ⟨H1, H2⟩
  isplitl [H2] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(closed c ∗ scratch c) from rfl, rest_eq, ownSems0_eq, unscopedSems0_eq]
  unfold closed
  iintro ⟨⟨Hb, HS⟩, Hr⟩
  isplitl [Hb]; · iexact Hb
  isplitl [HS]; · iapply (St_all c); iexact HS
  iexact Hr

theorem kindOf_none {q : DmaSem sig} (h : ∀ x, xs x ≠ q) : kindOf (.dma q) = none := by
  rcases hk : kindOf (.dma q) with _ | x
  · rfl
  · have := kindOf_eq_some hk
    injection this with this
    exact absurd this.symm (h x)

theorem waits (c : Dev nD) : (levAts L lv : sProp 𝕄) ⊢ Pipeline.cellsWaits cfgs (dats m ρ) () 0 c :=
  Pipeline.cellsWaits_intro cfgs (dats m ρ) () 0 c fun w s t =>
    mayWait_stage c _ (kindOf_none (by fin_cases w <;> fin_cases s <;> decide)) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

theorem run_region : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Attn

end
-- ==== Proof.Frames.lean ====
/-
The run's final memory: the arguments as they were, the result at the sum of the eight devices' products.
-/
module

public import proofs.«01_k».proof.Proof.Run
public import Idealize.ShloMosaic.Lib.Pipeline.Launch
public import Idealize.ShloMosaic.Lib.Pipeline.Kit
public import Idealize.ShloMosaic.Lib.Pipeline.CollectiveSegs
public import Idealize.ShloMosaic.Lib.Quiescent
public import Idealize.ShloMosaic.Lib.Claim
public import Idealize.ShloMosaic.Lib.Pipeline.ValueKit

@[expose] public section

set_option maxRecDepth 16384

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the launch stages and writes back -/

theorem ins_x (c : Dev nD) : (ins m c).x = m ((c : Thread nD τ).loc main_arg0) :=
  funext fun j => congrArg (m ((c : Thread nD τ).loc main_arg0)) (funext fun a => Fin.ext (show 0 * S2048x1024.size a + 1 * (j a).val = (j a).val by omega))
theorem ins_wq (c : Dev nD) : (ins m c).wq = m ((c : Thread nD τ).loc main_arg1) :=
  funext fun j => congrArg (m ((c : Thread nD τ).loc main_arg1)) (funext fun a => Fin.ext (show 0 * S1024x1024.size a + 1 * (j a).val = (j a).val by omega))
theorem ins_wk (c : Dev nD) : (ins m c).wk = m ((c : Thread nD τ).loc main_arg2) :=
  funext fun j => congrArg (m ((c : Thread nD τ).loc main_arg2)) (funext fun a => Fin.ext (show 0 * S1024x1024.size a + 1 * (j a).val = (j a).val by omega))
theorem ins_wv (c : Dev nD) : (ins m c).wv = m ((c : Thread nD τ).loc main_arg3) :=
  funext fun j => congrArg (m ((c : Thread nD τ).loc main_arg3)) (funext fun a => Fin.ext (show 0 * S1024x1024.size a + 1 * (j a).val = (j a).val by omega))
theorem ins_wo (c : Dev nD) : (ins m c).wo = m ((c : Thread nD τ).loc main_arg4) :=
  funext fun j => congrArg (m ((c : Thread nD τ).loc main_arg4)) (funext fun a => Fin.ext (show 0 * S1024x1024.size a + 1 * (j a).val = (j a).val by omega))
theorem ins_co (c : Dev nD) : (ins m c).co = m ((c : Thread nD τ).loc main_arg5) :=
  funext fun j => congrArg (m ((c : Thread nD τ).loc main_arg5)) (funext fun a => Fin.ext (show 0 * S2048x128.size a + 1 * (j a).val = (j a).val by omega))
theorem ins_si (c : Dev nD) : (ins m c).si = m ((c : Thread nD τ).loc main_arg6) :=
  funext fun j => congrArg (m ((c : Thread nD τ).loc main_arg6)) (funext fun a => Fin.ext (show 0 * S2048x128.size a + 1 * (j a).val = (j a).val by omega))
theorem ins_pm (c : Dev nD) : (ins m c).pm = m ((c : Thread nD τ).loc main_arg7) :=
  funext fun j => congrArg (m ((c : Thread nD τ).loc main_arg7)) (funext fun a => Fin.ext (show 0 * S128x128.size a + 1 * (j a).val = (j a).val by omega))

theorem arr_out (c : Dev nD) : finalA m ρ c (8 : Fin 9) = outFin (ins m) := by
  unfold finalA
  refine (dats m ρ 0 c).arrAt_eq_of_after_last (8 : Fin 9) t0_0 (by decide +kernel) _ fun j => ?_
  blk_simp
  rfl

/-! ## The run -/

theorem kept {r : PUnit × MemSt nD τ sig (Elt F)} (h : QC m ρ r) (c : Dev nD) (w : Fin cfg0.W) (hw : (cfg0.win w).isOut = false) :
    r.2.mem ((cfg0.win w).arr.view.loc (c : Thread nD τ)) = m ((cfg0.win w).arr.view.loc (c : Thread nD τ)) :=
  (h c w).trans ((dats (F := F) m ρ 0 c).arrAt_in w hw _)

/-- From any memory with zero counters, over any float values, every execution ends with each device's result at the
    sum of the eight devices' products, the arguments as they were, and every counter at zero. -/
theorem run_main : θ_run defs (onTc (τ := τ) (main (F := F))) ⟨m, fun _ => 0, ρ⟩ (fun r =>
    ((∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0)
    ∧ ∀ c : Dev nD, r.2.mem ((c.tc : Thread nD τ).loc main_v1) = outFin (ins m)) :=
  (θ_run defs _ _).mono (fun r h => ⟨⟨fun c => ⟨kept m ρ h.1 c (0 : Fin 9) rfl, kept m ρ h.1 c (1 : Fin 9) rfl, kept m ρ h.1 c (2 : Fin 9) rfl, kept m ρ h.1 c (3 : Fin 9) rfl, kept m ρ h.1 c (4 : Fin 9) rfl, kept m ρ h.1 c (5 : Fin 9) rfl, kept m ρ h.1 c (6 : Fin 9) rfl, kept m ρ h.1 c (7 : Fin 9) rfl⟩, h.2⟩,
    fun c => (h.1 c (8 : Fin 9)).trans (arr_out m ρ c)⟩) (run_region m ρ)

end Cert.Attn

end
-- ==== Proof.FramesAll.lean ====
/-
The frames of the three programs.
-/
module

public import proofs.«01_k».proof.Defs
public import proofs.«01_k».proof.Proof.Frames
public import proofs.«01_k».proof.Proof.Gen.Kernel
public import proofs.«01_k».proof.Proof.Gen.ReferenceIdeal
public import Idealize.ShloMosaic.Lib.Claim
public import Idealize.ShloMosaic.Lib.Quiescent

@[expose] public section

set_option maxRecDepth 16384

noncomputable section

namespace Cert.Attn

open Idealize.ShloMosaic Idealize.ShloMosaic.TcCoe Idealize.SL.Sem

/-- The kernel over the extended reals keeps its arguments and leaves every counter at zero. -/
theorem frame_ideal : Cert.quiescent_KernelIdeal (hKernelIdeal := Cert.KernelIdeal.Gen.facts) := fun m ρ _ =>
  (θ_run Cert.KernelIdeal.defs _ _).mono (fun _ h => h.1) (run_main (F := Ideal) m ρ)

section
variable {F : FTy → Type} [FloatOps F]

attribute [local instance] Kernel.Gen.facts KernelIdeal.Gen.facts

/-- The two programs have the same body. -/
theorem bodies_eq : Kernel.cc0_body (F := F) = KernelIdeal.cc0_body (F := F) := rfl

/-- So they have the same body table, -/
theorem defs₀_eq : Kernel.defs₀ (F := F) = KernelIdeal.defs₀ (F := F) := by
  funext p
  cases p with
  | tc =>
    funext ℓ a
    match ℓ, a with
    | ⟨0, _⟩, (t, s) =>
      unfold Kernel.defs₀ KernelIdeal.defs₀
      simp only [Defs.onTc_tc]
      rw [bodies_eq]
  | scScalar i => rfl
  | scVector i j => rfl

/-- and the same table with the region and the pipeline. -/
theorem defs_eq : Kernel.defs (F := F) = KernelIdeal.defs (F := F) :=
  congrArg (Pipeline.defs (KernelIdeal.pcfgs (F := F))) (defs₀_eq (F := F))

end

/-- The machine's kernel likewise: it is the same program. -/
theorem frame_kernel : Cert.quiescent_Kernel (hKernel := Cert.Kernel.Gen.facts) := fun m ρ _ => by
  have h := (θ_run Cert.KernelIdeal.defs _ _).mono (fun _ h => h.1) (run_main (F := Bits) m ρ)
  rw [← defs_eq] at h
  exact h

/-- The reference runs on the host alone. -/
theorem frame_reference : Cert.quiescent_ReferenceIdeal (hReferenceIdeal := Cert.ReferenceIdeal.Gen.facts) := fun m ρ _ => by
  hlo_run
  · simp
  · exact Idealize.ShloMosaic.sem_eq_zero_of_no_sems (sig := Cert.ReferenceIdeal.sig) (by decide) _

end Cert.Attn

end
-- ==== Proof.KerTerm.lean ====
/-
What the buffers hold over the extended reals, read at one index.
-/
module

public import proofs.«01_k».proof.Proof.Blocks
public import Idealize.ShloMosaic.Lib.Pointwise

@[expose] public section

set_option maxRecDepth 16384

noncomputable section

namespace Cert.Attn

open Cert.KernelIdeal Cert.KernelIdeal.Gen
open Idealize.ShloMosaic Idealize.ShloMosaic.TcCoe Idealize.SL.Sem

theorem pay6_at (x w : FVec Ideal S1024x1024 .bf16) (i n : Fin 1024) :
    k0_pay6 (F := Ideal) x w (ix2 i n) = ∑ k : Fin 1024, x (ix2 i k) * w (ix2 k n) := by
  pointwise [k0_pay6, k0_pay5]

theorem half_at (x : FVec Ideal S2048x1024 .bf16) (b : Fin 2) (i k : Fin 1024) :
    half (F := Ideal) x b (ix2 i k) = x (ix2 ⟨1024 * b.val + i.val, by omega⟩ k) := by
  refine congrArg x (ext2 rfl ?_)
  show 0 + k.val = k.val
  omega

theorem proj_at (x : FVec Ideal S2048x1024 .bf16) (w : FVec Ideal S1024x1024 .bf16) (i : Fin 2048) (n : Fin 1024) :
    proj (F := Ideal) x w (ix2 i n) = ∑ k : Fin 1024, x (ix2 i k) * w (ix2 k n) := by
  refine (pay6_at (half (F := Ideal) x ⟨i.val / 1024, by omega⟩) w ⟨i.val % 1024, by omega⟩ n).trans ?_
  refine Finset.sum_congr rfl fun k _ => congrArg (· * w (ix2 k n)) ?_
  refine (half_at x _ _ k).trans (congrArg x (ext2 ?_ rfl))
  show 1024 * (i.val / 1024) + i.val % 1024 = i.val
  omega

theorem pay13_at (pm : FVec Ideal S128x128 .bf16) (co si : FVec Ideal S2048x128 .bf16) (a : FVec Ideal S2048x128 .bf16) (i : Fin 2048) (d : Fin 128) :
    k0_pay13 (F := Ideal) (k0_pay2 pm) (k0_pay3 co) (k0_pay4 si) a (ix2 i d)
      = a (ix2 i d) * co (ix2 i d) + (∑ e : Fin 128, a (ix2 i e) * pm (ix2 e d)) * si (ix2 i d) := by
  pointwise [k0_pay13, k0_pay2, k0_pay3, k0_pay4]
theorem pay32_at (pm : FVec Ideal S128x128 .bf16) (co si : FVec Ideal S2048x128 .bf16) (a : FVec Ideal S2048x128 .bf16) (i : Fin 2048) (d : Fin 128) :
    k0_pay32 (F := Ideal) (k0_pay2 pm) (k0_pay3 co) (k0_pay4 si) a (ix2 i d)
      = (a (ix2 i d) * co (ix2 i d) + (∑ e : Fin 128, a (ix2 i e) * pm (ix2 e d)) * si (ix2 i d)) * Ideal.ofBits .f32 0x3DB504F3#32 := by
  pointwise [k0_pay32, k0_pay2, k0_pay3, k0_pay4]

theorem pay35_at (q : FVec Ideal S256x128 .bf16) (k v : FVec Ideal S2048x128 .bf16) (r : Fin 256) (d : Fin 128) :
    k0_pay35 (F := Ideal) q k v (ix2 r d)
      = Ideal.div (∑ j : Fin 2048, Ideal.exp (∑ e : Fin 128, q (ix2 r e) * k (ix2 j e)) * v (ix2 j d))
          (∑ j : Fin 2048, Ideal.exp (∑ e : Fin 128, q (ix2 r e) * k (ix2 j e))) := by
  pointwise [k0_pay35]

theorem pay45_at (c : FVec Ideal S256x1024 .bf16) (w : FVec Ideal S1024x1024 .bf16) (r : Fin 256) (n : Fin 1024) :
    k0_pay45 (F := Ideal) c w (ix2 r n) = ∑ k : Fin 1024, c (ix2 r k) * w (ix2 k n) := by
  pointwise [k0_pay45]

theorem accum_at (a v : FVec Ideal S256x1024 .bf16) (r : Fin 256) (n : Fin 1024) :
    accum (F := Ideal) a v (ix2 r n) = a (ix2 r n) + v (ix2 r n) := by
  pointwise [accum]

variable (I : Ins Ideal)

theorem rowTile_qUpto (c h : Fin 8) (r : Fin 256) (d : Fin 128) :
    rowTile (F := Ideal) (qUpto I 8) c h (ix2 r d) = qRot I h (ix2 ⟨256 * c.val + r.val, by omega⟩ d) := by
  have e : colTile (n := 2048) (qUpto I 8) h = qRot I h := by unfold qUpto; rw [colTile_ofCols, if_pos h.isLt]
  exact congrFun e (ix2 ⟨256 * c.val + r.val, by omega⟩ d)

theorem ctxHead_at (c h : Fin 8) (r : Fin 256) (d : Fin 128) :
    ctxHead I c h (ix2 r d)
      = Ideal.div (∑ j : Fin 2048, Ideal.exp (∑ e : Fin 128, qRot I h (ix2 ⟨256 * c.val + r.val, by omega⟩ e) * keyRot I h (ix2 j e))
            * proj I.x I.wv (ix2 j ⟨128 * h.val + d.val, by omega⟩))
          (∑ j : Fin 2048, Ideal.exp (∑ e : Fin 128, qRot I h (ix2 ⟨256 * c.val + r.val, by omega⟩ e) * keyRot I h (ix2 j e))) := by
  unfold ctxHead
  rw [pay35_at]
  simp only [rowTile_qUpto]
  rfl

theorem part_at (c : Fin 8) (r : Fin 256) (n : Fin 1024) :
    part I c (ix2 r n) = ∑ k : Fin 1024, ctxHead I c ⟨k.val / 128, by omega⟩ (ix2 r ⟨k.val % 128, by omega⟩) * I.wo (ix2 k n) := by
  unfold part
  rw [pay45_at]
  rfl

theorem cyclic (f : Fin 8 → EReal) (d : Fin 8) :
    f d + (f (d - 1) + (f (d - 2) + (f (d - 3) + (f (d - 4) + (f (d - 5) + (f (d - 6) + f (d - 7))))))) = ∑ e, f e := by
  rw [← (Equiv.subLeft d).sum_comp f, Fin.sum_univ_eight]
  simp only [Equiv.subLeft_apply, sub_zero]
  ac_rfl

theorem prv_sub (d : Fin 8) (j : Fin 8) : prv (d - j) = (d - (j + 1) : Fin 8) := by revert d j; decide

/-- The ring's sums are the sums over all devices. -/
theorem acc_all (J : Dev nD → Ins Ideal) (d : Dev nD) (r : Fin 256) (n : Fin 1024) :
    acc J 7 d (ix2 r n) = ∑ e : Fin 8, part (J e) (cid d 7) (ix2 r n) := by
  refine Eq.trans ?_ (cyclic (fun e => part (J e) (cid d 7) (ix2 r n)) d)
  have p1 : prv d = (d - 1 : Fin 8) := by revert d; decide
  have p2 : prv (d - 1 : Fin 8) = (d - 2 : Fin 8) := prv_sub d 1
  have p3 : prv (d - 2 : Fin 8) = (d - 3 : Fin 8) := prv_sub d 2
  have p4 : prv (d - 3 : Fin 8) = (d - 4 : Fin 8) := prv_sub d 3
  have p5 : prv (d - 4 : Fin 8) = (d - 5 : Fin 8) := prv_sub d 4
  have p6 : prv (d - 5 : Fin 8) = (d - 6 : Fin 8) := prv_sub d 5
  have p7 : prv (d - 6 : Fin 8) = (d - 7 : Fin 8) := prv_sub d 6
  have step (j : ℕ) (d : Dev nD) : acc J (j + 1) d (ix2 r n) = part (J d) (cid d (j + 1)) (ix2 r n) + acc J j (prv d) (ix2 r n) :=
    accum_at _ _ r n
  have zero (d : Dev nD) : acc J 0 d (ix2 r n) = part (J d) (cid d 0) (ix2 r n) := rfl
  rw [step 6, step 5, step 4, step 3, step 2, step 1, step 0, zero]
  simp only [cid_succ]
  simp only [p1, p2, p3, p4, p5, p6, p7]

end Cert.Attn
end
-- ==== Proof.RefTerm.lean ====
/-
The reference's result, step by step, as functions of the whole arrays, and each step read at one index.
-/
module

public import proofs.«01_k».proof.Proof.Gen.ReferenceIdeal.Run
public import Idealize.ShloMosaic.Lib.Pointwise
public import Idealize.ShloMosaic.Lib.Claim

@[expose] public section

set_option maxRecDepth 16384

noncomputable section

namespace Cert.AttnRef

open Cert.ReferenceIdeal Cert.ReferenceIdeal.Gen
open Idealize.ShloMosaic Idealize.ShloMosaic.TcCoe Idealize.SL.Sem

/-- A projection, cut into sixty-four heads. -/
def rProj (X : FVec Ideal S2048x1024 .bf16) (W : FVec Ideal S1024x8192 .bf16) : FVec Ideal S2048x64x128 .f32 :=
  shapeCast _ (Host.dotGeneral dot_S2048x1024_S1024x8192_S2048x8192_1_0_0_1_n_n none (extf .f32 X bitsLt_bf16_f32) (extf .f32 W bitsLt_bf16_f32))
    shapeCasts_S2048x8192_S2048x64x128
/-- The rotary embedding of all heads. -/
def rRot (T : FVec Ideal S2048x64x128 .f32) (co si : FVec Ideal S2048x128 .bf16) : FVec Ideal S2048x64x128 .f32 :=
  addf (mulf T (broadcastInDim S2048x64x128 ![0, 1, 2] bcast_S2048x1x128_S2048x64x128_0_1_2
      (broadcastInDim S2048x1x128 ![0, 2] bcast_S2048x128_S2048x1x128_0_2 (extf .f32 co bitsLt_bf16_f32))))
    (mulf (shapeCast _ (concatenate S2048x64x64x2 3
        [⟨S2048x64x64x1, (broadcastInDim S2048x64x64x1 ![0, 1, 2] bcast_S2048x64x64_S2048x64x64x1_0_1_2
          (Host.negf (shapeCast _ (extractStridedSlice S2048x64x64x1 ![0, 0, 0, 1] (shapeCast _ T shapeCasts_S2048x64x128_S2048x64x64x2)
            slices_S2048x64x64x2_S2048x64x64x1_0_0_0_1) shapeCasts_S2048x64x64x1_S2048x64x64)))⟩,
         ⟨S2048x64x64x1, (broadcastInDim S2048x64x64x1 ![0, 1, 2] bcast_S2048x64x64_S2048x64x64x1_0_1_2
          (shapeCast _ (extractStridedSlice S2048x64x64x1 ![0, 0, 0, 0] (shapeCast _ T shapeCasts_S2048x64x128_S2048x64x64x2)
            slices_S2048x64x64x2_S2048x64x64x1_0_0_0_0) shapeCasts_S2048x64x64x1_S2048x64x64))⟩]
        concatenates_S2048x64x64x1_S2048x64x64x1_S2048x64x64x2_d3) shapeCasts_S2048x64x64x2_S2048x64x128)
      (broadcastInDim S2048x64x128 ![0, 1, 2] bcast_S2048x1x128_S2048x64x128_0_1_2
        (broadcastInDim S2048x1x128 ![0, 2] bcast_S2048x128_S2048x1x128_0_2 (extf .f32 si bitsLt_bf16_f32))))
/-- The scores of all heads. -/
def rScore (Q K : FVec Ideal S2048x64x128 .f32) : FVec Ideal S64x2048x2048 .f32 :=
  mulf (Host.dotGeneral dot_S2048x64x128_S2048x64x128_S64x2048x2048_2_2_0_0_1_1 none Q K)
    (broadcastInDim S64x2048x2048 ![] bcast_S_S64x2048x2048 (constant S_ .f32 0x3DB504F3#32))
/-- The exponentials of the scores, the largest of the row subtracted. -/
def rExp (S : FVec Ideal S64x2048x2048 .f32) : FVec Ideal S64x2048x2048 .f32 :=
  Host.exp (subf S (broadcastInDim S64x2048x2048 ![0, 1, 2] bcast_S64x2048x1_S64x2048x2048_0_1_2
    (broadcastInDim S64x2048x1 ![0, 1] bcast_S64x2048_S64x2048x1_0_1
      (Host.reduce FloatOps.maximumf S (constant S_ .f32 0xFF800000#32) reducesTo_S64x2048x2048_S64x2048_d2 h_S_))))
/-- The weights: each row divided by its sum. -/
def rWt (E : FVec Ideal S64x2048x2048 .f32) : FVec Ideal S64x2048x2048 .f32 :=
  Host.divf E (broadcastInDim S64x2048x2048 ![0, 1, 2] bcast_S64x2048x1_S64x2048x2048_0_1_2
    (broadcastInDim S64x2048x1 ![0, 1] bcast_S64x2048_S64x2048x1_0_1
      (Host.reduceAdd E (constant S_ .f32 0x00000000#32) reducesTo_S64x2048x2048_S64x2048_d2 h_S_)))
/-- The weighted sums of the values, the heads side by side. -/
def rCtx (V : FVec Ideal S2048x64x128 .f32) (W : FVec Ideal S64x2048x2048 .f32) : FVec Ideal S2048x8192 .f32 :=
  shapeCast _ (transpose S2048x64x128 [2, 0, 1] (Host.dotGeneral dot_S2048x64x128_S64x2048x2048_S64x128x2048_0_2_2_1_1_0 none V W)
    transposes_S64x128x2048_S2048x64x128_2_0_1) shapeCasts_S2048x64x128_S2048x8192
/-- The output projection. -/
def rOut (C : FVec Ideal S2048x8192 .f32) (Wo : FVec Ideal S8192x1024 .bf16) : FVec Ideal S2048x1024 .bf16 :=
  truncf .bf16 (Host.dotGeneral dot_S2048x8192_S8192x1024_S2048x1024_1_0_0_1_n_n none C (extf .f32 Wo bitsLt_bf16_f32)) bitsLt_bf16_f32

/-- The result. -/
def refOut (X : FVec Ideal S2048x1024 .bf16) (Wq Wk Wv : FVec Ideal S1024x8192 .bf16) (Wo : FVec Ideal S8192x1024 .bf16)
    (co si : FVec Ideal S2048x128 .bf16) : FVec Ideal S2048x1024 .bf16 :=
  rOut (rCtx (rProj X Wv) (rWt (rExp (rScore (rRot (rProj X Wq) co si) (rRot (rProj X Wk) co si))))) Wo

theorem res_eq (m : (ℓ : Loc nD τ sig) → Buf (Elt Ideal) ℓ) (c : Dev nD) :
    Value.res_main_v63 m c = refOut (m (c.tc.loc main_arg0)) (m (c.tc.loc main_arg1)) (m (c.tc.loc main_arg2)) (m (c.tc.loc main_arg3))
      (m (c.tc.loc main_arg4)) (m (c.tc.loc main_arg5)) (m (c.tc.loc main_arg6)) := rfl

/-! ## The steps at an index -/

theorem rProj_at (X : FVec Ideal S2048x1024 .bf16) (W : FVec Ideal S1024x8192 .bf16) (i : Fin 2048) (g : Fin 64) (d : Fin 128) :
    rProj X W (ix3 i g d) = ∑ k : Fin 1024, X (ix2 i k) * W (ix2 k ⟨g.val * 128 + d.val, by omega⟩) := by
  pointwise [rProj]

theorem rRot_at (T : FVec Ideal S2048x64x128 .f32) (co si : FVec Ideal S2048x128 .bf16) (i : Fin 2048) (g : Fin 64) (d : Fin 128) :
    rRot T co si (ix3 i g d) = T (ix3 i g d) * co (ix2 i d)
      + (if d.val % 2 = 0 then - T (ix3 i g ⟨(d.val + 1) % 128, by omega⟩) else T (ix3 i g ⟨d.val - 1, by omega⟩)) * si (ix2 i d) := by
  pointwise [rRot]
  by_cases hd : d.val % 2 = 0
  · have e : (⟨d.val / 2 * 2 + 1, by omega⟩ : Fin 128) = ⟨(d.val + 1) % 128, by omega⟩ := Fin.ext (by dsimp only; omega)
    have h1 : d.val % 2 < 1 := by omega
    rw [dif_pos h1, if_pos hd, e]
  · have e : (⟨d.val / 2 * 2, by omega⟩ : Fin 128) = ⟨d.val - 1, by omega⟩ := Fin.ext (by dsimp only; omega)
    have h1 : ¬ d.val % 2 < 1 := by omega
    rw [dif_neg h1, if_neg hd, e]

theorem rScore_at (Q K : FVec Ideal S2048x64x128 .f32) (g : Fin 64) (i j : Fin 2048) :
    rScore Q K (ix3 g i j) = (∑ d : Fin 128, Q (ix3 i g d) * K (ix3 j g d)) * Ideal.ofBits .f32 0x3DB504F3#32 := by
  pointwise [rScore]

theorem rExp_at (S : FVec Ideal S64x2048x2048 .f32) (g : Fin 64) (i j : Fin 2048) :
    rExp S (ix3 g i j) = Ideal.exp (S (ix3 g i j) - Finset.univ.fold max ⊥ fun k : Fin 2048 => S (ix3 g i k)) := by
  have hbot : Ideal.ofBits .f32 0xFF800000#32 = (⊥ : EReal) := by simp [Ideal.ofBits, Ideal.ieee]
  pointwise [rExp]
  rw [hbot]

theorem rWt_at (E : FVec Ideal S64x2048x2048 .f32) (g : Fin 64) (i j : Fin 2048) :
    rWt E (ix3 g i j) = Ideal.div (E (ix3 g i j)) (∑ k : Fin 2048, E (ix3 g i k)) := by
  pointwise [rWt]

theorem rCtx_at (V : FVec Ideal S2048x64x128 .f32) (W : FVec Ideal S64x2048x2048 .f32) (i : Fin 2048) (n : Fin 8192) :
    rCtx V W (ix2 i n) = ∑ j : Fin 2048, V (ix3 j ⟨n.val / 128, by omega⟩ ⟨n.val % 128, by omega⟩) * W (ix3 ⟨n.val / 128, by omega⟩ i j) := by
  pointwise [rCtx]

theorem rOut_at (C : FVec Ideal S2048x8192 .f32) (Wo : FVec Ideal S8192x1024 .bf16) (i : Fin 2048) (n : Fin 1024) :
    rOut C Wo (ix2 i n) = ∑ k : Fin 8192, C (ix2 i k) * Wo (ix2 k n) := by
  pointwise [rOut]

end Cert.AttnRef

end
-- ==== Proof.Pre.lean ====
/-
What the precondition says of one device's arrays: five of them hold reals only, and `pm` is the rotation.
-/
module

public import proofs.«01_k».proof.Proof.Gen.Pre_finite_and_rotation_KernelIdeal
public import Idealize.ShloMosaic.Lib.Pointwise
public import Idealize.ShloMosaic.Lib.Affine

@[expose] public section

set_option maxRecDepth 16384

noncomputable section

namespace Cert.AttnPre

open Cert.Pre_finite_and_rotation_KernelIdeal Cert.Pre_finite_and_rotation_KernelIdeal.Gen
open Idealize.ShloMosaic Idealize.ShloMosaic.TcCoe Idealize.SL.Sem

/-- An extended real that is a real. -/
def Fin? (a : EReal) : Prop := ∃ r : ℝ, a = r

/-- The entry of the rotation at row `r` and column `c`. -/
def rotEntry (r c : Fin 128) : EReal :=
  if r.val = c.val + 1 ∧ r.val % 2 = 1 then -1 else if c.val = r.val + 1 ∧ c.val % 2 = 1 then 1 else 0

theorem andi_eq_one' (a b : BitVec 1) : IntOp.andi a b = 1#1 ↔ a = 1#1 ∧ b = 1#1 := by revert a b; decide
theorem fold_andi {ι : Type} [DecidableEq ι] (s : Finset ι) (f : ι → BitVec 1) : s.fold IntOp.andi 1#1 f = 1#1 → ∀ k ∈ s, f k = 1#1 := by
  induction s using Finset.induction_on with
  | empty => intro _ k hk; exact absurd hk (Finset.notMem_empty k)
  | insert a s ha ih =>
    intro h k hk
    rw [Finset.fold_insert ha, andi_eq_one'] at h
    rcases Finset.mem_insert.1 hk with rfl | hk
    · exact h.1
    · exact ih h.2 k hk
theorem univ_andi {ι : Type} {inst : Fintype ι} (f : ι → BitVec 1) (h : (@Finset.univ ι inst).fold IntOp.andi 1#1 f = 1#1) (k : ι) : f k = 1#1 := by
  classical
  exact fold_andi _ f h k (@Finset.mem_univ ι inst k)
theorem ofBool_decide {p : Prop} [Decidable p] (h : BitVec.ofBool (decide p) = 1#1) : p := by
  by_cases hp : p
  · exact hp
  · rw [decide_eq_false hp] at h; exact absurd h (by decide)

theorem select_ofBool {α : Type} {p : Prop} [Decidable p] (a b : α) : Scalar.select (BitVec.ofBool (decide p)) a b = if p then a else b := by
  unfold Scalar.select
  by_cases hp : p
  · rw [decide_eq_true hp, if_pos hp]; rfl
  · rw [decide_eq_false hp, if_neg hp]; rfl

theorem real_of_abs {a : EReal} (h : FloatOps.absf (F := Ideal) (φ := .bf16) a < Ideal.ofBits .bf16 32640#16) : Fin? a := by
  have htop : Ideal.ofBits .bf16 32640#16 = ⊤ := by simp [Ideal.ofBits, Ideal.ieee]
  rw [htop, Ideal.absf_def] at h
  induction a with
  | bot => exact absurd h (by simp)
  | top => exact absurd h (by simp)
  | coe r => exact ⟨r, rfl⟩

/-- The condition that the precondition states in words, for each of the two diagonals. -/
theorem cond_word (r c : Fin 128) :
    IntOp.andi (IntOp.cmpi CmpIPredicate.eq (BitVec.ofNat 32 r.val) (IntOp.addi (BitVec.ofNat 32 c.val) 1#32))
      (IntOp.cmpi CmpIPredicate.eq (IntOp.remsi ArithUnit.host (BitVec.ofNat 32 r.val) 2#32) 1#32)
    = BitVec.ofBool (decide (r.val = c.val + 1 ∧ r.val % 2 = 1)) := by
  revert r c; decide +kernel

theorem neg_one_f32 : Ideal.ofBits .f32 3212836864#32 = -1 := by
  rw [show (-1 : EReal) = ((-1 : ℝ) : EReal) from rfl]
  simp [Ideal.ofBits, Ideal.ieee, -EReal.coe_mul, -EReal.coe_neg]
  norm_num

/-- The facts. -/
structure Good (x : FVec Ideal S2048x1024 .bf16) (wq wk : FVec Ideal S1024x1024 .bf16) (co si : FVec Ideal S2048x128 .bf16)
    (pm : FVec Ideal S128x128 .bf16) : Prop where
  x : ∀ (i : Fin 2048) (k : Fin 1024), Fin? (x (ix2 i k))
  wq : ∀ (i : Fin 1024) (k : Fin 1024), Fin? (wq (ix2 i k))
  wk : ∀ (i : Fin 1024) (k : Fin 1024), Fin? (wk (ix2 i k))
  co : ∀ (i : Fin 2048) (k : Fin 128), Fin? (co (ix2 i k))
  si : ∀ (i : Fin 2048) (k : Fin 128), Fin? (si (ix2 i k))
  pm : ∀ (r : Fin 128) (c : Fin 128), pm (ix2 r c) = rotEntry r c

theorem good (x : FVec Ideal S2048x1024 .bf16) (wq wk wv wo : FVec Ideal S1024x1024 .bf16) (co si : FVec Ideal S2048x128 .bf16)
    (pm : FVec Ideal S128x128 .bf16)
    (h : @fn Cert.Pre_finite_and_rotation_KernelIdeal.Gen.facts Ideal _ x wq wk wv wo co si pm = fun _ => 1#1) : Good x wq wk co si pm := by
  have h := congrFun h (Shape.Idx.first Cert.Pre_finite_and_rotation_KernelIdeal.Gen.facts.h_S_)
  unfold fn fn_part1 fn_part2 fn_where fn_where_0 at h
  pointwise at h
  simp only [andi_eq_one'] at h
  obtain ⟨⟨⟨⟨⟨hp, hx⟩, hq⟩, hk⟩, hc⟩, hs⟩ := h
  refine ⟨fun i k => ?_, fun i k => ?_, fun i k => ?_, fun i k => ?_, fun i k => ?_, fun r c => ?_⟩
  · have h' := univ_andi _ hx (i, k)
    dsimp only at h'
    exact real_of_abs (ofBool_decide h')
  · have h' := univ_andi _ hq (i, k)
    dsimp only at h'
    exact real_of_abs (ofBool_decide h')
  · have h' := univ_andi _ hk (i, k)
    dsimp only at h'
    exact real_of_abs (ofBool_decide h')
  · have h' := univ_andi _ hc (i, k)
    dsimp only at h'
    exact real_of_abs (ofBool_decide h')
  · have h' := univ_andi _ hs (i, k)
    dsimp only at h'
    exact real_of_abs (ofBool_decide h')
  · have := ofBool_decide (univ_andi _ hp (r, c))
    rw [this, cond_word, cond_word, neg_one_f32]
    unfold rotEntry
    rw [select_ofBool, select_ofBool]

end Cert.AttnPre
end
-- ==== Proof.Soft.lean ====
/-
The scalar mathematics of a row of attention: the weights do not change when the largest score is subtracted first, and the
division by their sum may come before or after the weighted sum.
-/
module

public import Idealize.ShloMosaic.Lib.Pointwise

@[expose] public section

noncomputable section

namespace Cert.Soft

open Idealize.ShloMosaic

theorem coe_sum {ι : Type} [DecidableEq ι] (s : Finset ι) (f : ι → ℝ) : ∑ k ∈ s, ((f k : ℝ) : EReal) = ((∑ k ∈ s, f k : ℝ) : EReal) := by
  induction s using Finset.induction_on with
  | empty => rfl
  | insert a s ha ih => rw [Finset.sum_insert ha, Finset.sum_insert ha, ih, EReal.coe_add]

/-- A nonnegative real factor goes into a sum of extended reals. -/
theorem mul_sum {ι : Type} [DecidableEq ι] (s : Finset ι) (f : ι → EReal) (r : ℝ) (hr : 0 ≤ r) :
    (r : EReal) * ∑ k ∈ s, f k = ∑ k ∈ s, (r : EReal) * f k := by
  induction s using Finset.induction_on with
  | empty => rw [Finset.sum_empty, Finset.sum_empty, mul_zero]
  | insert a s ha ih =>
    rw [Finset.sum_insert ha, Finset.sum_insert ha, ← ih,
      EReal.left_distrib_of_nonneg_of_ne_top (EReal.coe_nonneg.2 hr) (EReal.coe_ne_top r)]

theorem fold_max_real {ι : Type} [DecidableEq ι] (s : Finset ι) (f : ι → ℝ) (hs : s.Nonempty) :
    ∃ M : ℝ, s.fold max (⊥ : EReal) (fun k => ((f k : ℝ) : EReal)) = M := by
  induction hs using Finset.Nonempty.cons_induction with
  | singleton a => exact ⟨f a, by rw [Finset.fold_singleton]; exact max_bot_right _⟩
  | cons a s ha hs ih =>
    obtain ⟨M, hM⟩ := ih
    refine ⟨max (f a) M, ?_⟩
    rw [Finset.fold_cons, hM]
    exact (EReal.coe_strictMono.monotone.map_max).symm

/-- A row of attention both ways. -/
theorem softmax {ι : Type} [DecidableEq ι] [Fintype ι] [Nonempty ι] (S : ι → ℝ) (V : ι → EReal) :
    Ideal.div (∑ k, Ideal.exp (S k : EReal) * V k) (∑ k, Ideal.exp (S k : EReal))
      = ∑ k, V k * Ideal.div (Ideal.exp ((S k : EReal) - Finset.univ.fold max ⊥ fun k => (S k : EReal)))
          (∑ l, Ideal.exp ((S l : EReal) - Finset.univ.fold max ⊥ fun k => (S k : EReal))) := by
  obtain ⟨M, hM⟩ := fold_max_real Finset.univ S Finset.univ_nonempty
  rw [hM]
  have hsub (k : ι) : Ideal.exp ((S k : EReal) - (M : EReal)) = ((Real.exp (S k - M) : ℝ) : EReal) := by
    rw [← EReal.coe_sub, Ideal.exp_coe]
  simp only [hsub, Ideal.exp_coe, coe_sum]
  have hD : 0 < ∑ k, Real.exp (S k) := Finset.sum_pos (fun k _ => Real.exp_pos _) Finset.univ_nonempty
  have hD' : 0 < ∑ k, Real.exp (S k - M) := Finset.sum_pos (fun k _ => Real.exp_pos _) Finset.univ_nonempty
  have hDD : ∑ k, Real.exp (S k - M) = (∑ k, Real.exp (S k)) / Real.exp M := by
    rw [Finset.sum_div]; exact Finset.sum_congr rfl fun k _ => Real.exp_sub _ _
  rw [Ideal.div_coe hD.ne', mul_comm, mul_sum _ _ _ (by positivity)]
  refine Finset.sum_congr rfl fun k _ => ?_
  rw [Ideal.div_coe hD'.ne', ← mul_assoc, ← EReal.coe_mul, ← EReal.coe_mul, mul_comm]
  congr 2
  rw [hDD, Real.exp_sub]
  have := Real.exp_pos M
  field_simp

end Cert.Soft
end
-- ==== Proof.Value.lean ====
/-
The kernel's result over the extended reals is the reference's: the devices' columns of the projections are the
reference's heads, the product with `pm` is the rotation of pairs, a row of attention is the same with and without its
largest score subtracted, and the sum over the devices of the products with their rows of the output matrix is the
product with the whole matrix.
-/
module

public import proofs.«01_k».proof.Proof.KerTerm
public import proofs.«01_k».proof.Proof.RefTerm
public import proofs.«01_k».proof.Proof.Pre
public import proofs.«01_k».proof.Proof.Soft
public import Idealize.ShloMosaic.Lib.Layout

@[expose] public section

set_option maxRecDepth 16384

noncomputable section

namespace Cert.Attn

open Cert.KernelIdeal Cert.KernelIdeal.Gen
open Idealize.ShloMosaic Idealize.ShloMosaic.TcCoe Idealize.SL.Sem
open Cert.AttnPre (Fin? rotEntry Good)
open Cert.AttnRef (rProj rRot rScore rExp rWt rCtx rOut refOut)

/-! ## Reals among the extended reals -/

theorem fin_add {a b : EReal} : Fin? a → Fin? b → Fin? (a + b) := fun ⟨x, hx⟩ ⟨y, hy⟩ => ⟨x + y, by rw [hx, hy, EReal.coe_add]⟩
theorem fin_mul {a b : EReal} : Fin? a → Fin? b → Fin? (a * b) := fun ⟨x, hx⟩ ⟨y, hy⟩ => ⟨x * y, by rw [hx, hy, EReal.coe_mul]⟩
theorem fin_neg {a : EReal} : Fin? a → Fin? (-a) := fun ⟨x, hx⟩ => ⟨-x, by rw [hx, EReal.coe_neg]⟩
theorem fin_sum {ι : Type} [DecidableEq ι] [Fintype ι] {f : ι → EReal} (h : ∀ i, Fin? (f i)) : Fin? (∑ i, f i) := by
  choose g hg using h
  exact ⟨∑ i, g i, by rw [← Cert.Soft.coe_sum]; exact Finset.sum_congr rfl fun i _ => hg i⟩
theorem scale_fin : Fin? (Ideal.ofBits .f32 0x3DB504F3#32) := by
  simp [Ideal.ofBits, Ideal.ieee, Fin?, -EReal.coe_mul]

/-- The scale taken into one factor of a product of reals, or outside. -/
theorem scale_out {n : ℕ} (q k : Fin n → EReal) (s : EReal) (hq : ∀ e, Fin? (q e)) (hk : ∀ e, Fin? (k e)) (hs : Fin? s) :
    ∑ e, (q e * s) * k e = (∑ e, q e * k e) * s := by
  choose q' hq using hq
  choose k' hk using hk
  obtain ⟨s', rfl⟩ := hs
  simp only [hq, hk, ← EReal.coe_mul, Cert.Soft.coe_sum]
  rw [Finset.sum_mul]
  refine congrArg _ (Finset.sum_congr rfl fun e _ => ?_)
  ring

/-! ## The rotation -/

theorem rot_sum (pm : FVec Ideal S128x128 .bf16) (hpm : ∀ r c : Fin 128, pm (ix2 r c) = rotEntry r c) (a : Fin 128 → EReal) (d : Fin 128) :
    ∑ e : Fin 128, a e * pm (ix2 e d) = if d.val % 2 = 0 then - a ⟨(d.val + 1) % 128, by omega⟩ else a ⟨d.val - 1, by omega⟩ := by
  simp only [hpm]
  have hd' := d.isLt
  by_cases hd : d.val % 2 = 0
  · rw [if_pos hd, Finset.sum_eq_single (⟨(d.val + 1) % 128, by omega⟩ : Fin 128)]
    · unfold rotEntry
      rw [if_pos ⟨by dsimp only; omega, by dsimp only; omega⟩, mul_neg, mul_one]
    · intro e _ he
      have he' : e.val ≠ (d.val + 1) % 128 := fun h => he (Fin.ext h)
      have := e.isLt
      unfold rotEntry
      rw [if_neg (by omega), if_neg (by omega), mul_zero]
    · intro h; exact absurd (Finset.mem_univ _) h
  · rw [if_neg hd, Finset.sum_eq_single (⟨d.val - 1, by omega⟩ : Fin 128)]
    · unfold rotEntry
      rw [if_neg (by dsimp only; omega), if_pos ⟨by dsimp only; omega, by omega⟩, mul_one]
    · intro e _ he
      have he' : e.val ≠ d.val - 1 := fun h => he (Fin.ext h)
      unfold rotEntry
      rw [if_neg (by omega), if_neg (by omega), mul_zero]
    · intro h; exact absurd (Finset.mem_univ _) h

theorem rotated (pm : FVec Ideal S128x128 .bf16) (hpm : ∀ r c : Fin 128, pm (ix2 r c) = rotEntry r c)
    (a : FVec Ideal S2048x128 .bf16) (T : FVec Ideal Cert.ReferenceIdeal.S2048x64x128 .f32) (co si : FVec Ideal S2048x128 .bf16)
    (i : Fin 2048) (g : Fin 64) (h : ∀ e : Fin 128, a (ix2 i e) = T (ix3 i g e)) (d : Fin 128) :
    a (ix2 i d) * co (ix2 i d) + (∑ e : Fin 128, a (ix2 i e) * pm (ix2 e d)) * si (ix2 i d) = rRot T co si (ix3 i g d) := by
  refine Eq.trans ?_ (Cert.AttnRef.rRot_at T co si i g d).symm
  rw [rot_sum pm hpm (fun e => a (ix2 i e)) d]
  simp only [h]

theorem rRot_fin (T : FVec Ideal Cert.ReferenceIdeal.S2048x64x128 .f32) (co si : FVec Ideal S2048x128 .bf16)
    (hT : ∀ i g d, Fin? (T (ix3 i g d))) (hc : ∀ (i : Fin 2048) (k : Fin 128), Fin? (co (ix2 i k)))
    (hs : ∀ (i : Fin 2048) (k : Fin 128), Fin? (si (ix2 i k))) (i : Fin 2048) (g : Fin 64) (d : Fin 128) :
    Fin? (rRot T co si (ix3 i g d)) := by
  rw [Cert.AttnRef.rRot_at]
  refine fin_add (fin_mul (hT _ _ _) (hc _ _)) (fin_mul ?_ (hs _ _))
  split
  · exact fin_neg (hT _ _ _)
  · exact hT _ _ _

/-! ## The devices' inputs as parts of the whole arrays -/

structure Parts (J : Fin 8 → Ins Ideal) (X : FVec Ideal S2048x1024 .bf16) (WQ WK WV : FVec Ideal Cert.ReferenceIdeal.S1024x8192 .bf16)
    (WO : FVec Ideal Cert.ReferenceIdeal.S8192x1024 .bf16) (co si : FVec Ideal S2048x128 .bf16) : Prop where
  x : ∀ c, (J c).x = X
  wq : ∀ (c : Fin 8) (k n : Fin 1024), (J c).wq (ix2 k n) = WQ (ix2 k ⟨c.val * 1024 + n.val, by omega⟩)
  wk : ∀ (c : Fin 8) (k n : Fin 1024), (J c).wk (ix2 k n) = WK (ix2 k ⟨c.val * 1024 + n.val, by omega⟩)
  wv : ∀ (c : Fin 8) (k n : Fin 1024), (J c).wv (ix2 k n) = WV (ix2 k ⟨c.val * 1024 + n.val, by omega⟩)
  wo : ∀ (c : Fin 8) (k n : Fin 1024), (J c).wo (ix2 k n) = WO (ix2 ⟨c.val * 1024 + k.val, by omega⟩ n)
  co : ∀ c, (J c).co = co
  si : ∀ c, (J c).si = si
  good : ∀ c, Good (J c).x (J c).wq (J c).wk (J c).co (J c).si (J c).pm

/-- Head `h` of device `c` among all heads. -/
abbrev hd (c h : Fin 8) : Fin 64 := ⟨c.val * 8 + h.val, by omega⟩

theorem proj_rProj (x : FVec Ideal S2048x1024 .bf16) (w : FVec Ideal S1024x1024 .bf16) (W : FVec Ideal Cert.ReferenceIdeal.S1024x8192 .bf16)
    (c : Fin 8) (hw : ∀ k n : Fin 1024, w (ix2 k n) = W (ix2 k ⟨c.val * 1024 + n.val, by omega⟩)) (h : Fin 8) (i : Fin 2048) (d : Fin 128) :
    proj (F := Ideal) x w (ix2 i ⟨128 * h.val + d.val, by omega⟩) = rProj x W (ix3 i (hd c h) d) := by
  refine (proj_at x w i _).trans (Eq.trans ?_ (Cert.AttnRef.rProj_at x W i (hd c h) d).symm)
  refine Finset.sum_congr rfl fun k _ => congrArg (x (ix2 i k) * ·) ((hw k _).trans (congrArg W (ext2 rfl ?_)))
  show c.val * 1024 + (128 * h.val + d.val) = (c.val * 8 + h.val) * 128 + d.val
  omega

theorem whole_fin (J : Fin 8 → FVec Ideal S1024x1024 .bf16) (W : FVec Ideal Cert.ReferenceIdeal.S1024x8192 .bf16)
    (hw : ∀ (c : Fin 8) (k n : Fin 1024), J c (ix2 k n) = W (ix2 k ⟨c.val * 1024 + n.val, by omega⟩))
    (hf : ∀ (c : Fin 8) (k n : Fin 1024), Fin? (J c (ix2 k n))) (k : Fin 1024) (n : Fin 8192) : Fin? (W (ix2 k n)) := by
  have h := hf ⟨n.val / 1024, by omega⟩ k ⟨n.val % 1024, by omega⟩
  rw [hw] at h
  have e : (⟨n.val / 1024 * 1024 + n.val % 1024, by omega⟩ : Fin 8192) = n := Fin.ext (by dsimp only; omega)
  exact (congrArg (fun j => Fin? (W (ix2 k j))) e).mp h

theorem rProj_fin (X : FVec Ideal S2048x1024 .bf16) (W : FVec Ideal Cert.ReferenceIdeal.S1024x8192 .bf16)
    (hX : ∀ (i : Fin 2048) (k : Fin 1024), Fin? (X (ix2 i k))) (hW : ∀ (k : Fin 1024) (n : Fin 8192), Fin? (W (ix2 k n)))
    (i : Fin 2048) (g : Fin 64) (d : Fin 128) : Fin? (rProj X W (ix3 i g d)) := by
  rw [Cert.AttnRef.rProj_at]
  exact fin_sum fun k => fin_mul (hX _ _) (hW _ _)

theorem rCtx_head (V : FVec Ideal Cert.ReferenceIdeal.S2048x64x128 .f32) (W : FVec Ideal Cert.ReferenceIdeal.S64x2048x2048 .f32)
    (i : Fin 2048) (n : Fin 8192) (g : Fin 64) (d : Fin 128) (hn : n.val = g.val * 128 + d.val) :
    rCtx V W (ix2 i n) = ∑ j : Fin 2048, V (ix3 j g d) * W (ix3 g i j) := by
  rw [Cert.AttnRef.rCtx_at]
  have e1 : (⟨n.val / 128, by omega⟩ : Fin 64) = g := Fin.ext (by dsimp only; omega)
  have e2 : (⟨n.val % 128, by omega⟩ : Fin 128) = d := Fin.ext (by dsimp only; omega)
  rw [e1, e2]

/-! ## The equation -/

section Equation
variable {J : Fin 8 → Ins Ideal} {X : FVec Ideal S2048x1024 .bf16} {WQ WK WV : FVec Ideal Cert.ReferenceIdeal.S1024x8192 .bf16}
  {WO : FVec Ideal Cert.ReferenceIdeal.S8192x1024 .bf16} {co si : FVec Ideal S2048x128 .bf16} (H : Parts J X WQ WK WV WO co si)
include H

theorem keyRot_ref (c h : Fin 8) (i : Fin 2048) (d : Fin 128) :
    keyRot (J c) h (ix2 i d) = rRot (rProj X WK) co si (ix3 i (hd c h) d) := by
  rw [← H.x c, ← H.co c, ← H.si c]
  refine (pay13_at _ _ _ _ i d).trans (rotated _ (H.good c).pm _ _ _ _ i (hd c h) (fun e => ?_) d)
  exact proj_rProj _ _ WK c (H.wk c) h i e
theorem qRot_ref (c h : Fin 8) (i : Fin 2048) (d : Fin 128) :
    qRot (J c) h (ix2 i d) = rRot (rProj X WQ) co si (ix3 i (hd c h) d) * Ideal.ofBits .f32 0x3DB504F3#32 := by
  rw [← H.x c, ← H.co c, ← H.si c]
  refine (pay32_at _ _ _ _ i d).trans (congrArg (· * Ideal.ofBits .f32 0x3DB504F3#32) (rotated _ (H.good c).pm _ _ _ _ i (hd c h) (fun e => ?_) d))
  exact proj_rProj _ _ WQ c (H.wq c) h i e

theorem x_fin (i : Fin 2048) (k : Fin 1024) : Fin? (X (ix2 i k)) := by rw [← H.x 0]; exact (H.good 0).x i k
theorem co_fin (i : Fin 2048) (k : Fin 128) : Fin? (co (ix2 i k)) := by rw [← H.co 0]; exact (H.good 0).co i k
theorem si_fin (i : Fin 2048) (k : Fin 128) : Fin? (si (ix2 i k)) := by rw [← H.si 0]; exact (H.good 0).si i k
theorem q_fin (i : Fin 2048) (g : Fin 64) (d : Fin 128) : Fin? (rRot (rProj X WQ) co si (ix3 i g d)) :=
  rRot_fin _ _ _ (rProj_fin X WQ (x_fin H) (whole_fin _ WQ H.wq fun c => (H.good c).wq)) (co_fin H) (si_fin H) i g d
theorem k_fin (i : Fin 2048) (g : Fin 64) (d : Fin 128) : Fin? (rRot (rProj X WK) co si (ix3 i g d)) :=
  rRot_fin _ _ _ (rProj_fin X WK (x_fin H) (whole_fin _ WK H.wk fun c => (H.good c).wk)) (co_fin H) (si_fin H) i g d

theorem score_ref (c h : Fin 8) (i j : Fin 2048) :
    ∑ e : Fin 128, qRot (J c) h (ix2 i e) * keyRot (J c) h (ix2 j e)
      = rScore (rRot (rProj X WQ) co si) (rRot (rProj X WK) co si) (ix3 (hd c h) i j) := by
  rw [Cert.AttnRef.rScore_at, ← scale_out _ _ _ (fun e => q_fin H i (hd c h) e) (fun e => k_fin H j (hd c h) e) scale_fin]
  exact Finset.sum_congr rfl fun e _ => congrArg₂ (· * ·) (qRot_ref H c h i e) (keyRot_ref H c h j e)
theorem score_fin (g : Fin 64) (i j : Fin 2048) : Fin? (rScore (rRot (rProj X WQ) co si) (rRot (rProj X WK) co si) (ix3 g i j)) := by
  rw [Cert.AttnRef.rScore_at]
  exact fin_mul (fin_sum fun e => fin_mul (q_fin H _ _ _) (k_fin H _ _ _)) scale_fin

/-- A head's rows of attention are the reference's. -/
theorem ctx_ref (e h : Fin 8) (c : Fin 8) (r : Fin 256) (d : Fin 128) (n : Fin 8192) (hn : n.val = (e.val * 8 + h.val) * 128 + d.val) :
    ctxHead (J e) c h (ix2 r d)
      = rCtx (rProj X WV) (rWt (rExp (rScore (rRot (rProj X WQ) co si) (rRot (rProj X WK) co si)))) (ix2 ⟨256 * c.val + r.val, by omega⟩ n) := by
  rw [ctxHead_at, rCtx_head _ _ _ n (hd e h) d hn]
  generalize hi : (⟨256 * c.val + r.val, by omega⟩ : Fin 2048) = i
  have hv (j : Fin 2048) : proj (F := Ideal) (J e).x (J e).wv (ix2 j ⟨128 * h.val + d.val, by omega⟩) = rProj X WV (ix3 j (hd e h) d) := by
    rw [← H.x e]; exact proj_rProj _ _ WV e (H.wv e) h j d
  choose S hS using fun j => score_fin H (hd e h) i j
  simp only [score_ref H, hv, Cert.AttnRef.rWt_at, Cert.AttnRef.rExp_at, hS]
  exact Cert.Soft.softmax S _

/-- The result at one row and column. -/
theorem out_ref (i : Fin 2048) (n : Fin 1024) : outFin (F := Ideal) J (ix2 i n) = refOut X WQ WK WV WO co si (ix2 i n) := by
  unfold refOut
  refine Eq.trans ?_ (Cert.AttnRef.rOut_at _ WO i n).symm
  rw [Fin.sum_univ_tiles 8 1024 rfl]
  refine (acc_all J (prv (⟨i.val / 256, by omega⟩ : Fin 8)) ⟨i.val % 256, by omega⟩ n).trans (Finset.sum_congr rfl fun e _ => ?_)
  have hc : cid (prv (⟨i.val / 256, by omega⟩ : Fin 8)) 7 = ⟨i.val / 256, by omega⟩ := by
    rw [cid_succ]
    refine Fin.ext ?_
    show (i.val / 256 + 8 - (7 + 1) % 8) % 8 = i.val / 256
    omega
  rw [hc, part_at]
  refine Finset.sum_congr rfl fun k _ => congrArg₂ (· * ·) ?_ (H.wo e k n)
  refine (ctx_ref H e _ _ _ _ ⟨e.val * 1024 + k.val, by omega⟩ ?_).trans (congrArg _ (ext2 ?_ rfl))
  · show e.val * 1024 + k.val = (e.val * 8 + k.val / 128) * 128 + k.val % 128
    omega
  · show 256 * (i.val / 256) + i.val % 256 = i.val
    omega

theorem outFin_ref : outFin (F := Ideal) J = refOut X WQ WK WV WO co si := by
  funext i
  have e : i = (ix2 (i 0) (i 1) : S2048x1024.Idx) := ext2 rfl rfl
  rw [e]
  exact out_ref H (i 0) (i 1)
end Equation

end Cert.Attn

end
-- ==== Proof.Algebraic.lean ====
/-
The value claim: every device's result over the extended reals is the reference's.
-/
module

public import proofs.«01_k».proof.Defs
public import proofs.«01_k».proof.Proof.Value
public import proofs.«01_k».proof.Proof.FramesAll
public import proofs.«01_k».proof.Proof.Gen.Pre_finite_and_rotation_ReferenceIdeal
public import Idealize.ShloMosaic.Lib.Claim

@[expose] public section

set_option maxRecDepth 16384

noncomputable section

namespace Cert.Attn

open Cert.KernelIdeal Cert.KernelIdeal.Gen
open Idealize.ShloMosaic Idealize.ShloMosaic.TcCoe Idealize.SL.Sem

/-! ## The frames under the precondition -/

theorem frame_ideal_pre : Cert.quiescent_KernelIdeal_pre_finite_and_rotation_KernelIdeal (hKernelIdeal := Cert.KernelIdeal.Gen.facts)
    (hPre_finite_and_rotation_KernelIdeal := Cert.Pre_finite_and_rotation_KernelIdeal.Gen.facts) := fun m ρ _ =>
  (θ_run Cert.KernelIdeal.defs _ _).mono (fun _ h => h.1) (run_main (F := Ideal) m ρ)
theorem frame_reference_pre : Cert.quiescent_ReferenceIdeal_pre_finite_and_rotation_ReferenceIdeal
    (hReferenceIdeal := Cert.ReferenceIdeal.Gen.facts)
    (hPre_finite_and_rotation_ReferenceIdeal := Cert.Pre_finite_and_rotation_ReferenceIdeal.Gen.facts) := fun m ρ _ => by
  hlo_run
  · simp
  · exact Idealize.ShloMosaic.sem_eq_zero_of_no_sems (sig := Cert.ReferenceIdeal.sig) (by decide) _

/-! ## The value -/

theorem block_cols (c : Fin 8) (W : FVec Ideal Cert.ReferenceIdeal.S1024x8192 .bf16) (k n : Fin 1024) :
    Layout.block ⟨2, ![1024, 1024]⟩ ⟨2, ![1024, 8192]⟩ 1 8 c W (by decide) (ix2 k n) = W (ix2 k ⟨c.val * 1024 + n.val, by omega⟩) :=
  congrArg W (ext2 rfl rfl)
theorem block_rows (c : Fin 8) (W : FVec Ideal Cert.ReferenceIdeal.S8192x1024 .bf16) (k n : Fin 1024) :
    Layout.block ⟨2, ![1024, 1024]⟩ ⟨2, ![8192, 1024]⟩ 0 8 c W (by decide) (ix2 k n) = W (ix2 ⟨c.val * 1024 + k.val, by omega⟩ n) :=
  congrArg W (ext2 rfl rfl)

theorem algebraic : Cert.algebraic_KernelIdeal_ReferenceIdeal_pre_finite_and_rotation_KernelIdeal (hKernelIdeal := Cert.KernelIdeal.Gen.facts)
    (hReferenceIdeal := Cert.ReferenceIdeal.Gen.facts)
    (hPre_finite_and_rotation_KernelIdeal := Cert.Pre_finite_and_rotation_KernelIdeal.Gen.facts) := by
  intro m g m' g' hpre hagree
  have H : Parts (ins m) (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4))
      (m' (((0 : Dev Cert.ReferenceIdeal.nD).tc : Thread Cert.ReferenceIdeal.nD Cert.ReferenceIdeal.τ).loc Cert.ReferenceIdeal.main_arg5))
      (m' (((0 : Dev Cert.ReferenceIdeal.nD).tc : Thread Cert.ReferenceIdeal.nD Cert.ReferenceIdeal.τ).loc Cert.ReferenceIdeal.main_arg6)) := by
    refine ⟨fun c => ?_, fun c k n => ?_, fun c k n => ?_, fun c k n => ?_, fun c k n => ?_, fun c => ?_, fun c => ?_, fun c => ?_⟩
    · exact (ins_x m c).trans (hagree c).1
    · exact (congrFun ((ins_wq m c).trans (hagree c).2.1) (ix2 k n)).trans (block_cols c _ k n)
    · exact (congrFun ((ins_wk m c).trans (hagree c).2.2.1) (ix2 k n)).trans (block_cols c _ k n)
    · exact (congrFun ((ins_wv m c).trans (hagree c).2.2.2.1) (ix2 k n)).trans (block_cols c _ k n)
    · exact (congrFun ((ins_wo m c).trans (hagree c).2.2.2.2.1) (ix2 k n)).trans (block_rows c _ k n)
    · exact (ins_co m c).trans (hagree c).2.2.2.2.2.1
    · exact (ins_si m c).trans (hagree c).2.2.2.2.2.2.1
    · rw [ins_x, ins_wq, ins_wk, ins_co, ins_si, ins_pm]
      exact Cert.AttnPre.good _ _ _ _ _ _ _ _ (hpre c)
  refine ⟨_, ?_, (θ_run Cert.ReferenceIdeal.defs _ _).mono (fun r h => h 0) (Cert.ReferenceIdeal.Value.run m' g')⟩
  refine (θ_run Cert.KernelIdeal.defs _ _).mono (fun r h c => ⟨?_, h.1.1 c⟩) (run_main (F := Ideal) m g)
  exact (h.2 c).trans ((outFin_ref H).trans (Cert.AttnRef.res_eq m' 0).symm)

end Cert.Attn

end
-- ==== Proof.lean ====
/-
The claim: the frames of the three programs, the kernel over the extended reals being the kernel, and its results
being the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_and_rotation_KernelIdeal
public import proofs.«01_k».proof.Proof.Gen.Pre_finite_and_rotation_ReferenceIdeal
public import proofs.«01_k».proof.Proof.Gen.ReferenceIdeal.Run
public import proofs.«01_k».proof.Proof.FramesAll
public import proofs.«01_k».proof.Proof.Algebraic

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Pre_finite_and_rotation_KernelIdeal.Gen.facts, Cert.Pre_finite_and_rotation_ReferenceIdeal.Gen.facts,
    Cert.Attn.frame_kernel, Cert.Attn.frame_ideal, Cert.Attn.frame_ideal_pre, Cert.Attn.frame_reference, Cert.Attn.frame_reference_pre,
    trivial, Cert.Attn.algebraic⟩

end Cert.Proof

end
